-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨4, ![4, 256, 16, 64]⟩ ⟨4, ![4, 8192, 16, 64]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![4, 256, 16, 64]⟩ ⟨4, ![4, 8192, 16, 64]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![4, 256, 16, 64]⟩ ⟨4, ![4, 8192, 16, 64]⟩ 1 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.block ⟨4, ![4, 256, 16, 64]⟩ ⟨4, ![4, 8192, 16, 64]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4x256x16x64 : Shape := ⟨4, ![4, 256, 16, 64]⟩
abbrev S_ : Shape := ⟨0, ![]⟩

class Facts : Prop where
  bcast_S_S4x256x16x64 : S_.BroadcastsInDim S4x256x16x64 (![] : Fin 0 → Fin S4x256x16x64.rank)

variable [Facts]

def fn {F : FTy → Type} [FloatOps F] (main_arg0 : FVec F S4x256x16x64 .f32) (main_arg1 : FVec F S4x256x16x64 .f32) (main_arg2 : FVec F S4x256x16x64 .f32) : IVec S4x256x16x64 1 × IVec S4x256x16x64 1 :=
  let main_v0 : FVec F S4x256x16x64 .f32 := Host.absf main_arg0
  let main_cst : FVec F S_ .f32 := constant S_ .f32 0x7F800000#32
  let main_v1 : FVec F S4x256x16x64 .f32 := broadcastInDim S4x256x16x64 ![] bcast_S_S4x256x16x64 main_cst
  let main_v2 : IVec S4x256x16x64 1 := cmpf .olt main_v0 main_v1
  let main_v3 : FVec F S4x256x16x64 .f32 := Host.absf main_arg1
  let main_cst_0 : FVec F S_ .f32 := constant S_ .f32 0x7F800000#32
  let main_v4 : FVec F S4x256x16x64 .f32 := broadcastInDim S4x256x16x64 ![] bcast_S_S4x256x16x64 main_cst_0
  let main_v5 : IVec S4x256x16x64 1 := cmpf .olt main_v3 main_v4
  (main_v2, main_v5)
-- ==== Pre_finite_scores_ReferenceIdeal.lean ====
abbrev S4x8192x16x64 : Shape := ⟨4, ![4, 8192, 16, 64]⟩
abbrev S_ : Shape := ⟨0, ![]⟩

class Facts : Prop where
  bcast_S_S4x8192x16x64 : S_.BroadcastsInDim S4x8192x16x64 (![] : Fin 0 → Fin S4x8192x16x64.rank)

variable [Facts]

def fn {F : FTy → Type} [FloatOps F] (main_arg0 : FVec F S4x8192x16x64 .f32) (main_arg1 : FVec F S4x8192x16x64 .f32) (main_arg2 : FVec F S4x8192x16x64 .f32) : IVec S4x8192x16x64 1 × IVec S4x8192x16x64 1 :=
  let main_v0 : FVec F S4x8192x16x64 .f32 := Host.absf main_arg0
  let main_cst : FVec F S_ .f32 := constant S_ .f32 0x7F800000#32
  let main_v1 : FVec F S4x8192x16x64 .f32 := broadcastInDim S4x8192x16x64 ![] bcast_S_S4x8192x16x64 main_cst
  let main_v2 : IVec S4x8192x16x64 1 := cmpf .olt main_v0 main_v1
  let main_v3 : FVec F S4x8192x16x64 .f32 := Host.absf main_arg1
  let main_cst_0 : FVec F S_ .f32 := constant S_ .f32 0x7F800000#32
  let main_v4 : FVec F S4x8192x16x64 .f32 := broadcastInDim S4x8192x16x64 ![] bcast_S_S4x8192x16x64 main_cst_0
  let main_v5 : IVec S4x8192x16x64 1 := cmpf .olt main_v3 main_v4
  (main_v2, main_v5)
-- ==== Kernel.lean ====
abbrev S4x256x16x64 : Shape := ⟨4, ![4, 256, 16, 64]⟩
abbrev S4x16x256x64 : Shape := ⟨4, ![4, 16, 256, 64]⟩
abbrev S64x256x64 : Shape := ⟨3, ![64, 256, 64]⟩
abbrev S2x64x256x64 : Shape := ⟨4, ![2, 64, 256, 64]⟩
abbrev S64x256 : Shape := ⟨2, ![64, 256]⟩
abbrev S2 : Shape := ⟨1, ![2]⟩
abbrev S_ : Shape := ⟨0, ![]⟩
abbrev S1x64x256x64 : Shape := ⟨4, ![1, 64, 256, 64]⟩
abbrev S1 : Shape := ⟨1, ![1]⟩
abbrev S1x256x64 : Shape := ⟨3, ![1, 256, 64]⟩
abbrev S256x64 : Shape := ⟨2, ![256, 64]⟩
abbrev S1x1x256x64 : Shape := ⟨4, ![1, 1, 256, 64]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 12
  | .vmem => 9
  | .smem => 0
  | _ => 0

abbrev bufTy : (tb : Table) → Fin (tcTables nBuf tb) → BufTy
  | .hbm, ⟨0, _⟩ => ⟨S4x256x16x64, .f32⟩
  | .hbm, ⟨1, _⟩ => ⟨S4x256x16x64, .f32⟩
  | .hbm, ⟨2, _⟩ => ⟨S4x256x16x64, .f32⟩
  | .hbm, ⟨3, _⟩ => ⟨S4x16x256x64, .f32⟩
  | .hbm, ⟨4, _⟩ => ⟨S64x256x64, .f32⟩
  | .hbm, ⟨5, _⟩ => ⟨S4x16x256x64, .f32⟩
  | .hbm, ⟨6, _⟩ => ⟨S64x256x64, .f32⟩
  | .hbm, ⟨7, _⟩ => ⟨S4x16x256x64, .f32⟩
  | .hbm, ⟨8, _⟩ => ⟨S64x256x64, .f32⟩
  | .hbm, ⟨9, _⟩ => ⟨S64x256x64, .f32⟩
  | .hbm, ⟨10, _⟩ => ⟨S4x16x256x64, .f32⟩
  | .hbm, ⟨11, _⟩ => ⟨S4x256x16x64, .f32⟩
  | .local _ .vmem, ⟨0, _⟩ => ⟨S64x256x64, .f32⟩
  | .local _ .vmem, ⟨1, _⟩ => ⟨S64x256x64, .f32⟩
  | .local _ .vmem, ⟨2, _⟩ => ⟨S64x256x64, .f32⟩
  | .local _ .vmem, ⟨3, _⟩ => ⟨S64x256x64, .f32⟩
  | .local _ .vmem, ⟨4, _⟩ => ⟨S2x64x256x64, .f32⟩
  | .local _ .vmem, ⟨5, _⟩ => ⟨S2x64x256x64, .f32⟩
  | .local _ .vmem, ⟨6, _⟩ => ⟨S64x256x64, .f32⟩
  | .local _ .vmem, ⟨7, _⟩ => ⟨S64x256, .f32⟩
  | .local _ .vmem, ⟨8, _⟩ => ⟨S64x256, .f32⟩
  | _, _ => ⟨S4x256x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => true
  | ⟨1, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 2 12 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_36 : BitVec 32 := 1#32
  let v35 : BitVec 32 := Scalar.muli v7 c1_i32_36
  let v36 : BitVec 32 := Scalar.addi c0_i32_37 v35
  v36.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_48 : BitVec 32 := 1#32
  let v45 : BitVec 32 := Scalar.muli v7 c1_i32_48
  let v46 : BitVec 32 := Scalar.addi c0_i32_49 v45
  v46.toNat
@[reducible] def k0_t1_loop : Scf.Loop 32 :=
  let c0_i32_56 : BitVec 32 := 0#32
  let c64_i32 : BitVec 32 := 64#32
  let v55 : BitVec 32 := Scalar.addi c0_i32_56 c64_i32
  let c1_i32_57 : BitVec 32 := 1#32
  ⟨c0_i32_56, v55, c1_i32_57⟩
def k0_off1 (k0_t1 : Fin k0_t1_loop.trips) : Fin 3 → Nat :=
  let c0_i32_56 : BitVec 32 := 0#32
  let c1_i32_57 : BitVec 32 := 1#32
  let arg14 : BitVec 32 := Scf.iv c0_i32_56 c1_i32_57 k0_t1
  let v1616 : Index := Scalar.indexCast arg14
  let c0_2483 : Index := 0#32
  let c0_2484 : Index := 0#32
  ![v1616.toNat, 0, 0]
def k0_off2 (k0_t1 : Fin k0_t1_loop.trips) : Fin 4 → Nat :=
  let c0_2485 : Index := 0#32
  let c0_i32_56 : BitVec 32 := 0#32
  let c1_i32_57 : BitVec 32 := 1#32
  let arg14 : BitVec 32 := Scf.iv c0_i32_56 c1_i32_57 k0_t1
  let v1619 : Index := Scalar.indexCast arg14
  let c0_2486 : Index := 0#32
  let c0_2487 : Index := 0#32
  ![0, v1619.toNat, 0, 0]
def k0_off3 (k0_t1 : Fin k0_t1_loop.trips) : Fin 2 → Nat :=
  let c0_i32_56 : BitVec 32 := 0#32
  let c1_i32_57 : BitVec 32 := 1#32
  let arg14 : BitVec 32 := Scf.iv c0_i32_56 c1_i32_57 k0_t1
  let v1628 : Index := Scalar.indexCast arg14
  let c0_2493 : Index := 0#32
  ![v1628.toNat, 0]
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_106 : BitVec 32 := 1#32
  let v84 : BitVec 32 := Scalar.muli v5 c1_i32_106
  let v85 : BitVec 32 := Scalar.addi c0_i32_107 v84
  v85.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_114 : BitVec 32 := 1#32
  let v86 : BitVec 32 := Scalar.muli v7 c1_i32_114
  let v87 : BitVec 32 := Scalar.addi c0_i32_115 v86
  v87.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_126 : BitVec 32 := 1#32
  let v96 : BitVec 32 := Scalar.muli v7 c1_i32_126
  let v97 : BitVec 32 := Scalar.addi c0_i32_127 v96
  v97.toNat
@[reducible] def k0_t2_loop : Scf.Loop 32 :=
  let c0_i32_134 : BitVec 32 := 0#32
  let c64_i32_135 : BitVec 32 := 64#32
  let v106 : BitVec 32 := Scalar.addi c0_i32_134 c64_i32_135
  let c1_i32_136 : BitVec 32 := 1#32
  ⟨c0_i32_134, v106, c1_i32_136⟩
def k0_off4 (k0_t2 : Fin k0_t2_loop.trips) : Fin 3 → Nat :=
  let c0_i32_134 : BitVec 32 := 0#32
  let c1_i32_136 : BitVec 32 := 1#32
  let arg14 : BitVec 32 := Scf.iv c0_i32_134 c1_i32_136 k0_t2
  let v1616 : Index := Scalar.indexCast arg14
  let c0_2483 : Index := 0#32
  let c0_2484 : Index := 0#32
  ![v1616.toNat, 0, 0]
def k0_off5 (k0_t2 : Fin k0_t2_loop.trips) : Fin 4 → Nat :=
  let c1 : Index := 1#32
  let c0_i32_134 : BitVec 32 := 0#32
  let c1_i32_136 : BitVec 32 := 1#32
  let arg14 : BitVec 32 := Scf.iv c0_i32_134 c1_i32_136 k0_t2
  let v1619 : Index := Scalar.indexCast arg14
  let c0_2485 : Index := 0#32
  let c0_2486 : Index := 0#32
  ![1, v1619.toNat, 0, 0]
def k0_off6 (k0_t2 : Fin k0_t2_loop.trips) : Fin 2 → Nat :=
  let c0_i32_134 : BitVec 32 := 0#32
  let c1_i32_136 : BitVec 32 := 1#32
  let arg14 : BitVec 32 := Scf.iv c0_i32_134 c1_i32_136 k0_t2
  let v1628 : Index := Scalar.indexCast arg14
  let c0_2492 : Index := 0#32
  ![v1628.toNat, 0]
def k0_dev8 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_185 : BitVec 32 := 1#32
  let v135 : BitVec 32 := Scalar.muli v5 c1_i32_185
  let v136 : BitVec 32 := Scalar.addi c0_i32_186 v135
  v136.toNat
def k0_dev9 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_193 : BitVec 32 := 1#32
  let v137 : BitVec 32 := Scalar.muli v7 c1_i32_193
  let v138 : BitVec 32 := Scalar.addi c0_i32_194 v137
  v138.toNat
def k0_dev10 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_205 : BitVec 32 := 1#32
  let v147 : BitVec 32 := Scalar.muli v7 c1_i32_205
  let v148 : BitVec 32 := Scalar.addi c0_i32_206 v147
  v148.toNat
@[reducible] def k0_t3_loop : Scf.Loop 32 :=
  let c0_i32_213 : BitVec 32 := 0#32
  let c64_i32_214 : BitVec 32 := 64#32
  let v157 : BitVec 32 := Scalar.addi c0_i32_213 c64_i32_214
  let c1_i32_215 : BitVec 32 := 1#32
  ⟨c0_i32_213, v157, c1_i32_215⟩
def k0_off7 (k0_t3 : Fin k0_t3_loop.trips) : Fin 3 → Nat :=
  let c0_i32_213 : BitVec 32 := 0#32
  let c1_i32_215 : BitVec 32 := 1#32
  let arg14 : BitVec 32 := Scf.iv c0_i32_213 c1_i32_215 k0_t3
  let v1616 : Index := Scalar.indexCast arg14
  let c0_2483 : Index := 0#32
  let c0_2484 : Index := 0#32
  ![v1616.toNat, 0, 0]
def k0_off8 (k0_t3 : Fin k0_t3_loop.trips) : Fin 4 → Nat :=
  let c0_2485 : Index := 0#32
  let c0_i32_213 : BitVec 32 := 0#32
  let c1_i32_215 : BitVec 32 := 1#32
  let arg14 : BitVec 32 := Scf.iv c0_i32_213 c1_i32_215 k0_t3
  let v1619 : Index := Scalar.indexCast arg14
  let c0_2486 : Index := 0#32
  let c0_2487 : Index := 0#32
  ![0, v1619.toNat, 0, 0]
def k0_off9 (k0_t3 : Fin k0_t3_loop.trips) : Fin 2 → Nat :=
  let c0_i32_213 : BitVec 32 := 0#32
  let c1_i32_215 : BitVec 32 := 1#32
  let arg14 : BitVec 32 := Scf.iv c0_i32_213 c1_i32_215 k0_t3
  let v1628 : Index := Scalar.indexCast arg14
  let c0_2493 : Index := 0#32
  ![v1628.toNat, 0]
def k0_dev11 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_264 : BitVec 32 := 1#32
  let v186 : BitVec 32 := Scalar.muli v5 c1_i32_264
  let v187 : BitVec 32 := Scalar.addi c0_i32_265 v186
  v187.toNat
def k0_dev12 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_272 : BitVec 32 := 1#32
  let v188 : BitVec 32 := Scalar.muli v7 c1_i32_272
  let v189 : BitVec 32 := Scalar.addi c0_i32_273 v188
  v189.toNat
def k0_dev13 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_284 : BitVec 32 := 1#32
  let v198 : BitVec 32 := Scalar.muli v7 c1_i32_284
  let v199 : BitVec 32 := Scalar.addi c0_i32_285 v198
  v199.toNat
@[reducible] def k0_t4_loop : Scf.Loop 32 :=
  let c0_i32_292 : BitVec 32 := 0#32
  let c64_i32_293 : BitVec 32 := 64#32
  let v208 : BitVec 32 := Scalar.addi c0_i32_292 c64_i32_293
  let c1_i32_294 : BitVec 32 := 1#32
  ⟨c0_i32_292, v208, c1_i32_294⟩
def k0_off10 (k0_t4 : Fin k0_t4_loop.trips) : Fin 3 → Nat :=
  let c0_i32_292 : BitVec 32 := 0#32
  let c1_i32_294 : BitVec 32 := 1#32
  let arg14 : BitVec 32 := Scf.iv c0_i32_292 c1_i32_294 k0_t4
  let v1616 : Index := Scalar.indexCast arg14
  let c0_2483 : Index := 0#32
  let c0_2484 : Index := 0#32
  ![v1616.toNat, 0, 0]
def k0_off11 (k0_t4 : Fin k0_t4_loop.trips) : Fin 4 → Nat :=
  let c1 : Index := 1#32
  let c0_i32_292 : BitVec 32 := 0#32
  let c1_i32_294 : BitVec 32 := 1#32
  let arg14 : BitVec 32 := Scf.iv c0_i32_292 c1_i32_294 k0_t4
  let v1619 : Index := Scalar.indexCast arg14
  let c0_2485 : Index := 0#32
  let c0_2486 : Index := 0#32
  ![1, v1619.toNat, 0, 0]
def k0_off12 (k0_t4 : Fin k0_t4_loop.trips) : Fin 2 → Nat :=
  let c0_i32_292 : BitVec 32 := 0#32
  let c1_i32_294 : BitVec 32 := 1#32
  let arg14 : BitVec 32 := Scf.iv c0_i32_292 c1_i32_294 k0_t4
  let v1628 : Index := Scalar.indexCast arg14
  let c0_2492 : Index := 0#32
  ![v1628.toNat, 0]
def k0_dev14 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_343 : BitVec 32 := 1#32
  let v237 : BitVec 32 := Scalar.muli v5 c1_i32_343
  let v238 : BitVec 32 := Scalar.addi c0_i32_344 v237
  v238.toNat
def k0_dev15 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_351 : BitVec 32 := 1#32
  let v239 : BitVec 32 := Scalar.muli v7 c1_i32_351
  let v240 : BitVec 32 := Scalar.addi c0_i32_352 v239
  v240.toNat
def k0_dev16 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_363 : BitVec 32 := 1#32
  let v249 : BitVec 32 := Scalar.muli v7 c1_i32_363
  let v250 : BitVec 32 := Scalar.addi c0_i32_364 v249
  v250.toNat
@[reducible] def k0_t5_loop : Scf.Loop 32 :=
  let c0_i32_371 : BitVec 32 := 0#32
  let c64_i32_372 : BitVec 32 := 64#32
  let v259 : BitVec 32 := Scalar.addi c0_i32_371 c64_i32_372
  let c1_i32_373 : BitVec 32 := 1#32
  ⟨c0_i32_371, v259, c1_i32_373⟩
def k0_off13 (k0_t5 : Fin k0_t5_loop.trips) : Fin 3 → Nat :=
  let c0_i32_371 : BitVec 32 := 0#32
  let c1_i32_373 : BitVec 32 := 1#32
  let arg14 : BitVec 32 := Scf.iv c0_i32_371 c1_i32_373 k0_t5
  let v1616 : Index := Scalar.indexCast arg14
  let c0_2483 : Index := 0#32
  let c0_2484 : Index := 0#32
  ![v1616.toNat, 0, 0]
def k0_off14 (k0_t5 : Fin k0_t5_loop.trips) : Fin 4 → Nat :=
  let c0_2485 : Index := 0#32
  let c0_i32_371 : BitVec 32 := 0#32
  let c1_i32_373 : BitVec 32 := 1#32
  let arg14 : BitVec 32 := Scf.iv c0_i32_371 c1_i32_373 k0_t5
  let v1619 : Index := Scalar.indexCast arg14
  let c0_2486 : Index := 0#32
  let c0_2487 : Index := 0#32
  ![0, v1619.toNat, 0, 0]
def k0_off15 (k0_t5 : Fin k0_t5_loop.trips) : Fin 2 → Nat :=
  let c0_i32_371 : BitVec 32 := 0#32
  let c1_i32_373 : BitVec 32 := 1#32
  let arg14 : BitVec 32 := Scf.iv c0_i32_371 c1_i32_373 k0_t5
  let v1628 : Index := Scalar.indexCast arg14
  let c0_2493 : Index := 0#32
  ![v1628.toNat, 0]
def k0_dev17 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_422 : BitVec 32 := 1#32
  let v288 : BitVec 32 := Scalar.muli v5 c1_i32_422
  let v289 : BitVec 32 := Scalar.addi c0_i32_423 v288
  v289.toNat
def k0_dev18 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_430 : BitVec 32 := 1#32
  let v290 : BitVec 32 := Scalar.muli v7 c1_i32_430
  let v291 : BitVec 32 := Scalar.addi c0_i32_431 v290
  v291.toNat
def k0_dev19 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_442 : BitVec 32 := 1#32
  let v300 : BitVec 32 := Scalar.muli v7 c1_i32_442
  let v301 : BitVec 32 := Scalar.addi c0_i32_443 v300
  v301.toNat
@[reducible] def k0_t6_loop : Scf.Loop 32 :=
  let c0_i32_450 : BitVec 32 := 0#32
  let c64_i32_451 : BitVec 32 := 64#32
  let v310 : BitVec 32 := Scalar.addi c0_i32_450 c64_i32_451
  let c1_i32_452 : BitVec 32 := 1#32
  ⟨c0_i32_450, v310, c1_i32_452⟩
def k0_off16 (k0_t6 : Fin k0_t6_loop.trips) : Fin 3 → Nat :=
  let c0_i32_450 : BitVec 32 := 0#32
  let c1_i32_452 : BitVec 32 := 1#32
  let arg14 : BitVec 32 := Scf.iv c0_i32_450 c1_i32_452 k0_t6
  let v1616 : Index := Scalar.indexCast arg14
  let c0_2483 : Index := 0#32
  let c0_2484 : Index := 0#32
  ![v1616.toNat, 0, 0]
def k0_off17 (k0_t6 : Fin k0_t6_loop.trips) : Fin 4 → Nat :=
  let c1 : Index := 1#32
  let c0_i32_450 : BitVec 32 := 0#32
  let c1_i32_452 : BitVec 32 := 1#32
  let arg14 : BitVec 32 := Scf.iv c0_i32_450 c1_i32_452 k0_t6
  let v1619 : Index := Scalar.indexCast arg14
  let c0_2485 : Index := 0#32
  let c0_2486 : Index := 0#32
  ![1, v1619.toNat, 0, 0]
def k0_off18 (k0_t6 : Fin k0_t6_loop.trips) : Fin 2 → Nat :=
  let c0_i32_450 : BitVec 32 := 0#32
  let c1_i32_452 : BitVec 32 := 1#32
  let arg14 : BitVec 32 := Scf.iv c0_i32_450 c1_i32_452 k0_t6
  let v1628 : Index := Scalar.indexCast arg14
  let c0_2492 : Index := 0#32
  ![v1628.toNat, 0]
def k0_dev20 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_501 : BitVec 32 := 1#32
  let v339 : BitVec 32 := Scalar.muli v5 c1_i32_501
  let v340 : BitVec 32 := Scalar.addi c0_i32_502 v339
  v340.toNat
def k0_dev21 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_509 : BitVec 32 := 1#32
  let v341 : BitVec 32 := Scalar.muli v7 c1_i32_509
  let v342 : BitVec 32 := Scalar.addi c0_i32_510 v341
  v342.toNat
def k0_dev22 (d0 : Dev nD) : Nat :=
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_521 : BitVec 32 := 1#32
  let v351 : BitVec 32 := Scalar.muli v7 c1_i32_521
  let v352 : BitVec 32 := Scalar.addi c0_i32_522 v351
  v352.toNat
@[reducible] def k0_t7_loop : Scf.Loop 32 :=
  let c0_i32_529 : BitVec 32 := 0#32
  let c64_i32_530 : BitVec 32 := 64#32
  let v361 : BitVec 32 := Scalar.addi c0_i32_529 c64_i32_530
  let c1_i32_531 : BitVec 32 := 1#32
  ⟨c0_i32_529, v361, c1_i32_531⟩
def k0_off19 (k0_t7 : Fin k0_t7_loop.trips) : Fin 3 → Nat :=
  let c0_i32_529 : BitVec 32 := 0#32
  let c1_i32_531 : BitVec 32 := 1#32
  let arg14 : BitVec 32 := Scf.iv c0_i32_529 c1_i32_531 k0_t7
  let v1616 : Index := Scalar.indexCast arg14
  let c0_2483 : Index := 0#32
  let c0_2484 : Index := 0#32
  ![v1616.toNat, 0, 0]
def k0_off20 (k0_t7 : Fin k0_t7_loop.trips) : Fin 4 → Nat :=
  let c0_2485 : Index := 0#32
  let c0_i32_529 : BitVec 32 := 0#32
  let c1_i32_531 : BitVec 32 := 1#32
  let arg14 : BitVec 32 := Scf.iv c0_i32_529 c1_i32_531 k0_t7
  let v1619 : Index := Scalar.indexCast arg14
  let c0_2486 : Index := 0#32
  let c0_2487 : Index := 0#32
  ![0, v1619.toNat, 0, 0]
def k0_off21 (k0_t7 : Fin k0_t7_loop.trips) : Fin 2 → Nat :=
  let c0_i32_529 : BitVec 32 := 0#32
  let c1_i32_531 : BitVec 32 := 1#32
  let arg14 : BitVec 32 := Scf.iv c0_i32_529 c1_i32_531 k0_t7
  let v1628 : Index := Scalar.indexCast arg14
  let c0_2493 : Index := 0#32
  ![v1628.toNat, 0]
def k0_dev23 (d0 : Dev nD) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_580 : BitVec 32 := 1#32
  let v390 : BitVec 32 := Scalar.muli v5 c1_i32_580
  let v391 : BitVec 32 := Scalar.addi c0_i32_581 v390
  v391.toNat
def k0_dev24 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_588 : BitVec 32 := 1#32
  let v392 : BitVec 32 := Scalar.muli v7 c1_i32_588
  let v393 : BitVec 32 := Scalar.addi c0_i32_589 v392
  v393.toNat
def k0_dev25 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_600 : BitVec 32 := 1#32
  let v402 : BitVec 32 := Scalar.muli v7 c1_i32_600
  let v403 : BitVec 32 := Scalar.addi c0_i32_601 v402
  v403.toNat
@[reducible] def k0_t8_loop : Scf.Loop 32 :=
  let c0_i32_608 : BitVec 32 := 0#32
  let c64_i32_609 : BitVec 32 := 64#32
  let v412 : BitVec 32 := Scalar.addi c0_i32_608 c64_i32_609
  let c1_i32_610 : BitVec 32 := 1#32
  ⟨c0_i32_608, v412, c1_i32_610⟩
def k0_off22 (k0_t8 : Fin k0_t8_loop.trips) : Fin 3 → Nat :=
  let c0_i32_608 : BitVec 32 := 0#32
  let c1_i32_610 : BitVec 32 := 1#32
  let arg14 : BitVec 32 := Scf.iv c0_i32_608 c1_i32_610 k0_t8
  let v1616 : Index := Scalar.indexCast arg14
  let c0_2483 : Index := 0#32
  let c0_2484 : Index := 0#32
  ![v1616.toNat, 0, 0]
def k0_off23 (k0_t8 : Fin k0_t8_loop.trips) : Fin 4 → Nat :=
  let c1 : Index := 1#32
  let c0_i32_608 : BitVec 32 := 0#32
  let c1_i32_610 : BitVec 32 := 1#32
  let arg14 : BitVec 32 := Scf.iv c0_i32_608 c1_i32_610 k0_t8
  let v1619 : Index := Scalar.indexCast arg14
  let c0_2485 : Index := 0#32
  let c0_2486 : Index := 0#32
  ![1, v1619.toNat, 0, 0]
def k0_off24 (k0_t8 : Fin k0_t8_loop.trips) : Fin 2 → Nat :=
  let c0_i32_608 : BitVec 32 := 0#32
  let c1_i32_610 : BitVec 32 := 1#32
  let arg14 : BitVec 32 := Scf.iv c0_i32_608 c1_i32_610 k0_t8
  let v1628 : Index := Scalar.indexCast arg14
  let c0_2492 : Index := 0#32
  ![v1628.toNat, 0]
def k0_dev26 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_659 : BitVec 32 := 1#32
  let v441 : BitVec 32 := Scalar.muli v5 c1_i32_659
  let v442 : BitVec 32 := Scalar.addi c0_i32_660 v441
  v442.toNat
def k0_dev27 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_667 : BitVec 32 := 1#32
  let v443 : BitVec 32 := Scalar.muli v7 c1_i32_667
  let v444 : BitVec 32 := Scalar.addi c0_i32_668 v443
  v444.toNat
def k0_dev28 (d0 : Dev nD) : Nat :=
  let c0_i32_680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_679 : BitVec 32 := 1#32
  let v453 : BitVec 32 := Scalar.muli v7 c1_i32_679
  let v454 : BitVec 32 := Scalar.addi c0_i32_680 v453
  v454.toNat
@[reducible] def k0_t9_loop : Scf.Loop 32 :=
  let c0_i32_687 : BitVec 32 := 0#32
  let c64_i32_688 : BitVec 32 := 64#32
  let v463 : BitVec 32 := Scalar.addi c0_i32_687 c64_i32_688
  let c1_i32_689 : BitVec 32 := 1#32
  ⟨c0_i32_687, v463, c1_i32_689⟩
def k0_off25 (k0_t9 : Fin k0_t9_loop.trips) : Fin 3 → Nat :=
  let c0_i32_687 : BitVec 32 := 0#32
  let c1_i32_689 : BitVec 32 := 1#32
  let arg14 : BitVec 32 := Scf.iv c0_i32_687 c1_i32_689 k0_t9
  let v1616 : Index := Scalar.indexCast arg14
  let c0_2483 : Index := 0#32
  let c0_2484 : Index := 0#32
  ![v1616.toNat, 0, 0]
def k0_off26 (k0_t9 : Fin k0_t9_loop.trips) : Fin 4 → Nat :=
  let c0_2485 : Index := 0#32
  let c0_i32_687 : BitVec 32 := 0#32
  let c1_i32_689 : BitVec 32 := 1#32
  let arg14 : BitVec 32 := Scf.iv c0_i32_687 c1_i32_689 k0_t9
  let v1619 : Index := Scalar.indexCast arg14
  let c0_2486 : Index := 0#32
  let c0_2487 : Index := 0#32
  ![0, v1619.toNat, 0, 0]
def k0_off27 (k0_t9 : Fin k0_t9_loop.trips) : Fin 2 → Nat :=
  let c0_i32_687 : BitVec 32 := 0#32
  let c1_i32_689 : BitVec 32 := 1#32
  let arg14 : BitVec 32 := Scf.iv c0_i32_687 c1_i32_689 k0_t9
  let v1628 : Index := Scalar.indexCast arg14
  let c0_2493 : Index := 0#32
  ![v1628.toNat, 0]
def k0_dev29 (d0 : Dev nD) : Nat :=
  let c0_i32_739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_738 : BitVec 32 := 1#32
  let v492 : BitVec 32 := Scalar.muli v5 c1_i32_738
  let v493 : BitVec 32 := Scalar.addi c0_i32_739 v492
  v493.toNat
def k0_dev30 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_746 : BitVec 32 := 1#32
  let v494 : BitVec 32 := Scalar.muli v7 c1_i32_746
  let v495 : BitVec 32 := Scalar.addi c0_i32_747 v494
  v495.toNat
def k0_dev31 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_758 : BitVec 32 := 1#32
  let v504 : BitVec 32 := Scalar.muli v7 c1_i32_758
  let v505 : BitVec 32 := Scalar.addi c0_i32_759 v504
  v505.toNat
@[reducible] def k0_t10_loop : Scf.Loop 32 :=
  let c0_i32_766 : BitVec 32 := 0#32
  let c64_i32_767 : BitVec 32 := 64#32
  let v514 : BitVec 32 := Scalar.addi c0_i32_766 c64_i32_767
  let c1_i32_768 : BitVec 32 := 1#32
  ⟨c0_i32_766, v514, c1_i32_768⟩
def k0_off28 (k0_t10 : Fin k0_t10_loop.trips) : Fin 3 → Nat :=
  let c0_i32_766 : BitVec 32 := 0#32
  let c1_i32_768 : BitVec 32 := 1#32
  let arg14 : BitVec 32 := Scf.iv c0_i32_766 c1_i32_768 k0_t10
  let v1616 : Index := Scalar.indexCast arg14
  let c0_2483 : Index := 0#32
  let c0_2484 : Index := 0#32
  ![v1616.toNat, 0, 0]
def k0_off29 (k0_t10 : Fin k0_t10_loop.trips) : Fin 4 → Nat :=
  let c1 : Index := 1#32
  let c0_i32_766 : BitVec 32 := 0#32
  let c1_i32_768 : BitVec 32 := 1#32
  let arg14 : BitVec 32 := Scf.iv c0_i32_766 c1_i32_768 k0_t10
  let v1619 : Index := Scalar.indexCast arg14
  let c0_2485 : Index := 0#32
  let c0_2486 : Index := 0#32
  ![1, v1619.toNat, 0, 0]
def k0_off30 (k0_t10 : Fin k0_t10_loop.trips) : Fin 2 → Nat :=
  let c0_i32_766 : BitVec 32 := 0#32
  let c1_i32_768 : BitVec 32 := 1#32
  let arg14 : BitVec 32 := Scf.iv c0_i32_766 c1_i32_768 k0_t10
  let v1628 : Index := Scalar.indexCast arg14
  let c0_2492 : Index := 0#32
  ![v1628.toNat, 0]
def k0_dev32 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_817 : BitVec 32 := 1#32
  let v543 : BitVec 32 := Scalar.muli v5 c1_i32_817
  let v544 : BitVec 32 := Scalar.addi c0_i32_818 v543
  v544.toNat
def k0_dev33 (d0 : Dev nD) : Nat :=
  let c0_i32_826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_825 : BitVec 32 := 1#32
  let v545 : BitVec 32 := Scalar.muli v7 c1_i32_825
  let v546 : BitVec 32 := Scalar.addi c0_i32_826 v545
  v546.toNat
def k0_dev34 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_837 : BitVec 32 := 1#32
  let v555 : BitVec 32 := Scalar.muli v7 c1_i32_837
  let v556 : BitVec 32 := Scalar.addi c0_i32_838 v555
  v556.toNat
@[reducible] def k0_t11_loop : Scf.Loop 32 :=
  let c0_i32_845 : BitVec 32 := 0#32
  let c64_i32_846 : BitVec 32 := 64#32
  let v565 : BitVec 32 := Scalar.addi c0_i32_845 c64_i32_846
  let c1_i32_847 : BitVec 32 := 1#32
  ⟨c0_i32_845, v565, c1_i32_847⟩
def k0_off31 (k0_t11 : Fin k0_t11_loop.trips) : Fin 3 → Nat :=
  let c0_i32_845 : BitVec 32 := 0#32
  let c1_i32_847 : BitVec 32 := 1#32
  let arg14 : BitVec 32 := Scf.iv c0_i32_845 c1_i32_847 k0_t11
  let v1616 : Index := Scalar.indexCast arg14
  let c0_2483 : Index := 0#32
  let c0_2484 : Index := 0#32
  ![v1616.toNat, 0, 0]
def k0_off32 (k0_t11 : Fin k0_t11_loop.trips) : Fin 4 → Nat :=
  let c0_2485 : Index := 0#32
  let c0_i32_845 : BitVec 32 := 0#32
  let c1_i32_847 : BitVec 32 := 1#32
  let arg14 : BitVec 32 := Scf.iv c0_i32_845 c1_i32_847 k0_t11
  let v1619 : Index := Scalar.indexCast arg14
  let c0_2486 : Index := 0#32
  let c0_2487 : Index := 0#32
  ![0, v1619.toNat, 0, 0]
def k0_off33 (k0_t11 : Fin k0_t11_loop.trips) : Fin 2 → Nat :=
  let c0_i32_845 : BitVec 32 := 0#32
  let c1_i32_847 : BitVec 32 := 1#32
  let arg14 : BitVec 32 := Scf.iv c0_i32_845 c1_i32_847 k0_t11
  let v1628 : Index := Scalar.indexCast arg14
  let c0_2493 : Index := 0#32
  ![v1628.toNat, 0]
def k0_dev35 (d0 : Dev nD) : Nat :=
  let c0_i32_897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_896 : BitVec 32 := 1#32
  let v594 : BitVec 32 := Scalar.muli v5 c1_i32_896
  let v595 : BitVec 32 := Scalar.addi c0_i32_897 v594
  v595.toNat
def k0_dev36 (d0 : Dev nD) : Nat :=
  let c0_i32_905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_904 : BitVec 32 := 1#32
  let v596 : BitVec 32 := Scalar.muli v7 c1_i32_904
  let v597 : BitVec 32 := Scalar.addi c0_i32_905 v596
  v597.toNat
def k0_dev37 (d0 : Dev nD) : Nat :=
  let c0_i32_917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_916 : BitVec 32 := 1#32
  let v606 : BitVec 32 := Scalar.muli v7 c1_i32_916
  let v607 : BitVec 32 := Scalar.addi c0_i32_917 v606
  v607.toNat
@[reducible] def k0_t12_loop : Scf.Loop 32 :=
  let c0_i32_924 : BitVec 32 := 0#32
  let c64_i32_925 : BitVec 32 := 64#32
  let v616 : BitVec 32 := Scalar.addi c0_i32_924 c64_i32_925
  let c1_i32_926 : BitVec 32 := 1#32
  ⟨c0_i32_924, v616, c1_i32_926⟩
def k0_off34 (k0_t12 : Fin k0_t12_loop.trips) : Fin 3 → Nat :=
  let c0_i32_924 : BitVec 32 := 0#32
  let c1_i32_926 : BitVec 32 := 1#32
  let arg14 : BitVec 32 := Scf.iv c0_i32_924 c1_i32_926 k0_t12
  let v1616 : Index := Scalar.indexCast arg14
  let c0_2483 : Index := 0#32
  let c0_2484 : Index := 0#32
  ![v1616.toNat, 0, 0]
def k0_off35 (k0_t12 : Fin k0_t12_loop.trips) : Fin 4 → Nat :=
  let c1 : Index := 1#32
  let c0_i32_924 : BitVec 32 := 0#32
  let c1_i32_926 : BitVec 32 := 1#32
  let arg14 : BitVec 32 := Scf.iv c0_i32_924 c1_i32_926 k0_t12
  let v1619 : Index := Scalar.indexCast arg14
  let c0_2485 : Index := 0#32
  let c0_2486 : Index := 0#32
  ![1, v1619.toNat, 0, 0]
def k0_off36 (k0_t12 : Fin k0_t12_loop.trips) : Fin 2 → Nat :=
  let c0_i32_924 : BitVec 32 := 0#32
  let c1_i32_926 : BitVec 32 := 1#32
  let arg14 : BitVec 32 := Scf.iv c0_i32_924 c1_i32_926 k0_t12
  let v1628 : Index := Scalar.indexCast arg14
  let c0_2492 : Index := 0#32
  ![v1628.toNat, 0]
def k0_dev38 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_975 : BitVec 32 := 1#32
  let v645 : BitVec 32 := Scalar.muli v5 c1_i32_975
  let v646 : BitVec 32 := Scalar.addi c0_i32_976 v645
  v646.toNat
def k0_dev39 (d0 : Dev nD) : Nat :=
  let c0_i32_984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_983 : BitVec 32 := 1#32
  let v647 : BitVec 32 := Scalar.muli v7 c1_i32_983
  let v648 : BitVec 32 := Scalar.addi c0_i32_984 v647
  v648.toNat
def k0_dev40 (d0 : Dev nD) : Nat :=
  let c0_i32_996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_995 : BitVec 32 := 1#32
  let v657 : BitVec 32 := Scalar.muli v7 c1_i32_995
  let v658 : BitVec 32 := Scalar.addi c0_i32_996 v657
  v658.toNat
@[reducible] def k0_t13_loop : Scf.Loop 32 :=
  let c0_i32_1003 : BitVec 32 := 0#32
  let c64_i32_1004 : BitVec 32 := 64#32
  let v667 : BitVec 32 := Scalar.addi c0_i32_1003 c64_i32_1004
  let c1_i32_1005 : BitVec 32 := 1#32
  ⟨c0_i32_1003, v667, c1_i32_1005⟩
def k0_off37 (k0_t13 : Fin k0_t13_loop.trips) : Fin 3 → Nat :=
  let c0_i32_1003 : BitVec 32 := 0#32
  let c1_i32_1005 : BitVec 32 := 1#32
  let arg14 : BitVec 32 := Scf.iv c0_i32_1003 c1_i32_1005 k0_t13
  let v1616 : Index := Scalar.indexCast arg14
  let c0_2483 : Index := 0#32
  let c0_2484 : Index := 0#32
  ![v1616.toNat, 0, 0]
def k0_off38 (k0_t13 : Fin k0_t13_loop.trips) : Fin 4 → Nat :=
  let c0_2485 : Index := 0#32
  let c0_i32_1003 : BitVec 32 := 0#32
  let c1_i32_1005 : BitVec 32 := 1#32
  let arg14 : BitVec 32 := Scf.iv c0_i32_1003 c1_i32_1005 k0_t13
  let v1619 : Index := Scalar.indexCast arg14
  let c0_2486 : Index := 0#32
  let c0_2487 : Index := 0#32
  ![0, v1619.toNat, 0, 0]
def k0_off39 (k0_t13 : Fin k0_t13_loop.trips) : Fin 2 → Nat :=
  let c0_i32_1003 : BitVec 32 := 0#32
  let c1_i32_1005 : BitVec 32 := 1#32
  let arg14 : BitVec 32 := Scf.iv c0_i32_1003 c1_i32_1005 k0_t13
  let v1628 : Index := Scalar.indexCast arg14
  let c0_2493 : Index := 0#32
  ![v1628.toNat, 0]
def k0_dev41 (d0 : Dev nD) : Nat :=
  let c0_i32_1055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1054 : BitVec 32 := 1#32
  let v696 : BitVec 32 := Scalar.muli v5 c1_i32_1054
  let v697 : BitVec 32 := Scalar.addi c0_i32_1055 v696
  v697.toNat
def k0_dev42 (d0 : Dev nD) : Nat :=
  let c0_i32_1063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1062 : BitVec 32 := 1#32
  let v698 : BitVec 32 := Scalar.muli v7 c1_i32_1062
  let v699 : BitVec 32 := Scalar.addi c0_i32_1063 v698
  v699.toNat
def k0_dev43 (d0 : Dev nD) : Nat :=
  let c0_i32_1075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1074 : BitVec 32 := 1#32
  let v708 : BitVec 32 := Scalar.muli v7 c1_i32_1074
  let v709 : BitVec 32 := Scalar.addi c0_i32_1075 v708
  v709.toNat
@[reducible] def k0_t14_loop : Scf.Loop 32 :=
  let c0_i32_1082 : BitVec 32 := 0#32
  let c64_i32_1083 : BitVec 32 := 64#32
  let v718 : BitVec 32 := Scalar.addi c0_i32_1082 c64_i32_1083
  let c1_i32_1084 : BitVec 32 := 1#32
  ⟨c0_i32_1082, v718, c1_i32_1084⟩
def k0_off40 (k0_t14 : Fin k0_t14_loop.trips) : Fin 3 → Nat :=
  let c0_i32_1082 : BitVec 32 := 0#32
  let c1_i32_1084 : BitVec 32 := 1#32
  let arg14 : BitVec 32 := Scf.iv c0_i32_1082 c1_i32_1084 k0_t14
  let v1616 : Index := Scalar.indexCast arg14
  let c0_2483 : Index := 0#32
  let c0_2484 : Index := 0#32
  ![v1616.toNat, 0, 0]
def k0_off41 (k0_t14 : Fin k0_t14_loop.trips) : Fin 4 → Nat :=
  let c1 : Index := 1#32
  let c0_i32_1082 : BitVec 32 := 0#32
  let c1_i32_1084 : BitVec 32 := 1#32
  let arg14 : BitVec 32 := Scf.iv c0_i32_1082 c1_i32_1084 k0_t14
  let v1619 : Index := Scalar.indexCast arg14
  let c0_2485 : Index := 0#32
  let c0_2486 : Index := 0#32
  ![1, v1619.toNat, 0, 0]
def k0_off42 (k0_t14 : Fin k0_t14_loop.trips) : Fin 2 → Nat :=
  let c0_i32_1082 : BitVec 32 := 0#32
  let c1_i32_1084 : BitVec 32 := 1#32
  let arg14 : BitVec 32 := Scf.iv c0_i32_1082 c1_i32_1084 k0_t14
  let v1628 : Index := Scalar.indexCast arg14
  let c0_2492 : Index := 0#32
  ![v1628.toNat, 0]
def k0_dev44 (d0 : Dev nD) : Nat :=
  let c0_i32_1134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1133 : BitVec 32 := 1#32
  let v747 : BitVec 32 := Scalar.muli v5 c1_i32_1133
  let v748 : BitVec 32 := Scalar.addi c0_i32_1134 v747
  v748.toNat
def k0_dev45 (d0 : Dev nD) : Nat :=
  let c0_i32_1142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1141 : BitVec 32 := 1#32
  let v749 : BitVec 32 := Scalar.muli v7 c1_i32_1141
  let v750 : BitVec 32 := Scalar.addi c0_i32_1142 v749
  v750.toNat
def k0_dev46 (d0 : Dev nD) : Nat :=
  let c0_i32_1154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1153 : BitVec 32 := 1#32
  let v759 : BitVec 32 := Scalar.muli v7 c1_i32_1153
  let v760 : BitVec 32 := Scalar.addi c0_i32_1154 v759
  v760.toNat
@[reducible] def k0_t15_loop : Scf.Loop 32 :=
  let c0_i32_1161 : BitVec 32 := 0#32
  let c64_i32_1162 : BitVec 32 := 64#32
  let v769 : BitVec 32 := Scalar.addi c0_i32_1161 c64_i32_1162
  let c1_i32_1163 : BitVec 32 := 1#32
  ⟨c0_i32_1161, v769, c1_i32_1163⟩
def k0_off43 (k0_t15 : Fin k0_t15_loop.trips) : Fin 3 → Nat :=
  let c0_i32_1161 : BitVec 32 := 0#32
  let c1_i32_1163 : BitVec 32 := 1#32
  let arg14 : BitVec 32 := Scf.iv c0_i32_1161 c1_i32_1163 k0_t15
  let v1616 : Index := Scalar.indexCast arg14
  let c0_2483 : Index := 0#32
  let c0_2484 : Index := 0#32
  ![v1616.toNat, 0, 0]
def k0_off44 (k0_t15 : Fin k0_t15_loop.trips) : Fin 4 → Nat :=
  let c0_2485 : Index := 0#32
  let c0_i32_1161 : BitVec 32 := 0#32
  let c1_i32_1163 : BitVec 32 := 1#32
  let arg14 : BitVec 32 := Scf.iv c0_i32_1161 c1_i32_1163 k0_t15
  let v1619 : Index := Scalar.indexCast arg14
  let c0_2486 : Index := 0#32
  let c0_2487 : Index := 0#32
  ![0, v1619.toNat, 0, 0]
def k0_off45 (k0_t15 : Fin k0_t15_loop.trips) : Fin 2 → Nat :=
  let c0_i32_1161 : BitVec 32 := 0#32
  let c1_i32_1163 : BitVec 32 := 1#32
  let arg14 : BitVec 32 := Scf.iv c0_i32_1161 c1_i32_1163 k0_t15
  let v1628 : Index := Scalar.indexCast arg14
  let c0_2493 : Index := 0#32
  ![v1628.toNat, 0]
def k0_dev47 (d0 : Dev nD) : Nat :=
  let c0_i32_1213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1212 : BitVec 32 := 1#32
  let v798 : BitVec 32 := Scalar.muli v5 c1_i32_1212
  let v799 : BitVec 32 := Scalar.addi c0_i32_1213 v798
  v799.toNat
def k0_dev48 (d0 : Dev nD) : Nat :=
  let c0_i32_1221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1220 : BitVec 32 := 1#32
  let v800 : BitVec 32 := Scalar.muli v7 c1_i32_1220
  let v801 : BitVec 32 := Scalar.addi c0_i32_1221 v800
  v801.toNat
def k0_dev49 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1232 : BitVec 32 := 1#32
  let v810 : BitVec 32 := Scalar.muli v7 c1_i32_1232
  let v811 : BitVec 32 := Scalar.addi c0_i32_1233 v810
  v811.toNat
@[reducible] def k0_t16_loop : Scf.Loop 32 :=
  let c0_i32_1240 : BitVec 32 := 0#32
  let c64_i32_1241 : BitVec 32 := 64#32
  let v820 : BitVec 32 := Scalar.addi c0_i32_1240 c64_i32_1241
  let c1_i32_1242 : BitVec 32 := 1#32
  ⟨c0_i32_1240, v820, c1_i32_1242⟩
def k0_off46 (k0_t16 : Fin k0_t16_loop.trips) : Fin 3 → Nat :=
  let c0_i32_1240 : BitVec 32 := 0#32
  let c1_i32_1242 : BitVec 32 := 1#32
  let arg14 : BitVec 32 := Scf.iv c0_i32_1240 c1_i32_1242 k0_t16
  let v1616 : Index := Scalar.indexCast arg14
  let c0_2483 : Index := 0#32
  let c0_2484 : Index := 0#32
  ![v1616.toNat, 0, 0]
def k0_off47 (k0_t16 : Fin k0_t16_loop.trips) : Fin 4 → Nat :=
  let c1 : Index := 1#32
  let c0_i32_1240 : BitVec 32 := 0#32
  let c1_i32_1242 : BitVec 32 := 1#32
  let arg14 : BitVec 32 := Scf.iv c0_i32_1240 c1_i32_1242 k0_t16
  let v1619 : Index := Scalar.indexCast arg14
  let c0_2485 : Index := 0#32
  let c0_2486 : Index := 0#32
  ![1, v1619.toNat, 0, 0]
def k0_off48 (k0_t16 : Fin k0_t16_loop.trips) : Fin 2 → Nat :=
  let c0_i32_1240 : BitVec 32 := 0#32
  let c1_i32_1242 : BitVec 32 := 1#32
  let arg14 : BitVec 32 := Scf.iv c0_i32_1240 c1_i32_1242 k0_t16
  let v1628 : Index := Scalar.indexCast arg14
  let c0_2492 : Index := 0#32
  ![v1628.toNat, 0]
def k0_dev50 (d0 : Dev nD) : Nat :=
  let c0_i32_1292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1291 : BitVec 32 := 1#32
  let v849 : BitVec 32 := Scalar.muli v5 c1_i32_1291
  let v850 : BitVec 32 := Scalar.addi c0_i32_1292 v849
  v850.toNat
def k0_dev51 (d0 : Dev nD) : Nat :=
  let c0_i32_1300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1299 : BitVec 32 := 1#32
  let v851 : BitVec 32 := Scalar.muli v7 c1_i32_1299
  let v852 : BitVec 32 := Scalar.addi c0_i32_1300 v851
  v852.toNat
def k0_dev52 (d0 : Dev nD) : Nat :=
  let c0_i32_1312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1311 : BitVec 32 := 1#32
  let v861 : BitVec 32 := Scalar.muli v7 c1_i32_1311
  let v862 : BitVec 32 := Scalar.addi c0_i32_1312 v861
  v862.toNat
@[reducible] def k0_t17_loop : Scf.Loop 32 :=
  let c0_i32_1319 : BitVec 32 := 0#32
  let c64_i32_1320 : BitVec 32 := 64#32
  let v871 : BitVec 32 := Scalar.addi c0_i32_1319 c64_i32_1320
  let c1_i32_1321 : BitVec 32 := 1#32
  ⟨c0_i32_1319, v871, c1_i32_1321⟩
def k0_off49 (k0_t17 : Fin k0_t17_loop.trips) : Fin 3 → Nat :=
  let c0_i32_1319 : BitVec 32 := 0#32
  let c1_i32_1321 : BitVec 32 := 1#32
  let arg14 : BitVec 32 := Scf.iv c0_i32_1319 c1_i32_1321 k0_t17
  let v1616 : Index := Scalar.indexCast arg14
  let c0_2483 : Index := 0#32
  let c0_2484 : Index := 0#32
  ![v1616.toNat, 0, 0]
def k0_off50 (k0_t17 : Fin k0_t17_loop.trips) : Fin 4 → Nat :=
  let c0_2485 : Index := 0#32
  let c0_i32_1319 : BitVec 32 := 0#32
  let c1_i32_1321 : BitVec 32 := 1#32
  let arg14 : BitVec 32 := Scf.iv c0_i32_1319 c1_i32_1321 k0_t17
  let v1619 : Index := Scalar.indexCast arg14
  let c0_2486 : Index := 0#32
  let c0_2487 : Index := 0#32
  ![0, v1619.toNat, 0, 0]
def k0_off51 (k0_t17 : Fin k0_t17_loop.trips) : Fin 2 → Nat :=
  let c0_i32_1319 : BitVec 32 := 0#32
  let c1_i32_1321 : BitVec 32 := 1#32
  let arg14 : BitVec 32 := Scf.iv c0_i32_1319 c1_i32_1321 k0_t17
  let v1628 : Index := Scalar.indexCast arg14
  let c0_2493 : Index := 0#32
  ![v1628.toNat, 0]
def k0_dev53 (d0 : Dev nD) : Nat :=
  let c0_i32_1371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1370 : BitVec 32 := 1#32
  let v900 : BitVec 32 := Scalar.muli v5 c1_i32_1370
  let v901 : BitVec 32 := Scalar.addi c0_i32_1371 v900
  v901.toNat
def k0_dev54 (d0 : Dev nD) : Nat :=
  let c0_i32_1379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1378 : BitVec 32 := 1#32
  let v902 : BitVec 32 := Scalar.muli v7 c1_i32_1378
  let v903 : BitVec 32 := Scalar.addi c0_i32_1379 v902
  v903.toNat
def k0_dev55 (d0 : Dev nD) : Nat :=
  let c0_i32_1391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1390 : BitVec 32 := 1#32
  let v912 : BitVec 32 := Scalar.muli v7 c1_i32_1390
  let v913 : BitVec 32 := Scalar.addi c0_i32_1391 v912
  v913.toNat
@[reducible] def k0_t18_loop : Scf.Loop 32 :=
  let c0_i32_1398 : BitVec 32 := 0#32
  let c64_i32_1399 : BitVec 32 := 64#32
  let v922 : BitVec 32 := Scalar.addi c0_i32_1398 c64_i32_1399
  let c1_i32_1400 : BitVec 32 := 1#32
  ⟨c0_i32_1398, v922, c1_i32_1400⟩
def k0_off52 (k0_t18 : Fin k0_t18_loop.trips) : Fin 3 → Nat :=
  let c0_i32_1398 : BitVec 32 := 0#32
  let c1_i32_1400 : BitVec 32 := 1#32
  let arg14 : BitVec 32 := Scf.iv c0_i32_1398 c1_i32_1400 k0_t18
  let v1616 : Index := Scalar.indexCast arg14
  let c0_2483 : Index := 0#32
  let c0_2484 : Index := 0#32
  ![v1616.toNat, 0, 0]
def k0_off53 (k0_t18 : Fin k0_t18_loop.trips) : Fin 4 → Nat :=
  let c1 : Index := 1#32
  let c0_i32_1398 : BitVec 32 := 0#32
  let c1_i32_1400 : BitVec 32 := 1#32
  let arg14 : BitVec 32 := Scf.iv c0_i32_1398 c1_i32_1400 k0_t18
  let v1619 : Index := Scalar.indexCast arg14
  let c0_2485 : Index := 0#32
  let c0_2486 : Index := 0#32
  ![1, v1619.toNat, 0, 0]
def k0_off54 (k0_t18 : Fin k0_t18_loop.trips) : Fin 2 → Nat :=
  let c0_i32_1398 : BitVec 32 := 0#32
  let c1_i32_1400 : BitVec 32 := 1#32
  let arg14 : BitVec 32 := Scf.iv c0_i32_1398 c1_i32_1400 k0_t18
  let v1628 : Index := Scalar.indexCast arg14
  let c0_2492 : Index := 0#32
  ![v1628.toNat, 0]
def k0_dev56 (d0 : Dev nD) : Nat :=
  let c0_i32_1450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1449 : BitVec 32 := 1#32
  let v951 : BitVec 32 := Scalar.muli v5 c1_i32_1449
  let v952 : BitVec 32 := Scalar.addi c0_i32_1450 v951
  v952.toNat
def k0_dev57 (d0 : Dev nD) : Nat :=
  let c0_i32_1458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1457 : BitVec 32 := 1#32
  let v953 : BitVec 32 := Scalar.muli v7 c1_i32_1457
  let v954 : BitVec 32 := Scalar.addi c0_i32_1458 v953
  v954.toNat
def k0_dev58 (d0 : Dev nD) : Nat :=
  let c0_i32_1470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1469 : BitVec 32 := 1#32
  let v963 : BitVec 32 := Scalar.muli v7 c1_i32_1469
  let v964 : BitVec 32 := Scalar.addi c0_i32_1470 v963
  v964.toNat
@[reducible] def k0_t19_loop : Scf.Loop 32 :=
  let c0_i32_1477 : BitVec 32 := 0#32
  let c64_i32_1478 : BitVec 32 := 64#32
  let v973 : BitVec 32 := Scalar.addi c0_i32_1477 c64_i32_1478
  let c1_i32_1479 : BitVec 32 := 1#32
  ⟨c0_i32_1477, v973, c1_i32_1479⟩
def k0_off55 (k0_t19 : Fin k0_t19_loop.trips) : Fin 3 → Nat :=
  let c0_i32_1477 : BitVec 32 := 0#32
  let c1_i32_1479 : BitVec 32 := 1#32
  let arg14 : BitVec 32 := Scf.iv c0_i32_1477 c1_i32_1479 k0_t19
  let v1616 : Index := Scalar.indexCast arg14
  let c0_2483 : Index := 0#32
  let c0_2484 : Index := 0#32
  ![v1616.toNat, 0, 0]
def k0_off56 (k0_t19 : Fin k0_t19_loop.trips) : Fin 4 → Nat :=
  let c0_2485 : Index := 0#32
  let c0_i32_1477 : BitVec 32 := 0#32
  let c1_i32_1479 : BitVec 32 := 1#32
  let arg14 : BitVec 32 := Scf.iv c0_i32_1477 c1_i32_1479 k0_t19
  let v1619 : Index := Scalar.indexCast arg14
  let c0_2486 : Index := 0#32
  let c0_2487 : Index := 0#32
  ![0, v1619.toNat, 0, 0]
def k0_off57 (k0_t19 : Fin k0_t19_loop.trips) : Fin 2 → Nat :=
  let c0_i32_1477 : BitVec 32 := 0#32
  let c1_i32_1479 : BitVec 32 := 1#32
  let arg14 : BitVec 32 := Scf.iv c0_i32_1477 c1_i32_1479 k0_t19
  let v1628 : Index := Scalar.indexCast arg14
  let c0_2493 : Index := 0#32
  ![v1628.toNat, 0]
def k0_dev59 (d0 : Dev nD) : Nat :=
  let c0_i32_1529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1528 : BitVec 32 := 1#32
  let v1002 : BitVec 32 := Scalar.muli v5 c1_i32_1528
  let v1003 : BitVec 32 := Scalar.addi c0_i32_1529 v1002
  v1003.toNat
def k0_dev60 (d0 : Dev nD) : Nat :=
  let c0_i32_1537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1536 : BitVec 32 := 1#32
  let v1004 : BitVec 32 := Scalar.muli v7 c1_i32_1536
  let v1005 : BitVec 32 := Scalar.addi c0_i32_1537 v1004
  v1005.toNat
def k0_dev61 (d0 : Dev nD) : Nat :=
  let c0_i32_1549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1548 : BitVec 32 := 1#32
  let v1014 : BitVec 32 := Scalar.muli v7 c1_i32_1548
  let v1015 : BitVec 32 := Scalar.addi c0_i32_1549 v1014
  v1015.toNat
@[reducible] def k0_t20_loop : Scf.Loop 32 :=
  let c0_i32_1556 : BitVec 32 := 0#32
  let c64_i32_1557 : BitVec 32 := 64#32
  let v1024 : BitVec 32 := Scalar.addi c0_i32_1556 c64_i32_1557
  let c1_i32_1558 : BitVec 32 := 1#32
  ⟨c0_i32_1556, v1024, c1_i32_1558⟩
def k0_off58 (k0_t20 : Fin k0_t20_loop.trips) : Fin 3 → Nat :=
  let c0_i32_1556 : BitVec 32 := 0#32
  let c1_i32_1558 : BitVec 32 := 1#32
  let arg14 : BitVec 32 := Scf.iv c0_i32_1556 c1_i32_1558 k0_t20
  let v1616 : Index := Scalar.indexCast arg14
  let c0_2483 : Index := 0#32
  let c0_2484 : Index := 0#32
  ![v1616.toNat, 0, 0]
def k0_off59 (k0_t20 : Fin k0_t20_loop.trips) : Fin 4 → Nat :=
  let c1 : Index := 1#32
  let c0_i32_1556 : BitVec 32 := 0#32
  let c1_i32_1558 : BitVec 32 := 1#32
  let arg14 : BitVec 32 := Scf.iv c0_i32_1556 c1_i32_1558 k0_t20
  let v1619 : Index := Scalar.indexCast arg14
  let c0_2485 : Index := 0#32
  let c0_2486 : Index := 0#32
  ![1, v1619.toNat, 0, 0]
def k0_off60 (k0_t20 : Fin k0_t20_loop.trips) : Fin 2 → Nat :=
  let c0_i32_1556 : BitVec 32 := 0#32
  let c1_i32_1558 : BitVec 32 := 1#32
  let arg14 : BitVec 32 := Scf.iv c0_i32_1556 c1_i32_1558 k0_t20
  let v1628 : Index := Scalar.indexCast arg14
  let c0_2492 : Index := 0#32
  ![v1628.toNat, 0]
def k0_dev62 (d0 : Dev nD) : Nat :=
  let c0_i32_1608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1607 : BitVec 32 := 1#32
  let v1053 : BitVec 32 := Scalar.muli v5 c1_i32_1607
  let v1054 : BitVec 32 := Scalar.addi c0_i32_1608 v1053
  v1054.toNat
def k0_dev63 (d0 : Dev nD) : Nat :=
  let c0_i32_1616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1615 : BitVec 32 := 1#32
  let v1055 : BitVec 32 := Scalar.muli v7 c1_i32_1615
  let v1056 : BitVec 32 := Scalar.addi c0_i32_1616 v1055
  v1056.toNat
def k0_dev64 (d0 : Dev nD) : Nat :=
  let c0_i32_1628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1627 : BitVec 32 := 1#32
  let v1065 : BitVec 32 := Scalar.muli v7 c1_i32_1627
  let v1066 : BitVec 32 := Scalar.addi c0_i32_1628 v1065
  v1066.toNat
@[reducible] def k0_t21_loop : Scf.Loop 32 :=
  let c0_i32_1635 : BitVec 32 := 0#32
  let c64_i32_1636 : BitVec 32 := 64#32
  let v1075 : BitVec 32 := Scalar.addi c0_i32_1635 c64_i32_1636
  let c1_i32_1637 : BitVec 32 := 1#32
  ⟨c0_i32_1635, v1075, c1_i32_1637⟩
def k0_off61 (k0_t21 : Fin k0_t21_loop.trips) : Fin 3 → Nat :=
  let c0_i32_1635 : BitVec 32 := 0#32
  let c1_i32_1637 : BitVec 32 := 1#32
  let arg14 : BitVec 32 := Scf.iv c0_i32_1635 c1_i32_1637 k0_t21
  let v1616 : Index := Scalar.indexCast arg14
  let c0_2483 : Index := 0#32
  let c0_2484 : Index := 0#32
  ![v1616.toNat, 0, 0]
def k0_off62 (k0_t21 : Fin k0_t21_loop.trips) : Fin 4 → Nat :=
  let c0_2485 : Index := 0#32
  let c0_i32_1635 : BitVec 32 := 0#32
  let c1_i32_1637 : BitVec 32 := 1#32
  let arg14 : BitVec 32 := Scf.iv c0_i32_1635 c1_i32_1637 k0_t21
  let v1619 : Index := Scalar.indexCast arg14
  let c0_2486 : Index := 0#32
  let c0_2487 : Index := 0#32
  ![0, v1619.toNat, 0, 0]
def k0_off63 (k0_t21 : Fin k0_t21_loop.trips) : Fin 2 → Nat :=
  let c0_i32_1635 : BitVec 32 := 0#32
  let c1_i32_1637 : BitVec 32 := 1#32
  let arg14 : BitVec 32 := Scf.iv c0_i32_1635 c1_i32_1637 k0_t21
  let v1628 : Index := Scalar.indexCast arg14
  let c0_2493 : Index := 0#32
  ![v1628.toNat, 0]
def k0_dev65 (d0 : Dev nD) : Nat :=
  let c0_i32_1687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1686 : BitVec 32 := 1#32
  let v1104 : BitVec 32 := Scalar.muli v5 c1_i32_1686
  let v1105 : BitVec 32 := Scalar.addi c0_i32_1687 v1104
  v1105.toNat
def k0_dev66 (d0 : Dev nD) : Nat :=
  let c0_i32_1695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1694 : BitVec 32 := 1#32
  let v1106 : BitVec 32 := Scalar.muli v7 c1_i32_1694
  let v1107 : BitVec 32 := Scalar.addi c0_i32_1695 v1106
  v1107.toNat
def k0_dev67 (d0 : Dev nD) : Nat :=
  let c0_i32_1707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1706 : BitVec 32 := 1#32
  let v1116 : BitVec 32 := Scalar.muli v7 c1_i32_1706
  let v1117 : BitVec 32 := Scalar.addi c0_i32_1707 v1116
  v1117.toNat
@[reducible] def k0_t22_loop : Scf.Loop 32 :=
  let c0_i32_1714 : BitVec 32 := 0#32
  let c64_i32_1715 : BitVec 32 := 64#32
  let v1126 : BitVec 32 := Scalar.addi c0_i32_1714 c64_i32_1715
  let c1_i32_1716 : BitVec 32 := 1#32
  ⟨c0_i32_1714, v1126, c1_i32_1716⟩
def k0_off64 (k0_t22 : Fin k0_t22_loop.trips) : Fin 3 → Nat :=
  let c0_i32_1714 : BitVec 32 := 0#32
  let c1_i32_1716 : BitVec 32 := 1#32
  let arg14 : BitVec 32 := Scf.iv c0_i32_1714 c1_i32_1716 k0_t22
  let v1616 : Index := Scalar.indexCast arg14
  let c0_2483 : Index := 0#32
  let c0_2484 : Index := 0#32
  ![v1616.toNat, 0, 0]
def k0_off65 (k0_t22 : Fin k0_t22_loop.trips) : Fin 4 → Nat :=
  let c1 : Index := 1#32
  let c0_i32_1714 : BitVec 32 := 0#32
  let c1_i32_1716 : BitVec 32 := 1#32
  let arg14 : BitVec 32 := Scf.iv c0_i32_1714 c1_i32_1716 k0_t22
  let v1619 : Index := Scalar.indexCast arg14
  let c0_2485 : Index := 0#32
  let c0_2486 : Index := 0#32
  ![1, v1619.toNat, 0, 0]
def k0_off66 (k0_t22 : Fin k0_t22_loop.trips) : Fin 2 → Nat :=
  let c0_i32_1714 : BitVec 32 := 0#32
  let c1_i32_1716 : BitVec 32 := 1#32
  let arg14 : BitVec 32 := Scf.iv c0_i32_1714 c1_i32_1716 k0_t22
  let v1628 : Index := Scalar.indexCast arg14
  let c0_2492 : Index := 0#32
  ![v1628.toNat, 0]
def k0_dev68 (d0 : Dev nD) : Nat :=
  let c0_i32_1766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1765 : BitVec 32 := 1#32
  let v1155 : BitVec 32 := Scalar.muli v5 c1_i32_1765
  let v1156 : BitVec 32 := Scalar.addi c0_i32_1766 v1155
  v1156.toNat
def k0_dev69 (d0 : Dev nD) : Nat :=
  let c0_i32_1774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1773 : BitVec 32 := 1#32
  let v1157 : BitVec 32 := Scalar.muli v7 c1_i32_1773
  let v1158 : BitVec 32 := Scalar.addi c0_i32_1774 v1157
  v1158.toNat
def k0_dev70 (d0 : Dev nD) : Nat :=
  let c0_i32_1786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1785 : BitVec 32 := 1#32
  let v1167 : BitVec 32 := Scalar.muli v7 c1_i32_1785
  let v1168 : BitVec 32 := Scalar.addi c0_i32_1786 v1167
  v1168.toNat
@[reducible] def k0_t23_loop : Scf.Loop 32 :=
  let c0_i32_1793 : BitVec 32 := 0#32
  let c64_i32_1794 : BitVec 32 := 64#32
  let v1177 : BitVec 32 := Scalar.addi c0_i32_1793 c64_i32_1794
  let c1_i32_1795 : BitVec 32 := 1#32
  ⟨c0_i32_1793, v1177, c1_i32_1795⟩
def k0_off67 (k0_t23 : Fin k0_t23_loop.trips) : Fin 3 → Nat :=
  let c0_i32_1793 : BitVec 32 := 0#32
  let c1_i32_1795 : BitVec 32 := 1#32
  let arg14 : BitVec 32 := Scf.iv c0_i32_1793 c1_i32_1795 k0_t23
  let v1616 : Index := Scalar.indexCast arg14
  let c0_2483 : Index := 0#32
  let c0_2484 : Index := 0#32
  ![v1616.toNat, 0, 0]
def k0_off68 (k0_t23 : Fin k0_t23_loop.trips) : Fin 4 → Nat :=
  let c0_2485 : Index := 0#32
  let c0_i32_1793 : BitVec 32 := 0#32
  let c1_i32_1795 : BitVec 32 := 1#32
  let arg14 : BitVec 32 := Scf.iv c0_i32_1793 c1_i32_1795 k0_t23
  let v1619 : Index := Scalar.indexCast arg14
  let c0_2486 : Index := 0#32
  let c0_2487 : Index := 0#32
  ![0, v1619.toNat, 0, 0]
def k0_off69 (k0_t23 : Fin k0_t23_loop.trips) : Fin 2 → Nat :=
  let c0_i32_1793 : BitVec 32 := 0#32
  let c1_i32_1795 : BitVec 32 := 1#32
  let arg14 : BitVec 32 := Scf.iv c0_i32_1793 c1_i32_1795 k0_t23
  let v1628 : Index := Scalar.indexCast arg14
  let c0_2493 : Index := 0#32
  ![v1628.toNat, 0]
def k0_dev71 (d0 : Dev nD) : Nat :=
  let c0_i32_1845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1844 : BitVec 32 := 1#32
  let v1206 : BitVec 32 := Scalar.muli v5 c1_i32_1844
  let v1207 : BitVec 32 := Scalar.addi c0_i32_1845 v1206
  v1207.toNat
def k0_dev72 (d0 : Dev nD) : Nat :=
  let c0_i32_1853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1852 : BitVec 32 := 1#32
  let v1208 : BitVec 32 := Scalar.muli v7 c1_i32_1852
  let v1209 : BitVec 32 := Scalar.addi c0_i32_1853 v1208
  v1209.toNat
def k0_dev73 (d0 : Dev nD) : Nat :=
  let c0_i32_1865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1864 : BitVec 32 := 1#32
  let v1218 : BitVec 32 := Scalar.muli v7 c1_i32_1864
  let v1219 : BitVec 32 := Scalar.addi c0_i32_1865 v1218
  v1219.toNat
@[reducible] def k0_t24_loop : Scf.Loop 32 :=
  let c0_i32_1872 : BitVec 32 := 0#32
  let c64_i32_1873 : BitVec 32 := 64#32
  let v1228 : BitVec 32 := Scalar.addi c0_i32_1872 c64_i32_1873
  let c1_i32_1874 : BitVec 32 := 1#32
  ⟨c0_i32_1872, v1228, c1_i32_1874⟩
def k0_off70 (k0_t24 : Fin k0_t24_loop.trips) : Fin 3 → Nat :=
  let c0_i32_1872 : BitVec 32 := 0#32
  let c1_i32_1874 : BitVec 32 := 1#32
  let arg14 : BitVec 32 := Scf.iv c0_i32_1872 c1_i32_1874 k0_t24
  let v1616 : Index := Scalar.indexCast arg14
  let c0_2483 : Index := 0#32
  let c0_2484 : Index := 0#32
  ![v1616.toNat, 0, 0]
def k0_off71 (k0_t24 : Fin k0_t24_loop.trips) : Fin 4 → Nat :=
  let c1 : Index := 1#32
  let c0_i32_1872 : BitVec 32 := 0#32
  let c1_i32_1874 : BitVec 32 := 1#32
  let arg14 : BitVec 32 := Scf.iv c0_i32_1872 c1_i32_1874 k0_t24
  let v1619 : Index := Scalar.indexCast arg14
  let c0_2485 : Index := 0#32
  let c0_2486 : Index := 0#32
  ![1, v1619.toNat, 0, 0]
def k0_off72 (k0_t24 : Fin k0_t24_loop.trips) : Fin 2 → Nat :=
  let c0_i32_1872 : BitVec 32 := 0#32
  let c1_i32_1874 : BitVec 32 := 1#32
  let arg14 : BitVec 32 := Scf.iv c0_i32_1872 c1_i32_1874 k0_t24
  let v1628 : Index := Scalar.indexCast arg14
  let c0_2492 : Index := 0#32
  ![v1628.toNat, 0]
def k0_dev74 (d0 : Dev nD) : Nat :=
  let c0_i32_1924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1923 : BitVec 32 := 1#32
  let v1257 : BitVec 32 := Scalar.muli v5 c1_i32_1923
  let v1258 : BitVec 32 := Scalar.addi c0_i32_1924 v1257
  v1258.toNat
def k0_dev75 (d0 : Dev nD) : Nat :=
  let c0_i32_1932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1931 : BitVec 32 := 1#32
  let v1259 : BitVec 32 := Scalar.muli v7 c1_i32_1931
  let v1260 : BitVec 32 := Scalar.addi c0_i32_1932 v1259
  v1260.toNat
def k0_dev76 (d0 : Dev nD) : Nat :=
  let c0_i32_1944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1943 : BitVec 32 := 1#32
  let v1269 : BitVec 32 := Scalar.muli v7 c1_i32_1943
  let v1270 : BitVec 32 := Scalar.addi c0_i32_1944 v1269
  v1270.toNat
@[reducible] def k0_t25_loop : Scf.Loop 32 :=
  let c0_i32_1951 : BitVec 32 := 0#32
  let c64_i32_1952 : BitVec 32 := 64#32
  let v1279 : BitVec 32 := Scalar.addi c0_i32_1951 c64_i32_1952
  let c1_i32_1953 : BitVec 32 := 1#32
  ⟨c0_i32_1951, v1279, c1_i32_1953⟩
def k0_off73 (k0_t25 : Fin k0_t25_loop.trips) : Fin 3 → Nat :=
  let c0_i32_1951 : BitVec 32 := 0#32
  let c1_i32_1953 : BitVec 32 := 1#32
  let arg14 : BitVec 32 := Scf.iv c0_i32_1951 c1_i32_1953 k0_t25
  let v1616 : Index := Scalar.indexCast arg14
  let c0_2483 : Index := 0#32
  let c0_2484 : Index := 0#32
  ![v1616.toNat, 0, 0]
def k0_off74 (k0_t25 : Fin k0_t25_loop.trips) : Fin 4 → Nat :=
  let c0_2485 : Index := 0#32
  let c0_i32_1951 : BitVec 32 := 0#32
  let c1_i32_1953 : BitVec 32 := 1#32
  let arg14 : BitVec 32 := Scf.iv c0_i32_1951 c1_i32_1953 k0_t25
  let v1619 : Index := Scalar.indexCast arg14
  let c0_2486 : Index := 0#32
  let c0_2487 : Index := 0#32
  ![0, v1619.toNat, 0, 0]
def k0_off75 (k0_t25 : Fin k0_t25_loop.trips) : Fin 2 → Nat :=
  let c0_i32_1951 : BitVec 32 := 0#32
  let c1_i32_1953 : BitVec 32 := 1#32
  let arg14 : BitVec 32 := Scf.iv c0_i32_1951 c1_i32_1953 k0_t25
  let v1628 : Index := Scalar.indexCast arg14
  let c0_2493 : Index := 0#32
  ![v1628.toNat, 0]
def k0_dev77 (d0 : Dev nD) : Nat :=
  let c0_i32_2003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2002 : BitVec 32 := 1#32
  let v1308 : BitVec 32 := Scalar.muli v5 c1_i32_2002
  let v1309 : BitVec 32 := Scalar.addi c0_i32_2003 v1308
  v1309.toNat
def k0_dev78 (d0 : Dev nD) : Nat :=
  let c0_i32_2011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2010 : BitVec 32 := 1#32
  let v1310 : BitVec 32 := Scalar.muli v7 c1_i32_2010
  let v1311 : BitVec 32 := Scalar.addi c0_i32_2011 v1310
  v1311.toNat
def k0_dev79 (d0 : Dev nD) : Nat :=
  let c0_i32_2023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2022 : BitVec 32 := 1#32
  let v1320 : BitVec 32 := Scalar.muli v7 c1_i32_2022
  let v1321 : BitVec 32 := Scalar.addi c0_i32_2023 v1320
  v1321.toNat
@[reducible] def k0_t26_loop : Scf.Loop 32 :=
  let c0_i32_2030 : BitVec 32 := 0#32
  let c64_i32_2031 : BitVec 32 := 64#32
  let v1330 : BitVec 32 := Scalar.addi c0_i32_2030 c64_i32_2031
  let c1_i32_2032 : BitVec 32 := 1#32
  ⟨c0_i32_2030, v1330, c1_i32_2032⟩
def k0_off76 (k0_t26 : Fin k0_t26_loop.trips) : Fin 3 → Nat :=
  let c0_i32_2030 : BitVec 32 := 0#32
  let c1_i32_2032 : BitVec 32 := 1#32
  let arg14 : BitVec 32 := Scf.iv c0_i32_2030 c1_i32_2032 k0_t26
  let v1616 : Index := Scalar.indexCast arg14
  let c0_2483 : Index := 0#32
  let c0_2484 : Index := 0#32
  ![v1616.toNat, 0, 0]
def k0_off77 (k0_t26 : Fin k0_t26_loop.trips) : Fin 4 → Nat :=
  let c1 : Index := 1#32
  let c0_i32_2030 : BitVec 32 := 0#32
  let c1_i32_2032 : BitVec 32 := 1#32
  let arg14 : BitVec 32 := Scf.iv c0_i32_2030 c1_i32_2032 k0_t26
  let v1619 : Index := Scalar.indexCast arg14
  let c0_2485 : Index := 0#32
  let c0_2486 : Index := 0#32
  ![1, v1619.toNat, 0, 0]
def k0_off78 (k0_t26 : Fin k0_t26_loop.trips) : Fin 2 → Nat :=
  let c0_i32_2030 : BitVec 32 := 0#32
  let c1_i32_2032 : BitVec 32 := 1#32
  let arg14 : BitVec 32 := Scf.iv c0_i32_2030 c1_i32_2032 k0_t26
  let v1628 : Index := Scalar.indexCast arg14
  let c0_2492 : Index := 0#32
  ![v1628.toNat, 0]
def k0_dev80 (d0 : Dev nD) : Nat :=
  let c0_i32_2082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2081 : BitVec 32 := 1#32
  let v1359 : BitVec 32 := Scalar.muli v5 c1_i32_2081
  let v1360 : BitVec 32 := Scalar.addi c0_i32_2082 v1359
  v1360.toNat
def k0_dev81 (d0 : Dev nD) : Nat :=
  let c0_i32_2090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2089 : BitVec 32 := 1#32
  let v1361 : BitVec 32 := Scalar.muli v7 c1_i32_2089
  let v1362 : BitVec 32 := Scalar.addi c0_i32_2090 v1361
  v1362.toNat
def k0_dev82 (d0 : Dev nD) : Nat :=
  let c0_i32_2102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2101 : BitVec 32 := 1#32
  let v1371 : BitVec 32 := Scalar.muli v7 c1_i32_2101
  let v1372 : BitVec 32 := Scalar.addi c0_i32_2102 v1371
  v1372.toNat
@[reducible] def k0_t27_loop : Scf.Loop 32 :=
  let c0_i32_2109 : BitVec 32 := 0#32
  let c64_i32_2110 : BitVec 32 := 64#32
  let v1381 : BitVec 32 := Scalar.addi c0_i32_2109 c64_i32_2110
  let c1_i32_2111 : BitVec 32 := 1#32
  ⟨c0_i32_2109, v1381, c1_i32_2111⟩
def k0_off79 (k0_t27 : Fin k0_t27_loop.trips) : Fin 3 → Nat :=
  let c0_i32_2109 : BitVec 32 := 0#32
  let c1_i32_2111 : BitVec 32 := 1#32
  let arg14 : BitVec 32 := Scf.iv c0_i32_2109 c1_i32_2111 k0_t27
  let v1616 : Index := Scalar.indexCast arg14
  let c0_2483 : Index := 0#32
  let c0_2484 : Index := 0#32
  ![v1616.toNat, 0, 0]
def k0_off80 (k0_t27 : Fin k0_t27_loop.trips) : Fin 4 → Nat :=
  let c0_2485 : Index := 0#32
  let c0_i32_2109 : BitVec 32 := 0#32
  let c1_i32_2111 : BitVec 32 := 1#32
  let arg14 : BitVec 32 := Scf.iv c0_i32_2109 c1_i32_2111 k0_t27
  let v1619 : Index := Scalar.indexCast arg14
  let c0_2486 : Index := 0#32
  let c0_2487 : Index := 0#32
  ![0, v1619.toNat, 0, 0]
def k0_off81 (k0_t27 : Fin k0_t27_loop.trips) : Fin 2 → Nat :=
  let c0_i32_2109 : BitVec 32 := 0#32
  let c1_i32_2111 : BitVec 32 := 1#32
  let arg14 : BitVec 32 := Scf.iv c0_i32_2109 c1_i32_2111 k0_t27
  let v1628 : Index := Scalar.indexCast arg14
  let c0_2493 : Index := 0#32
  ![v1628.toNat, 0]
def k0_dev83 (d0 : Dev nD) : Nat :=
  let c0_i32_2161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2160 : BitVec 32 := 1#32
  let v1410 : BitVec 32 := Scalar.muli v5 c1_i32_2160
  let v1411 : BitVec 32 := Scalar.addi c0_i32_2161 v1410
  v1411.toNat
def k0_dev84 (d0 : Dev nD) : Nat :=
  let c0_i32_2169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2168 : BitVec 32 := 1#32
  let v1412 : BitVec 32 := Scalar.muli v7 c1_i32_2168
  let v1413 : BitVec 32 := Scalar.addi c0_i32_2169 v1412
  v1413.toNat
def k0_dev85 (d0 : Dev nD) : Nat :=
  let c0_i32_2181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2180 : BitVec 32 := 1#32
  let v1422 : BitVec 32 := Scalar.muli v7 c1_i32_2180
  let v1423 : BitVec 32 := Scalar.addi c0_i32_2181 v1422
  v1423.toNat
@[reducible] def k0_t28_loop : Scf.Loop 32 :=
  let c0_i32_2188 : BitVec 32 := 0#32
  let c64_i32_2189 : BitVec 32 := 64#32
  let v1432 : BitVec 32 := Scalar.addi c0_i32_2188 c64_i32_2189
  let c1_i32_2190 : BitVec 32 := 1#32
  ⟨c0_i32_2188, v1432, c1_i32_2190⟩
def k0_off82 (k0_t28 : Fin k0_t28_loop.trips) : Fin 3 → Nat :=
  let c0_i32_2188 : BitVec 32 := 0#32
  let c1_i32_2190 : BitVec 32 := 1#32
  let arg14 : BitVec 32 := Scf.iv c0_i32_2188 c1_i32_2190 k0_t28
  let v1616 : Index := Scalar.indexCast arg14
  let c0_2483 : Index := 0#32
  let c0_2484 : Index := 0#32
  ![v1616.toNat, 0, 0]
def k0_off83 (k0_t28 : Fin k0_t28_loop.trips) : Fin 4 → Nat :=
  let c1 : Index := 1#32
  let c0_i32_2188 : BitVec 32 := 0#32
  let c1_i32_2190 : BitVec 32 := 1#32
  let arg14 : BitVec 32 := Scf.iv c0_i32_2188 c1_i32_2190 k0_t28
  let v1619 : Index := Scalar.indexCast arg14
  let c0_2485 : Index := 0#32
  let c0_2486 : Index := 0#32
  ![1, v1619.toNat, 0, 0]
def k0_off84 (k0_t28 : Fin k0_t28_loop.trips) : Fin 2 → Nat :=
  let c0_i32_2188 : BitVec 32 := 0#32
  let c1_i32_2190 : BitVec 32 := 1#32
  let arg14 : BitVec 32 := Scf.iv c0_i32_2188 c1_i32_2190 k0_t28
  let v1628 : Index := Scalar.indexCast arg14
  let c0_2492 : Index := 0#32
  ![v1628.toNat, 0]
def k0_dev86 (d0 : Dev nD) : Nat :=
  let c0_i32_2240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2239 : BitVec 32 := 1#32
  let v1461 : BitVec 32 := Scalar.muli v5 c1_i32_2239
  let v1462 : BitVec 32 := Scalar.addi c0_i32_2240 v1461
  v1462.toNat
def k0_dev87 (d0 : Dev nD) : Nat :=
  let c0_i32_2248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2247 : BitVec 32 := 1#32
  let v1463 : BitVec 32 := Scalar.muli v7 c1_i32_2247
  let v1464 : BitVec 32 := Scalar.addi c0_i32_2248 v1463
  v1464.toNat
def k0_dev88 (d0 : Dev nD) : Nat :=
  let c0_i32_2260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2259 : BitVec 32 := 1#32
  let v1473 : BitVec 32 := Scalar.muli v7 c1_i32_2259
  let v1474 : BitVec 32 := Scalar.addi c0_i32_2260 v1473
  v1474.toNat
@[reducible] def k0_t29_loop : Scf.Loop 32 :=
  let c0_i32_2267 : BitVec 32 := 0#32
  let c64_i32_2268 : BitVec 32 := 64#32
  let v1483 : BitVec 32 := Scalar.addi c0_i32_2267 c64_i32_2268
  let c1_i32_2269 : BitVec 32 := 1#32
  ⟨c0_i32_2267, v1483, c1_i32_2269⟩
def k0_off85 (k0_t29 : Fin k0_t29_loop.trips) : Fin 3 → Nat :=
  let c0_i32_2267 : BitVec 32 := 0#32
  let c1_i32_2269 : BitVec 32 := 1#32
  let arg14 : BitVec 32 := Scf.iv c0_i32_2267 c1_i32_2269 k0_t29
  let v1616 : Index := Scalar.indexCast arg14
  let c0_2483 : Index := 0#32
  let c0_2484 : Index := 0#32
  ![v1616.toNat, 0, 0]
def k0_off86 (k0_t29 : Fin k0_t29_loop.trips) : Fin 4 → Nat :=
  let c0_2485 : Index := 0#32
  let c0_i32_2267 : BitVec 32 := 0#32
  let c1_i32_2269 : BitVec 32 := 1#32
  let arg14 : BitVec 32 := Scf.iv c0_i32_2267 c1_i32_2269 k0_t29
  let v1619 : Index := Scalar.indexCast arg14
  let c0_2486 : Index := 0#32
  let c0_2487 : Index := 0#32
  ![0, v1619.toNat, 0, 0]
def k0_off87 (k0_t29 : Fin k0_t29_loop.trips) : Fin 2 → Nat :=
  let c0_i32_2267 : BitVec 32 := 0#32
  let c1_i32_2269 : BitVec 32 := 1#32
  let arg14 : BitVec 32 := Scf.iv c0_i32_2267 c1_i32_2269 k0_t29
  let v1628 : Index := Scalar.indexCast arg14
  let c0_2493 : Index := 0#32
  ![v1628.toNat, 0]
def k0_dev89 (d0 : Dev nD) : Nat :=
  let c0_i32_2319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2318 : BitVec 32 := 1#32
  let v1512 : BitVec 32 := Scalar.muli v5 c1_i32_2318
  let v1513 : BitVec 32 := Scalar.addi c0_i32_2319 v1512
  v1513.toNat
def k0_dev90 (d0 : Dev nD) : Nat :=
  let c0_i32_2327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2326 : BitVec 32 := 1#32
  let v1514 : BitVec 32 := Scalar.muli v7 c1_i32_2326
  let v1515 : BitVec 32 := Scalar.addi c0_i32_2327 v1514
  v1515.toNat
def k0_dev91 (d0 : Dev nD) : Nat :=
  let c0_i32_2339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2338 : BitVec 32 := 1#32
  let v1524 : BitVec 32 := Scalar.muli v7 c1_i32_2338
  let v1525 : BitVec 32 := Scalar.addi c0_i32_2339 v1524
  v1525.toNat
@[reducible] def k0_t30_loop : Scf.Loop 32 :=
  let c0_i32_2346 : BitVec 32 := 0#32
  let c64_i32_2347 : BitVec 32 := 64#32
  let v1534 : BitVec 32 := Scalar.addi c0_i32_2346 c64_i32_2347
  let c1_i32_2348 : BitVec 32 := 1#32
  ⟨c0_i32_2346, v1534, c1_i32_2348⟩
def k0_off88 (k0_t30 : Fin k0_t30_loop.trips) : Fin 3 → Nat :=
  let c0_i32_2346 : BitVec 32 := 0#32
  let c1_i32_2348 : BitVec 32 := 1#32
  let arg14 : BitVec 32 := Scf.iv c0_i32_2346 c1_i32_2348 k0_t30
  let v1616 : Index := Scalar.indexCast arg14
  let c0_2483 : Index := 0#32
  let c0_2484 : Index := 0#32
  ![v1616.toNat, 0, 0]
def k0_off89 (k0_t30 : Fin k0_t30_loop.trips) : Fin 4 → Nat :=
  let c1 : Index := 1#32
  let c0_i32_2346 : BitVec 32 := 0#32
  let c1_i32_2348 : BitVec 32 := 1#32
  let arg14 : BitVec 32 := Scf.iv c0_i32_2346 c1_i32_2348 k0_t30
  let v1619 : Index := Scalar.indexCast arg14
  let c0_2485 : Index := 0#32
  let c0_2486 : Index := 0#32
  ![1, v1619.toNat, 0, 0]
def k0_off90 (k0_t30 : Fin k0_t30_loop.trips) : Fin 2 → Nat :=
  let c0_i32_2346 : BitVec 32 := 0#32
  let c1_i32_2348 : BitVec 32 := 1#32
  let arg14 : BitVec 32 := Scf.iv c0_i32_2346 c1_i32_2348 k0_t30
  let v1628 : Index := Scalar.indexCast arg14
  let c0_2492 : Index := 0#32
  ![v1628.toNat, 0]
def k0_dev92 (d0 : Dev nD) : Nat :=
  let c0_i32_2398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2397 : BitVec 32 := 1#32
  let v1563 : BitVec 32 := Scalar.muli v5 c1_i32_2397
  let v1564 : BitVec 32 := Scalar.addi c0_i32_2398 v1563
  v1564.toNat
def k0_dev93 (d0 : Dev nD) : Nat :=
  let c0_i32_2406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2405 : BitVec 32 := 1#32
  let v1565 : BitVec 32 := Scalar.muli v7 c1_i32_2405
  let v1566 : BitVec 32 := Scalar.addi c0_i32_2406 v1565
  v1566.toNat
def k0_dev94 (d0 : Dev nD) : Nat :=
  let c0_i32_2418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2417 : BitVec 32 := 1#32
  let v1575 : BitVec 32 := Scalar.muli v7 c1_i32_2417
  let v1576 : BitVec 32 := Scalar.addi c0_i32_2418 v1575
  v1576.toNat
@[reducible] def k0_t31_loop : Scf.Loop 32 :=
  let c0_i32_2425 : BitVec 32 := 0#32
  let c64_i32_2426 : BitVec 32 := 64#32
  let v1585 : BitVec 32 := Scalar.addi c0_i32_2425 c64_i32_2426
  let c1_i32_2427 : BitVec 32 := 1#32
  ⟨c0_i32_2425, v1585, c1_i32_2427⟩
def k0_off91 (k0_t31 : Fin k0_t31_loop.trips) : Fin 3 → Nat :=
  let c0_i32_2425 : BitVec 32 := 0#32
  let c1_i32_2427 : BitVec 32 := 1#32
  let arg14 : BitVec 32 := Scf.iv c0_i32_2425 c1_i32_2427 k0_t31
  let v1616 : Index := Scalar.indexCast arg14
  let c0_2483 : Index := 0#32
  let c0_2484 : Index := 0#32
  ![v1616.toNat, 0, 0]
def k0_off92 (k0_t31 : Fin k0_t31_loop.trips) : Fin 4 → Nat :=
  let c0_2485 : Index := 0#32
  let c0_i32_2425 : BitVec 32 := 0#32
  let c1_i32_2427 : BitVec 32 := 1#32
  let arg14 : BitVec 32 := Scf.iv c0_i32_2425 c1_i32_2427 k0_t31
  let v1619 : Index := Scalar.indexCast arg14
  let c0_2486 : Index := 0#32
  let c0_2487 : Index := 0#32
  ![0, v1619.toNat, 0, 0]
def k0_off93 (k0_t31 : Fin k0_t31_loop.trips) : Fin 2 → Nat :=
  let c0_i32_2425 : BitVec 32 := 0#32
  let c1_i32_2427 : BitVec 32 := 1#32
  let arg14 : BitVec 32 := Scf.iv c0_i32_2425 c1_i32_2427 k0_t31
  let v1628 : Index := Scalar.indexCast arg14
  let c0_2493 : Index := 0#32
  ![v1628.toNat, 0]
@[reducible] def k0_t32_loop : Scf.Loop 32 :=
  let c0_i32_2475 : BitVec 32 := 0#32
  let c64_i32_2476 : BitVec 32 := 64#32
  let v1614 : BitVec 32 := Scalar.addi c0_i32_2475 c64_i32_2476
  let c1_i32_2477 : BitVec 32 := 1#32
  ⟨c0_i32_2475, v1614, c1_i32_2477⟩
def k0_off94 (k0_t32 : Fin k0_t32_loop.trips) : Fin 3 → Nat :=
  let c0_i32_2475 : BitVec 32 := 0#32
  let c1_i32_2477 : BitVec 32 := 1#32
  let arg14 : BitVec 32 := Scf.iv c0_i32_2475 c1_i32_2477 k0_t32
  let v1616 : Index := Scalar.indexCast arg14
  let c0_2483 : Index := 0#32
  let c0_2484 : Index := 0#32
  ![v1616.toNat, 0, 0]
def k0_off95 (k0_t32 : Fin k0_t32_loop.trips) : Fin 4 → Nat :=
  let c1 : Index := 1#32
  let c0_i32_2475 : BitVec 32 := 0#32
  let c1_i32_2477 : BitVec 32 := 1#32
  let arg14 : BitVec 32 := Scf.iv c0_i32_2475 c1_i32_2477 k0_t32
  let v1619 : Index := Scalar.indexCast arg14
  let c0_2485 : Index := 0#32
  let c0_2486 : Index := 0#32
  ![1, v1619.toNat, 0, 0]
def k0_off96 (k0_t32 : Fin k0_t32_loop.trips) : Fin 2 → Nat :=
  let c0_i32_2475 : BitVec 32 := 0#32
  let c1_i32_2477 : BitVec 32 := 1#32
  let arg14 : BitVec 32 := Scf.iv c0_i32_2475 c1_i32_2477 k0_t32
  let v1628 : Index := Scalar.indexCast arg14
  let c0_2492 : Index := 0#32
  ![v1628.toNat, 0]
@[reducible] def k0_t33_loop : Scf.Loop 32 :=
  let c0_i32_2479 : BitVec 32 := 0#32
  let c64_i32_2480 : BitVec 32 := 64#32
  let v1615 : BitVec 32 := Scalar.addi c0_i32_2479 c64_i32_2480
  let c1_i32_2481 : BitVec 32 := 1#32
  ⟨c0_i32_2479, v1615, c1_i32_2481⟩
def k0_off97 (k0_t33 : Fin k0_t33_loop.trips) : Fin 3 → Nat :=
  let c0_i32_2479 : BitVec 32 := 0#32
  let c1_i32_2481 : BitVec 32 := 1#32
  let arg14 : BitVec 32 := Scf.iv c0_i32_2479 c1_i32_2481 k0_t33
  let v1616 : Index := Scalar.indexCast arg14
  let c0_2483 : Index := 0#32
  let c0_2484 : Index := 0#32
  ![v1616.toNat, 0, 0]
def k0_off98 (k0_t33 : Fin k0_t33_loop.trips) : Fin 2 → Nat :=
  let c0_i32_2479 : BitVec 32 := 0#32
  let c1_i32_2481 : BitVec 32 := 1#32
  let arg14 : BitVec 32 := Scf.iv c0_i32_2479 c1_i32_2481 k0_t33
  let v1619 : Index := Scalar.indexCast arg14
  let c0_2485 : Index := 0#32
  ![v1619.toNat, 0]
abbrev stage0_0 : Fin 1 → Memref sig .tc .vmem S64x256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x8192x16x64 : Shape := ⟨4, ![4, 8192, 16, 64]⟩
abbrev S4x16x8192x8192 : Shape := ⟨4, ![4, 16, 8192, 8192]⟩
abbrev S_ : Shape := ⟨0, ![]⟩
abbrev S4x16x8192 : Shape := ⟨3, ![4, 16, 8192]⟩
abbrev S4x16x8192x1 : Shape := ⟨4, ![4, 16, 8192, 1]⟩
abbrev S4x16x64x8192 : Shape := ⟨4, ![4, 16, 64, 8192]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x16x64, .f32⟩
  | .hbm, ⟨2, _⟩ => ⟨S4x8192x16x64, .f32⟩
  | .hbm, ⟨3, _⟩ => ⟨S4x16x8192x8192, .f32⟩
  | .hbm, ⟨4, _⟩ => ⟨S_, .f32⟩
  | .hbm, ⟨5, _⟩ => ⟨S4x16x8192x8192, .f32⟩
  | .hbm, ⟨6, _⟩ => ⟨S4x16x8192x8192, .f32⟩
  | .hbm, ⟨7, _⟩ => ⟨S_, .f32⟩
  | .hbm, ⟨8, _⟩ => ⟨S4x16x8192, .f32⟩
  | .hbm, ⟨9, _⟩ => ⟨S4x16x8192x1, .f32⟩
  | .hbm, ⟨10, _⟩ => ⟨S4x16x8192x8192, .f32⟩
  | .hbm, ⟨11, _⟩ => ⟨S4x16x8192x8192, .f32⟩
  | .hbm, ⟨12, _⟩ => ⟨S4x16x8192x8192, .f32⟩
  | .hbm, ⟨13, _⟩ => ⟨S_, .f32⟩
  | .hbm, ⟨14, _⟩ => ⟨S4x16x8192, .f32⟩
  | .hbm, ⟨15, _⟩ => ⟨S4x16x8192x1, .f32⟩
  | .hbm, ⟨16, _⟩ => ⟨S4x16x8192x8192, .f32⟩
  | .hbm, ⟨17, _⟩ => ⟨S4x16x8192x8192, .f32⟩
  | .hbm, ⟨18, _⟩ => ⟨S4x16x64x8192, .f32⟩
  | .hbm, ⟨19, _⟩ => ⟨S4x8192x16x64, .f32⟩
  | _, _ => ⟨S4x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Prog.lean ====
/- The kernel body as a list of statements: a prologue, thirty-one hops, a last block and the
   division. One definition per kind of statement, over the slot it works on. -/
module

public import proofs.«01_k».proof.Proof.Gen.KernelIdeal.Skeleton
public import proofs.«01_k».proof.Proof.Gen.KernelIdeal.Points

@[expose] public section

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-! ## The operands -/

abbrev qM : Memref sig .tc .vmem S64x256x64 .f32 := Memref.whole cc0_stg0_0
abbrev kM : Memref sig .tc .vmem S64x256x64 .f32 := Memref.whole cc0_stg1_0
abbrev vM : Memref sig .tc .vmem S64x256x64 .f32 := Memref.whole cc0_stg2_0
abbrev outM : Memref sig .tc .vmem S64x256x64 .f32 := Memref.whole cc0_stg3_0
abbrev accM : Memref sig .tc .vmem S64x256x64 .f32 := Memref.whole cc0_scratch2
abbrev mxM : Memref sig .tc .vmem S64x256 .f32 := Memref.whole cc0_scratch3
abbrev lM : Memref sig .tc .vmem S64x256 .f32 := Memref.whole cc0_scratch4

/-- The two-slot ring buffer of the keys (`false`) or of the values (`true`). -/
abbrev ringRef : Bool → Ref sig .tc | false => cc0_scratch0 | true => cc0_scratch1
/-- The ring buffer as the kernel is given it. -/
abbrev ringM : Bool → Memref sig .tc .vmem S2x64x256x64 .f32
  | false => Memref.whole cc0_scratch0
  | true => Memref.whole cc0_scratch1
/-- The two send semaphores of a ring buffer. -/
abbrev sendA : Bool → DmaSems sig S2 | false => cc0_scratch5 | true => cc0_scratch7
/-- The two receive semaphores of a ring buffer. -/
abbrev recvA : Bool → DmaSems sig S2 | false => cc0_scratch6 | true => cc0_scratch8

/-- The other slot. -/
abbrev nx : Fin 2 → Fin 2 | 0 => 1 | 1 => 0

/-- Where slot `s` starts in a ring buffer. -/
abbrev slotOff : Fin 2 → Fin 4 → ℕ | 0 => ![0, 0, 0, 0] | 1 => ![1, 0, 0, 0]
theorem slotOff_inb : ∀ (s : Fin 2) (a : Fin 4), slotOff s a + S1x64x256x64.size a ≤ S2x64x256x64.size a
  | 0 => inb_S2x64x256x64_S1x64x256x64_0_0_0_0
  | 1 => inb_S2x64x256x64_S1x64x256x64_1_0_0_0

/-- Slot `s` of a ring buffer, as the transfers name it. -/
abbrev slotM (b : Bool) (s : Fin 2) : Memref sig .tc .vmem S64x256x64 .f32 :=
  ((ringM b).slice (Rect.unit (s := S2x64x256x64) (slotOff s) S1x64x256x64.size (slotOff_inb s)) (fun _ => rfl)).squeeze
    S64x256x64 squeezes_S1x64x256x64_S64x256x64

abbrev semOff : Fin 2 → Fin 1 → ℕ | 0 => ![0] | 1 => ![1]
theorem semOff_inb : ∀ (s : Fin 2) (a : Fin 1), semOff s a + S1.size a ≤ S2.size a
  | 0 => inb_S2_S1_0
  | 1 => inb_S2_S1_1
/-- Semaphore `s` of a pair. -/
abbrev semOf (a : DmaSems sig S2) (s : Fin 2) : DmaSem sig :=
  ((a.slice (Rect.unit (s := S2) (semOff s) S1.size (semOff_inb s))).squeeze S_ squeezes_S1_S_).sem

/-- The left and the right neighbour, as the kernel computes them. -/
abbrev leftOf (d : Dev nD) : Dev nD := ⟨k0_dev1 d, k0_dev1_lt d⟩
abbrev rightOf (d : Dev nD) : Dev nD := ⟨k0_dev2 d, k0_dev2_lt d⟩

/-- The programs of a core. -/
abbrev PP (F : FTy → Type) : Type → Type 1 := Prog (TpuEff nD τ sig (Elt F) Λ₀ .tc)

/-! ## One head of the running softmax -/

/-- One head: the scores of the head's queries against the keys in the slot, the running maximum,
    the running sum and the running output, each row read and written at the given offsets. -/
def row (o1 : Fin 3 → ℕ) (o2 : Fin 4 → ℕ) (o3 : Fin 2 → ℕ)
    (h1 : ∀ a, o1 a + S1x256x64.size a ≤ S64x256x64.size a)
    (h2 : ∀ a, o2 a + S1x1x256x64.size a ≤ S2x64x256x64.size a)
    (h3 : ∀ a, o3 a + S1x256.size a ≤ S64x256.size a) : PP F Unit := do
  let q : Vec F S1x256x64 .f32 ← Prog.lift (.load qM (Rect.unit (s := S64x256x64) o1 S1x256x64.size h1).toLoadRect (View.loadsAt_vmem h_S1x256x64))
  let k : Vec F S1x1x256x64 .f32 ← Prog.lift (.load (ringM false) (Rect.unit (s := S2x64x256x64) o2 S1x1x256x64.size h2).toLoadRect (View.loadsAt_vmem h_S1x1x256x64))
  let v : Vec F S1x1x256x64 .f32 ← Prog.lift (.load (ringM true) (Rect.unit (s := S2x64x256x64) o2 S1x1x256x64.size h2).toLoadRect (View.loadsAt_vmem h_S1x1x256x64))
  let mx : Vec F S1x256 .f32 ← Prog.lift (.load mxM (Rect.unit (s := S64x256) o3 S1x256.size h3).toLoadRect (View.loadsAt_vmem h_S1x256))
  let l : Vec F S1x256 .f32 ← Prog.lift (.load lM (Rect.unit (s := S64x256) o3 S1x256.size h3).toLoadRect (View.loadsAt_vmem h_S1x256))
  let _l : Vec F S1x256 .f32 ← Prog.lift (.load lM (Rect.unit (s := S64x256) o3 S1x256.size h3).toLoadRect (View.loadsAt_vmem h_S1x256))
  Prog.lift (.store lM (Rect.unit (s := S64x256) o3 S1x256.size h3) (k0_pay9 q k mx l) Finset.univ (View.stores_vmem_bits_univ h_S1x256 rfl) (.inl rfl))
  let a : Vec F S1x256x64 .f32 ← Prog.lift (.load accM (Rect.unit (s := S64x256x64) o1 S1x256x64.size h1).toLoadRect (View.loadsAt_vmem h_S1x256x64))
  let _a : Vec F S1x256x64 .f32 ← Prog.lift (.load accM (Rect.unit (s := S64x256x64) o1 S1x256x64.size h1).toLoadRect (View.loadsAt_vmem h_S1x256x64))
  Prog.lift (.store accM (Rect.unit (s := S64x256x64) o1 S1x256x64.size h1) (k0_pay1 (k0_pay10 q k v mx) (k0_pay11 q k mx a)) Finset.univ (View.stores_vmem_bits_univ h_S1x256x64 rfl) (.inl rfl))
  let _mx : Vec F S1x256 .f32 ← Prog.lift (.load mxM (Rect.unit (s := S64x256) o3 S1x256.size h3).toLoadRect (View.loadsAt_vmem h_S1x256))
  Prog.lift (.store mxM (Rect.unit (s := S64x256) o3 S1x256.size h3) (k0_pay2 (k0_pay6 q k mx)) Finset.univ (View.stores_vmem_bits_univ h_S1x256 rfl) (.inl rfl))
  pure ⟨⟩

/-- Where a head's rows of slot `s` start. -/
abbrev headOff : Fin 2 → Fin k0_t1_loop.trips → Fin 4 → ℕ
  | 0, i => k0_off2 i
  | 1, i => k0_off5 i
theorem headOff_inb : ∀ (s : Fin 2) (i : Fin k0_t1_loop.trips) (a : Fin 4), headOff s i a + S1x1x256x64.size a ≤ S2x64x256x64.size a
  | 0, i => k0_off2_inb i
  | 1, i => k0_off5_inb i

/-- All sixty-four heads over the block in slot `s`. -/
def flash (s : Fin 2) : PP F Unit :=
  Scf.Loop.for k0_t1_loop k0_t1_ok ⟨⟩ fun i _ => row (k0_off1 i) (headOff s i) (k0_off3 i) (k0_off1_inb i) (headOff_inb s i) (k0_off3_inb i)

/-- One head of the division of the running output by the running sum. -/
def normRow (o1 : Fin 3 → ℕ) (o3 : Fin 2 → ℕ)
    (h1 : ∀ a, o1 a + S1x256x64.size a ≤ S64x256x64.size a)
    (h3 : ∀ a, o3 a + S1x256.size a ≤ S64x256.size a) : PP F Unit := do
  let a : Vec F S1x256x64 .f32 ← Prog.lift (.load accM (Rect.unit (s := S64x256x64) o1 S1x256x64.size h1).toLoadRect (View.loadsAt_vmem h_S1x256x64))
  let l : Vec F S1x256 .f32 ← Prog.lift (.load lM (Rect.unit (s := S64x256) o3 S1x256.size h3).toLoadRect (View.loadsAt_vmem h_S1x256))
  let _o : Vec F S1x256x64 .f32 ← Prog.lift (.load outM (Rect.unit (s := S64x256x64) o1 S1x256x64.size h1).toLoadRect (View.loadsAt_vmem h_S1x256x64))
  Prog.lift (.store outM (Rect.unit (s := S64x256x64) o1 S1x256x64.size h1) (k0_pay3 a l) Finset.univ (View.stores_vmem_bits_univ h_S1x256x64 rfl) (.inl rfl))
  pure ⟨⟩

/-- The division, head by head. -/
def norm : PP F Unit :=
  Scf.Loop.for k0_t33_loop k0_t33_ok ⟨⟩ fun i _ => normRow (k0_off97 i) (k0_off98 i) (k0_off97_inb i) (k0_off98_inb i)

/-! ## The statements -/

/-- The running maximum, sum and output set to their first values. -/
def initP : PP F PUnit := do
  let _ : Vec F S64x256 .f32 ← Prog.lift (.load mxM (Rect.unit (s := S64x256) ![0, 0] S64x256.size inb_S64x256_S64x256_0_0).toLoadRect (View.loadsAt_vmem h_S64x256))
  Prog.lift (.store mxM (Rect.unit (s := S64x256) ![0, 0] S64x256.size inb_S64x256_S64x256_0_0) (k0_pay260 (F := F)) Finset.univ (View.stores_vmem_bits_univ h_S64x256 rfl) (.inl rfl))
  let _ : Vec F S64x256 .f32 ← Prog.lift (.load lM (Rect.unit (s := S64x256) ![0, 0] S64x256.size inb_S64x256_S64x256_0_0).toLoadRect (View.loadsAt_vmem h_S64x256))
  Prog.lift (.store lM (Rect.unit (s := S64x256) ![0, 0] S64x256.size inb_S64x256_S64x256_0_0) (k0_pay261 (F := F)) Finset.univ (View.stores_vmem_bits_univ h_S64x256 rfl) (.inl rfl))
  let _ : Vec F S64x256x64 .f32 ← Prog.lift (.load accM (Rect.unit (s := S64x256x64) ![0, 0, 0] S64x256x64.size inb_S64x256x64_S64x256x64_0_0_0).toLoadRect (View.loadsAt_vmem h_S64x256x64))
  Prog.lift (.store accM (Rect.unit (s := S64x256x64) ![0, 0, 0] S64x256x64.size inb_S64x256x64_S64x256x64_0_0_0) (k0_pay262 (F := F)) Finset.univ (View.stores_vmem_bits_univ h_S64x256x64 rfl) (.inl rfl))
  pure ⟨⟩

/-- The device's own block of keys or of values, as it is given. -/
abbrev ownM : Bool → Memref sig .tc .vmem S64x256x64 .f32 | false => kM | true => vM

/-- The own block copied into slot 0. -/
def fillP (b : Bool) : PP F PUnit := do
  let x : Vec F S64x256x64 .f32 ← Prog.lift (.load (ownM b) (Rect.unit (s := S64x256x64) ![0, 0, 0] S64x256x64.size inb_S64x256x64_S64x256x64_0_0_0).toLoadRect (View.loadsAt_vmem h_S64x256x64))
  let _ : Vec F S1x64x256x64 .f32 ← Prog.lift (.load (ringM b) (Rect.unit (s := S2x64x256x64) ![0, 0, 0, 0] S1x64x256x64.size inb_S2x64x256x64_S1x64x256x64_0_0_0_0).toLoadRect (View.loadsAt_vmem h_S1x64x256x64))
  Prog.lift (.store (ringM b) (Rect.unit (s := S2x64x256x64) ![0, 0, 0, 0] S1x64x256x64.size inb_S2x64x256x64_S1x64x256x64_0_0_0_0) (k0_pay263 x) Finset.univ (View.stores_vmem_bits_univ h_S1x64x256x64 rfl) (.inl rfl))
  pure ⟨⟩

/-- Slot `s` of a ring buffer sent into the other slot of the right neighbour. -/
def sendP (d : Dev nD) (b : Bool) (s : Fin 2) : PP F PUnit :=
  Prog.lift (.enqueueDma (slotM b s) (.remote (Dev.tc (rightOf d)) (slotM b (nx s)) (.dma (semOf (sendA b) s))) (.dma (semOf (recvA b) (nx s)))
    ((View.wordExact_bits rfl).reshape _ _) ((View.wordExact_bits rfl).reshape _ _) ⟨⟨rfl, Or.inl rfl⟩, trivial⟩)

/-- The wait for the own transfer out of slot `s`. -/
def sentP (b : Bool) (s : Fin 2) : PP F PUnit :=
  Prog.lift (.waitDma2 (semOf (sendA b) s) (slotM b (nx s)) (slotM b s) ((View.wordExact_bits rfl).reshape _ _) ((View.wordExact_bits rfl).reshape _ _))

/-- The wait for the left neighbour's transfer into the slot other than `s`. -/
def recvP (b : Bool) (s : Fin 2) : PP F PUnit :=
  Prog.lift (.waitDma2 (semOf (recvA b) (nx s)) (slotM b s) (slotM b (nx s)) ((View.wordExact_bits rfl).reshape _ _) ((View.wordExact_bits rfl).reshape _ _))

/-- The kinds of statement. -/
inductive St
  | barL | barR | barW
  | init
  | fill (b : Bool)
  | send (b : Bool) (s : Fin 2)
  | flash (s : Fin 2)
  | sent (b : Bool) (s : Fin 2)
  | recv (b : Bool) (s : Fin 2)
  | credL | credW
  | norm
  deriving DecidableEq

/-- What a statement runs, on device `d`. -/
def St.prog (d : Dev nD) : St → PP F PUnit
  | .barL => semSignalWord (leftOf d) barrier0 1#32
  | .barR => semSignalWord (rightOf d) barrier0 1#32
  | .barW => semWaitWord barrier0 2#32
  | .init => initP
  | .fill b => fillP b
  | .send b s => sendP d b s
  | .flash s => Ring.flash s
  | .sent b s => sentP b s
  | .recv b s => recvP b s
  | .credL => semSignalWord (leftOf d) cc0_scratch9.sem 1#32
  | .credW => semWaitWord cc0_scratch9.sem 1#32
  | .norm => Ring.norm

/-- The statements of a list, one after the other. -/
def run (d : Dev nD) : List St → PP F PUnit
  | [] => pure ⟨⟩
  | a :: l => do a.prog d; run d l

theorem run_append (d : Dev nD) (l₁ l₂ : List St) : (run d (l₁ ++ l₂) : PP F PUnit) = (do run d l₁; run d l₂) := by
  induction l₁ with
  | nil => rfl
  | cons a l ih =>
    show (do a.prog d; run d (l ++ l₂)) = _
    rw [ih]
    exact (bind_assoc _ _ _).symm

end Cert.KernelIdeal.Ring

end
-- ==== Proof.KernelIdeal.BodyEq.lean ====
/- The kernel body is the list of statements: the printed windows, end to end. -/
module

public import proofs.«01_k».proof.Proof.KernelIdeal.Prog

@[expose] public section

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-- The slot the device works on at hop `h`. -/
abbrev curOf (h : ℕ) : Fin 2 := if h % 2 = 0 then 0 else 1

/-- The statements of one hop after the permission to send: both sends, the block, the four waits. -/
abbrev hopCore (s : Fin 2) : List St :=
  [.send false s, .send true s, .flash s, .sent false s, .recv false s, .sent true s, .recv true s]

/-- Hop `h`: the first needs no further permission, the last gives none. -/
def hop (h : ℕ) : List St :=
  (if h = 0 then [] else [.credW]) ++ hopCore (curOf h) ++ (if h < 30 then [.credL] else [])

/-- The statements before the hops. -/
abbrev pro : List St := [.barL, .barR, .barW, .init, .fill false, .fill true]

/-- Hop `h` and those after it, `n` of them. -/
def hops : ℕ → ℕ → List St
  | _, 0 => []
  | h, n + 1 => hop h ++ hops (h + 1) n

/-- The whole body. -/
def stmts : List St := pro ++ hops 0 31 ++ [.flash 1, .norm]

/-! ## The printed windows -/

/-- The two neighbours' ids as the words the kernel computes. -/
abbrev leftW (d : Dev nD) : BitVec 32 :=
  Scalar.remsi (Scalar.subi (Scalar.addi (Scalar.remsi (Scalar.divsi (Dev.word d) 1#32) 32#32) 32#32) 1#32) 32#32
abbrev rightW (d : Dev nD) : BitVec 32 :=
  Scalar.remsi (Scalar.addi (Scalar.remsi (Scalar.divsi (Dev.word d) 1#32) 32#32) 1#32) 32#32

/-- The statements of a list, then a value. -/
def runThen {β : Type} (d : Dev nD) (z : β) : List St → PP F β
  | [] => pure z
  | a :: l => do a.prog d; runThen d z l

theorem runThen_bind {β γ : Type} (d : Dev nD) (z : β) (l : List St) (f : β → PP F γ) :
    (runThen d z l >>= f) = (do run d l; f z) := by
  induction l with
  | nil => rfl
  | cons a l ih =>
    show ((a.prog d >>= fun _ => runThen d z l) >>= f) = ((a.prog d >>= fun _ => run d l) >>= fun _ => f z)
    rw [bind_assoc, bind_assoc, ih]

theorem runThen_unit (d : Dev nD) (l : List St) : (runThen d PUnit.unit l : PP F PUnit) = run d l := by
  induction l with
  | nil => rfl
  | cons a l ih => show (a.prog d >>= fun _ => runThen d PUnit.unit l) = _; rw [ih]; rfl

theorem run_runThen {β : Type} (d : Dev nD) (z : β) (l₁ l₂ : List St) :
    (do run d l₁; runThen d z l₂ : PP F β) = runThen d z (l₁ ++ l₂) := by
  induction l₁ with
  | nil => rfl
  | cons a l ih =>
    show ((a.prog d >>= fun _ => run d l) >>= fun _ => _) = (a.prog d >>= fun _ => runThen d z (l ++ _))
    rw [bind_assoc, ih]

/-- A window: its statements, and the value it hands on. -/
abbrev Win : Type 1 := List St × Σ α : Type, α
abbrev unit (l : List St) : Win := (l, ⟨PUnit, ⟨⟩⟩)
abbrev word (w : BitVec 32) (l : List St) : Win := (l, ⟨BitVec 32, w⟩)
abbrev words (w w' : BitVec 32) (l : List St) : Win := (l, ⟨(Σ' (_ : BitVec 32), BitVec 32), ⟨w, w'⟩⟩)

/-- Windows one after the other, then the statements `l` and a value. -/
def windows {β : Type} (d : Dev nD) (z : β) (l : List St) : List Win → PP F β
  | [] => runThen d z l
  | w :: ws => do let _ ← runThen d w.2.2 w.1; windows d z l ws

theorem windows_eq {β : Type} (d : Dev nD) (z : β) (l : List St) (ws : List Win) :
    (windows d z l ws : PP F β) = runThen d z ((ws.map Prod.fst).flatten ++ l) := by
  induction ws with
  | nil => rfl
  | cons w ws ih =>
    show (runThen d w.2.2 w.1 >>= fun _ => windows d z l ws) = _
    rw [runThen_bind, ih, run_runThen, List.map_cons, List.flatten_cons, List.append_assoc]

/-- The windows of the first part of the body. -/
abbrev cutsA (v5 v7 : BitVec 32) : List Win :=
  [unit [.fill false, .fill true, .send false 0],
   unit [.send true 0, .flash 0, .sent false 0, .recv false 0],
   unit [.sent true 0, .recv true 0, .credL, .credW],
   unit [.send false 1, .send true 1, .flash 1, .sent false 1],
   unit [.recv false 1, .sent true 1, .recv true 1, .credL],
   unit [.credW, .send false 0, .send true 0, .flash 0],
   unit [.sent false 0, .recv false 0, .sent true 0],
   unit [.recv true 0, .credL, .credW, .send false 1],
   unit [.send true 1, .flash 1, .sent false 1, .recv false 1],
   unit [.sent true 1, .recv true 1, .credL, .credW],
   unit [.send false 0, .send true 0, .flash 0, .sent false 0],
   unit [.recv false 0, .sent true 0, .recv true 0, .credL, .credW],
   unit [.send false 1, .send true 1, .flash 1],
   unit [.sent false 1, .recv false 1, .sent true 1],
   unit [.recv true 1, .credL, .credW, .send false 0],
   unit [.send true 0, .flash 0, .sent false 0, .recv false 0],
   unit [.sent true 0, .recv true 0, .credL, .credW, .send false 1],
   unit [.send true 1, .flash 1, .sent false 1],
   word 1#32 [.recv false 1, .sent true 1, .recv true 1, .credL, .credW],
   unit [.send false 0, .send true 0, .flash 0],
   unit [.sent false 0, .recv false 0, .sent true 0],
   unit [.recv true 0, .credL, .credW, .send false 1, .send true 1],
   unit [.flash 1, .sent false 1, .recv false 1],
   unit [.sent true 1, .recv true 1, .credL, .credW, .send false 0],
   unit [.send true 0, .flash 0, .sent false 0],
   unit [.recv false 0, .sent true 0, .recv true 0, .credL, .credW],
   unit [.send false 1, .send true 1, .flash 1],
   unit [.sent false 1, .recv false 1, .sent true 1],
   word 0#32 [.recv true 1, .credL, .credW, .send false 0, .send true 0],
   unit [.flash 0, .sent false 0, .recv false 0, .sent true 0],
   words (Scalar.muli v7 1#32) 0#32 [.recv true 0, .credL, .credW, .send false 1],
   unit [.send true 1, .flash 1, .sent false 1],
   unit [.recv false 1, .sent true 1, .recv true 1, .credL, .credW],
   unit [.send false 0, .send true 0, .flash 0, .sent false 0],
   unit [.recv false 0, .sent true 0, .recv true 0],
   unit [.credL, .credW, .send false 1, .send true 1, .flash 1],
   unit [.sent false 1, .recv false 1, .sent true 1],
   unit [.recv true 1, .credL, .credW, .send false 0],
   unit [.send true 0, .flash 0, .sent false 0, .recv false 0],
   unit [.sent true 0, .recv true 0, .credL, .credW],
   unit [.send false 1, .send true 1, .flash 1, .sent false 1],
   words (Scalar.muli v5 1#32) 0#32 [.recv false 1, .sent true 1, .recv true 1],
   unit [.credL, .credW, .send false 0, .send true 0, .flash 0],
   word (Scalar.muli v7 1#32) [.sent false 0, .recv false 0, .sent true 0],
   unit [.recv true 0, .credL, .credW, .send false 1],
   unit [.send true 1, .flash 1, .sent false 1, .recv false 1],
   unit [.sent true 1, .recv true 1, .credL, .credW],
   words (Scalar.muli v7 1#32) 0#32 [.send false 0, .send true 0, .flash 0, .sent false 0],
   unit [.recv false 0, .sent true 0, .recv true 0, .credL],
   unit [.credW, .send false 1, .send true 1, .flash 1],
   unit [.sent false 1, .recv false 1, .sent true 1],
   unit [.recv true 1, .credL, .credW, .send false 0],
   unit [.send true 0, .flash 0, .sent false 0, .recv false 0],
   unit [.sent true 0, .recv true 0, .credL, .credW],
   unit [.send false 1, .send true 1, .flash 1, .sent false 1],
   unit [.recv false 1, .sent true 1, .recv true 1, .credL, .credW],
   unit [.send false 0, .send true 0, .flash 0],
   unit [.sent false 0, .recv false 0, .sent true 0],
   unit [.recv true 0, .credL, .credW, .send false 1]]

/-- The windows of the rest. -/
abbrev cutsB (v5 v7 : BitVec 32) : List Win :=
  [unit [.send true 1, .flash 1, .sent false 1, .recv false 1],
   unit [.sent true 1, .recv true 1, .credL, .credW, .send false 0],
   unit [.send true 0, .flash 0, .sent false 0],
   unit [.recv false 0, .sent true 0, .recv true 0, .credL, .credW],
   unit [.send false 1, .send true 1, .flash 1],
   unit [.sent false 1, .recv false 1, .sent true 1],
   unit [.recv true 1, .credL, .credW, .send false 0],
   unit [.send true 0, .flash 0, .sent false 0, .recv false 0],
   unit [.sent true 0, .recv true 0, .credL, .credW, .send false 1],
   unit [.send true 1, .flash 1, .sent false 1],
   words (Scalar.muli v7 1#32) 0#32 [.recv false 1, .sent true 1, .recv true 1, .credL, .credW],
   unit [.send false 0, .send true 0, .flash 0],
   unit [.sent false 0, .recv false 0, .sent true 0]]

set_option maxRecDepth 65536 in
/-- The first part of the body, window by window. -/
theorem partA_eq :
    (k0_part106 qM (Memref.isWhole_whole _) kM (Memref.isWhole_whole _) vM (Memref.isWhole_whole _) outM (Memref.isWhole_whole _)
      (ringM false) (Memref.isWhole_whole _) (ringM true) (Memref.isWhole_whole _) accM (Memref.isWhole_whole _) mxM (Memref.isWhole_whole _)
      lM (Memref.isWhole_whole _) cc0_scratch5 cc0_scratch6 cc0_scratch7 cc0_scratch8 cc0_scratch9 : PP F _)
      = (do
        let ⟨d0, v5, v7⟩ : Σ' (d0 : Dev nD) (v5 : BitVec 32), BitVec 32 ← (do
          let d ← Prog.lift .deviceId
          runThen d ⟨d, leftW d, rightW d⟩ [.barL, .barR, .barW, .init])
        windows d0 ⟨d0, v5, v7⟩ [] (cutsA v5 v7)) := by
  rw [k0_part106_eq_skeleton]; rfl

set_option maxRecDepth 65536 in
/-- The body: its first part, then the remaining windows and the last statements. -/
theorem partB_eq :
    (cc0_body qM (Memref.isWhole_whole _) kM (Memref.isWhole_whole _) vM (Memref.isWhole_whole _) outM (Memref.isWhole_whole _) (ringM false) (Memref.isWhole_whole _) (ringM true) (Memref.isWhole_whole _) accM (Memref.isWhole_whole _) mxM (Memref.isWhole_whole _) lM (Memref.isWhole_whole _) cc0_scratch5 cc0_scratch6 cc0_scratch7 cc0_scratch8 cc0_scratch9 : PP F _)
      = (do
        let ⟨d0, v5, v7⟩ : Σ' (d0 : Dev nD) (v5 : BitVec 32), BitVec 32 ← k0_part106 qM (Memref.isWhole_whole _) kM (Memref.isWhole_whole _) vM (Memref.isWhole_whole _) outM (Memref.isWhole_whole _) (ringM false) (Memref.isWhole_whole _) (ringM true) (Memref.isWhole_whole _) accM (Memref.isWhole_whole _) mxM (Memref.isWhole_whole _) lM (Memref.isWhole_whole _) cc0_scratch5 cc0_scratch6 cc0_scratch7 cc0_scratch8 cc0_scratch9
        windows d0 PUnit.unit [.recv true 0, .flash 1, .norm] (cutsB v5 v7)) := by
  rw [cc0_body_eq_skeleton]; rfl

set_option maxRecDepth 65536 in
/-- The windows of both parts are the statements of the body. -/
theorem stmts_eq (v5 v7 : BitVec 32) :
    [.barL, .barR, .barW, .init] ++ (((cutsA v5 v7).map Prod.fst).flatten ++ []
      ++ (((cutsB v5 v7).map Prod.fst).flatten ++ [.recv true 0, .flash 1, .norm])) = stmts := by
  rfl

/-- THE BODY as the pipeline calls it: it reads its device, then runs the statements. -/
theorem body_eq (t : Fin cfg0.N) :
    (bodyAt0 t : PP F _) = (do let d ← Prog.lift .deviceId; run d stmts) := by
  have h : (bodyAt0 t : PP F _) = cc0_body qM (Memref.isWhole_whole _) kM (Memref.isWhole_whole _) vM (Memref.isWhole_whole _) outM (Memref.isWhole_whole _) (ringM false) (Memref.isWhole_whole _) (ringM true) (Memref.isWhole_whole _) accM (Memref.isWhole_whole _) mxM (Memref.isWhole_whole _) lM (Memref.isWhole_whole _) cc0_scratch5 cc0_scratch6 cc0_scratch7 cc0_scratch8 cc0_scratch9 := rfl
  rw [h, partB_eq, partA_eq]
  simp only [windows_eq, bind_assoc, runThen_bind, runThen_unit]
  refine bind_congr fun d => ?_
  rw [← run_append, ← run_append, stmts_eq]

end Cert.KernelIdeal.Ring

end
-- ==== Proof.KernelIdeal.Common.lean ====
/- The protocol of the ring: the semaphore cells of a device, what each round of a cell hands over, what a device
   owes, and the order in which the waits may happen.

   Device `c` sends to its right neighbour and receives from its left. In hop `h` (0 to 30) it sends the block in slot
   `h % 2` into slot `(h + 1) % 2` of the right neighbour; that block is the one of the device `h` places to the left of
   `c`. A device may write the right neighbour's slot once that neighbour said so: for hop 0 by the barrier, for a later
   hop by one unit of the credit semaphore, given at the end of the neighbour's hop before. -/
module

public import proofs.«01_k».proof.Proof.KernelIdeal.BodyEq
public import proofs.«01_k».proof.Proof.Gen.KernelIdeal.Launch
public import Idealize.ShloMosaic.Lib.Rounds
public import Idealize.ShloMosaic.Lib.Pipeline.RegionTalk
public import Idealize.ShloMosaic.Lib.Memref

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ring of devices -/

theorem leftOf_val (d : Dev nD) : (leftOf d).val = (d.val + 31) % 32 := k0_dev1_eq d
theorem rightOf_val (d : Dev nD) : (rightOf d).val = (d.val + 1) % 32 := k0_dev2_eq d
theorem left_right (d : Dev nD) : leftOf (rightOf d) = d := by
  apply Fin.ext; rw [leftOf_val, rightOf_val]; have : d.val < 32 := d.isLt; omega
theorem right_left (d : Dev nD) : rightOf (leftOf d) = d := by
  apply Fin.ext; rw [rightOf_val, leftOf_val]; have : d.val < 32 := d.isLt; omega

/-- The device `h` places to the left of `c`: the one whose block `c` holds in hop `h`. -/
def back (h : ℕ) (c : Dev nD) : Dev nD := leftOf^[h] c
theorem back_zero (c : Dev nD) : back 0 c = c := rfl
theorem back_succ_right (h : ℕ) (c : Dev nD) : back (h + 1) (rightOf c) = back h c := by
  unfold back; rw [Function.iterate_succ_apply, left_right]
theorem back_succ (h : ℕ) (c : Dev nD) : back h (leftOf c) = back (h + 1) c := by
  unfold back; rw [Function.iterate_succ_apply]
theorem back_val (h : ℕ) (c : Dev nD) : (back h c).val = (c.val + 31 * h) % 32 := by
  induction h with
  | zero => rw [back_zero]; have : c.val < 32 := c.isLt; omega
  | succ h ih =>
    have e : back (h + 1) c = leftOf (back h c) := by unfold back; rw [Function.iterate_succ_apply']
    rw [e, leftOf_val, ih]; omega

/-- The slot of hop `h`, and the slot the hop sends into. -/
theorem nx_curOf (h : ℕ) : nx (curOf h) = curOf (h + 1) := by
  unfold curOf
  rcases Nat.mod_two_eq_zero_or_one h with e | e
  · have e' : (h + 1) % 2 = 1 := by omega
    simp [e, e']
  · have e' : (h + 1) % 2 = 0 := by omega
    simp [e, e']
theorem curOf_two (h : ℕ) : curOf (h + 2) = curOf h := by rw [← nx_curOf, ← nx_curOf]; generalize curOf h = s; revert s; decide

/-! ## The cells -/

/-- The semaphores of the protocol: the barrier, the credit, and for each ring buffer and slot one for the transfer
    out of it and one for the transfer into it. -/
inductive Kd
  | bar | cred
  | send (b : Bool) (s : Fin 2)
  | recv (b : Bool) (s : Fin 2)
  deriving DecidableEq

/-- Which semaphore that is. -/
abbrev Kd.sl : Kd → SemLoc sig
  | .bar => .reg barrier0
  | .cred => .reg cc0_scratch9.sem
  | .send b s => .dma (semOf (sendA b) s)
  | .recv b s => .dma (semOf (recvA b) s)

/-- All ten of them. -/
def Kd.all : List Kd :=
  [.bar, .cred, .send false 0, .send false 1, .send true 0, .send true 1, .recv false 0, .recv false 1, .recv true 0, .recv true 1]

/-- The kind of a semaphore, if the protocol uses it. -/
def kdOf (l : SemLoc sig) : Option Kd := Kd.all.find? fun k => decide (k.sl = l)

theorem mem_all (k : Kd) : k ∈ Kd.all := by
  cases k with
  | bar => decide
  | cred => decide
  | send b s => revert b s; decide
  | recv b s => revert b s; decide
theorem kdOf_all : ∀ k ∈ Kd.all, kdOf k.sl = some k := by decide
theorem kdOf_sl (k : Kd) : kdOf k.sl = some k := kdOf_all k (mem_all k)
theorem sl_inj {k k' : Kd} (h : k.sl = k'.sl) : k = k' := Option.some.inj ((kdOf_sl k).symm.trans ((congrArg kdOf h).trans (kdOf_sl k')))

/-- The cell of a kind on device `c`. -/
abbrev cell (c : Dev nD) (k : Kd) : GSem nD τ sig := ((c : Thread nD τ), k.sl)

theorem cell_inj {c c' : Dev nD} {k k' : Kd} (h : cell c k = cell c' k') : c = c' ∧ k = k' :=
  ⟨congrArg (fun g : GSem nD τ sig => g.1.1) h, sl_inj (congrArg Prod.snd h)⟩

/-! ## The resource algebra -/

/-- The pipeline's ghost state beside the protocol's. -/
abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

abbrev 𝒱₀ : Variants := Variants.none

/-! ## What is held -/

/-- The blocks of keys (`false`) and values (`true`) of each device. -/
abbrev Blocks (F : FTy → Type) : Type := Bool → Dev nD → S64x256x64.Idx → Elt F .f32

/-- Device `c` holds slot `s` of a ring buffer, at contents `x`. -/
abbrev slot (c : Dev nD) (b : Bool) (s : Fin 2) (q : PosShare TreeShare) (x : S64x256x64.Idx → Elt F .f32) : sProp 𝕄 :=
  owns (c : Thread nD τ) (slotM b s) q x

/-- Units a transfer of a block puts on its semaphores. -/
def N : ℕ := (slotM false 0).view.dmaCredit
theorem slot_credit (b : Bool) (s : Fin 2) : (slotM b s).view.dmaCredit = N := by
  cases b <;> (revert s; rw [Fin.forall_fin_two]; exact ⟨rfl, rfl⟩)
theorem N_pos : 0 < N := View.dmaCredit_pos _ (by decide)

/-- Rounds finished on the transfer into slot `n` before hop `h`. -/
def cR (n : Fin 2) (h : ℕ) : ℕ := (h + n.val) / 2
/-- Rounds finished on the transfer out of slot `s` before hop `h`. -/
def cS (s : Fin 2) (h : ℕ) : ℕ := (h + 1 - s.val) / 2

/-! ## The schedule -/

/-- Leave for `c` to send, in hop `h`: the right neighbour's slots, and that their transfers are at this round. -/
def perm (c : Dev nD) (h : ℕ) : sProp 𝕄 :=
  iprop(((∃ x, slot (rightOf c) false (curOf (h + 1)) fullShare x) ∗ ∃ x, slot (rightOf c) true (curOf (h + 1)) fullShare x)
    ∗ reached ER (cell (rightOf c) (.recv false (curOf (h + 1)))) (h / 2)
    ∗ reached ER (cell (rightOf c) (.recv true (curOf (h + 1)))) (h / 2))

/-- The hop that does round `r` of the transfer into slot `n`. -/
def hopR (n : Fin 2) (r : ℕ) : ℕ := 2 * r + (1 - n.val)
/-- The hop that does round `r` of the transfer out of slot `s`. -/
def hopS (s : Fin 2) (r : ℕ) : ℕ := 2 * r + s.val

/-- Which duties a round has. The barrier has one of each neighbour (`true`: the right one). -/
def Kd.duties : Kd → ℕ → Finset Bool
  | .bar, r => if r = 0 then {false, true} else ∅
  | .cred, r => if r < 30 then {false} else ∅
  | .send _ s, r => if hopS s r < 31 then {false} else ∅
  | .recv _ n, r => if hopR n r < 31 then {false} else ∅

def Kd.amount : Kd → ℕ
  | .bar => 1
  | .cred => 1
  | .send _ _ => N
  | .recv _ _ => N

/-- What a round hands to the device that waits for it. -/
def Kd.pay (B : Blocks F) (c : Dev nD) : Kd → ℕ → Bool → sProp 𝕄
  | .bar, _, d => if d then perm c 0 else iprop(emp)
  | .cred, r, _ => perm c (r + 1)
  | .send b s, r, _ => slot c b s fullShare.left (B b (back (hopS s r) c))
  | .recv b n, r, _ => iprop(slot c b n fullShare (B b (back (hopR n r + 1) c)) ∗ reached ER (cell (leftOf c) .cred) (hopR n r))

theorem pay_bar (B : Blocks F) (c : Dev nD) (r : ℕ) : (Kd.bar.pay B c r true : sProp 𝕄) = perm c 0 := rfl
theorem pay_bar' (B : Blocks F) (c : Dev nD) (r : ℕ) : (Kd.bar.pay B c r false : sProp 𝕄) = iprop(emp) := rfl
theorem pay_cred (B : Blocks F) (c : Dev nD) (r : ℕ) (d : Bool) : (Kd.cred.pay B c r d : sProp 𝕄) = perm c (r + 1) := rfl
theorem pay_send (B : Blocks F) (c : Dev nD) (b : Bool) (s : Fin 2) (r : ℕ) (d : Bool) :
    ((Kd.send b s).pay B c r d : sProp 𝕄) = slot c b s fullShare.left (B b (back (hopS s r) c)) := rfl
theorem pay_recv (B : Blocks F) (c : Dev nD) (b : Bool) (n : Fin 2) (r : ℕ) (d : Bool) :
    ((Kd.recv b n).pay B c r d : sProp 𝕄)
      = iprop(slot c b n fullShare (B b (back (hopR n r + 1) c)) ∗ reached ER (cell (leftOf c) .cred) (hopR n r)) := rfl

instance pay_storable (B : Blocks F) (c : Dev nD) (k : Kd) (r : ℕ) (d : Bool) :
    BI.Storable (upEmb : UEmb _ 𝕄) (k.pay B c r d) := by
  cases k <;> unfold Kd.pay <;> (try unfold perm) <;> (repeat' split) <;> infer_instance

/-- The schedule of every cell of the machine. -/
def ringRd (B : Blocks F) : Rounds.Schedule (GSem nD τ sig) Bool 𝕄 where
  duties g r := if g.1.2 = .tc then (match kdOf g.2 with | some k => k.duties r | none => ∅) else ∅
  unitless _ := False
  amount g _ _ := match kdOf g.2 with | some k => k.amount | none => 1
  payload g r d := match kdOf g.2 with | some k => k.pay B g.1.1 r d | none => iprop(emp)
  amount_pos g _ _ _ := by
    cases kdOf g.2 with
    | none => exact Nat.one_pos
    | some k => cases k <;> first | exact Nat.one_pos | exact N_pos

instance ringRd_storable (B : Blocks F) (g : GSem nD τ sig) (r : ℕ) (d : Bool) :
    BI.Storable (upEmb : UEmb _ 𝕄) ((ringRd (F := F) B).payload g r d) := by
  show BI.Storable upEmb (match kdOf g.2 with | some k => k.pay B g.1.1 r d | none => iprop(emp))
  cases kdOf g.2 <;> infer_instance

section Sched

variable (B : Blocks F) (c : Dev nD) (k : Kd) (r : ℕ)

theorem duties_cell : (ringRd (F := F) B).duties (cell c k) r = k.duties r := by
  dsimp only [ringRd]; rw [if_pos rfl, kdOf_sl]
theorem amount_cell (d : Bool) : (ringRd (F := F) B).amount (cell c k) r d = k.amount := by
  dsimp only [ringRd]; rw [kdOf_sl]
theorem payload_cell (d : Bool) : (ringRd (F := F) B).payload (cell c k) r d = k.pay B c r d := by
  dsimp only [ringRd]; rw [kdOf_sl]
theorem expect_cell : (ringRd (F := F) B).expect (cell c k) r = (k.duties r).card * k.amount := by
  unfold Schedule.expect Schedule.amountOf
  rw [duties_cell, Finset.sum_congr rfl (fun d _ => amount_cell B c k r d), Finset.sum_const, smul_eq_mul]
/-- A round with one duty hands over that duty's payload. -/
theorem rest_cell (h : k.duties r = {false}) :
    bigSep ((ringRd (F := F) B).duties (cell c k) r \ ∅) (fun d => (ringRd (F := F) B).payload (cell c k) r d) = k.pay B c r false := by
  rw [Finset.sdiff_empty, duties_cell, h, bigSep_singleton, payload_cell]
/-- The barrier hands over both neighbours' payloads. -/
theorem rest_bar :
    bigSep ((ringRd (F := F) B).duties (cell c .bar) 0 \ ∅) (fun d => (ringRd (F := F) B).payload (cell c .bar) 0 d) ⊢ (perm c 0 : sProp 𝕄) := by
  rw [Finset.sdiff_empty, duties_cell, show Kd.bar.duties 0 = insert false {true} from rfl, bigSep_insert (by decide), bigSep_singleton,
    payload_cell, payload_cell]
  show iprop(emp ∗ perm c 0) ⊢ _
  iintro ⟨-, H⟩; iexact H

end Sched

/-! ## What each device owes; the levels -/

/-- The unit of a semaphore that is waited for at level `i` counts at index `i`. -/
def L (g : GSem nD τ sig) : Finset ℕ := if g.1.2 = .tc then Finset.range 70 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 70 := if_pos rfl

/-- What hop `j` of device `c` pays: the two arrivals at the right neighbour and, but for the last hop, the left
    neighbour's credit. -/
def owe (c : Dev nD) (j : ℕ) : CellTallies nD τ sig ℕ :=
  tallyAt (cell (rightOf c) (.recv false (curOf (j + 1)))) (2 * j + 3) N
    + (tallyAt (cell (rightOf c) (.recv true (curOf (j + 1)))) (2 * j + 3) N
      + if j < 30 then tallyAt (cell (leftOf c) .cred) (2 * j + 4) 1 else 0)
/-- What the hops from `h` on pay. -/
def oweFrom (c : Dev nD) (h : ℕ) : CellTallies nD τ sig ℕ := ∑ j ∈ Finset.Ico h 31, owe c j
/-- What a device owes at launch: the two barrier units and all its hops. -/
def O₀ (c : Dev nD) : CellTallies nD τ sig ℕ :=
  oweFrom c 0 + tallyAt (cell (rightOf c) .bar) 1 1 + tallyAt (cell (leftOf c) .bar) 1 1

theorem Ico_step {h : ℕ} (hh : h < 31) : Finset.Ico h 31 = insert h (Finset.Ico (h + 1) 31) := by
  ext j; simp only [Finset.mem_Ico, Finset.mem_insert]; omega
theorem not_mem_Ico_succ (h : ℕ) : h ∉ Finset.Ico (h + 1) 31 := by simp only [Finset.mem_Ico]; omega
theorem oweFrom_step (c : Dev nD) {h : ℕ} (hh : h < 31) : oweFrom c h = owe c h + oweFrom c (h + 1) := by
  unfold oweFrom; rw [Ico_step hh, Finset.sum_insert (not_mem_Ico_succ h)]
theorem oweFrom_end (c : Dev nD) : oweFrom c 31 = 0 := by unfold oweFrom; rw [Finset.Ico_self, Finset.sum_empty]

/-- Everything in `O` is on a core of the main kind at a level above `i`. -/
def Above (i : ℕ) (O : CellTallies nD τ sig ℕ) : Prop := ∀ g u, 0 < O g u → g.1.2 = .tc ∧ u < 70 ∧ i < u

theorem Above.add {i : ℕ} {O O' : CellTallies nD τ sig ℕ} (h : Above i O) (h' : Above i O') : Above i (O + O') := fun g u hg => by
  have : 0 < O g u + O' g u := hg
  rcases Nat.eq_zero_or_pos (O g u) with e | e
  · exact h' g u (by omega)
  · exact h g u e
theorem Above.zero {i : ℕ} : Above i 0 := fun _ _ hg => absurd hg (Nat.lt_irrefl 0)
theorem Above.tally {i : ℕ} (c : Dev nD) (sm : SemLoc sig) (u n : ℕ) (hu : u < 70) (hi : i < u) :
    Above i (tallyAt ((c : Thread nD τ), sm) u n) := fun g v hg => by
  rw [tallyAt_apply] at hg
  by_cases h : g = ((c : Thread nD τ), sm) ∧ v = u
  · rw [h.1, h.2]; exact ⟨rfl, hu, hi⟩
  · rw [if_neg h] at hg; exact absurd hg (Nat.lt_irrefl 0)
theorem Above.sum {i : ℕ} {S : Finset ℕ} {O : ℕ → CellTallies nD τ sig ℕ} (h : ∀ j ∈ S, Above i (O j)) : Above i (∑ j ∈ S, O j) := by
  classical
  induction S using Finset.induction_on with
  | empty => rw [Finset.sum_empty]; exact .zero
  | insert a S ha ih =>
    rw [Finset.sum_insert ha]
    exact (h a (Finset.mem_insert_self ..)).add (ih fun j hj => h j (Finset.mem_insert_of_mem hj))
theorem Above.owe (c : Dev nD) {i j : ℕ} (hj : j < 31) (hi : i < 2 * j + 3) : Above i (owe c j) :=
  (Above.tally _ _ _ _ (by omega) hi).add ((Above.tally _ _ _ _ (by omega) hi).add (by
    split
    · exact .tally _ _ _ _ (by omega) (by omega)
    · exact .zero))
theorem Above.oweFrom (c : Dev nD) {i h : ℕ} (hi : i < 2 * h + 3) : Above i (oweFrom c h) :=
  Above.sum fun j hj => Above.owe c (Finset.mem_Ico.mp hj).2 (by have := (Finset.mem_Ico.mp hj).1; omega)

/-- A device may wait at level `i` while all it owes lies above. -/
theorem mayWait (c : Dev nD) (sm : SemLoc sig) {i : ℕ} (hi : i < 70) {O : CellTallies nD τ sig ℕ} (h : Above i O) :
    (levAts L lv : sProp 𝕄) ⊢ MayWait (c : Thread nD τ) sm i O :=
  MayOwe.of_cut (L := L) (lev := lv) i
    (fun p hp => by rw [Finset.mem_singleton.mp hp, L_tc]; exact Finset.mem_range.mpr hi)
    (fun g u hg => by unfold L; rw [if_pos (h g u hg).1]; exact Finset.mem_range.mpr (h g u hg).2.1)
    (fun p hp => by rw [Finset.mem_singleton.mp hp]; exact le_refl _)
    (fun g u hg => (h g u hg).2.2)

end Cert.KernelIdeal.Ring

end
-- ==== Proof.KernelIdeal.Talk.lean ====
/- One theorem per statement of the kernel that signals, sends or waits: what the device must hold, and what it holds
   after. Each is stated for the statement at the head of a list, at any hop. -/
module

public import proofs.«01_k».proof.Proof.KernelIdeal.Common
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (B : Blocks F)

/-- Device `c` runs the program `p` to the end and then meets `Q`. -/
abbrev WP (c : Dev nD) (p : PP F PUnit.{1}) (Q : PUnit.{1} → sProp 𝕄) : sProp 𝕄 :=
  wp frame (wpE (defs₀ (F := F)) 𝒱₀ (c : Thread nD τ) none) Set.univ p Q

/-- What device `c` owes, whatever waits it has recorded. -/
def ow (c : Dev nD) (O : CellTallies nD τ sig ℕ) : sProp 𝕄 := iprop(∃ W, owes (c : Thread nD τ) O W)

/-- `I` stands for the invariants of all cells: every one of them follows from it. -/
abbrev Invs (K : GSem nD τ sig → ℕ) (I : sProp 𝕄) : Prop := ∀ (c : Dev nD) (k : Kd), I ⊢ cellInv ER (ringRd B) (K (cell c k)) (cell c k)

variable {B} {K : GSem nD τ sig → ℕ} {I : sProp (MT nD τ sig ℕ (Elt F) ℕ UU ℕ)} [BI.Persistent I] (hI : Invs B K I) (c : Dev nD) (p : PP F PUnit.{1})

theorem hopS_cur (h : ℕ) : hopS (curOf h) (h / 2) = h := by
  unfold hopS curOf
  rcases Nat.mod_two_eq_zero_or_one h with e | e <;> simp [e] <;> omega
theorem hopR_cur (h : ℕ) : hopR (curOf (h + 1)) (h / 2) = h := by
  unfold hopR curOf
  rcases Nat.mod_two_eq_zero_or_one h with e | e
  · have e' : (h + 1) % 2 = 1 := by omega
    simp [e']; omega
  · have e' : (h + 1) % 2 = 0 := by omega
    simp [e']; omega

theorem mem_duties (B : Blocks F) (c : Dev nD) (k : Kd) (r : ℕ) {d : Bool} (h : d ∈ k.duties r) : d ∈ (ringRd (F := F) B).duties (cell c k) r :=
  (duties_cell B c k r).symm ▸ h
theorem mem_duties_one (B : Blocks F) (c : Dev nD) (k : Kd) (r : ℕ) (h : k.duties r = {false}) : false ∈ (ringRd (F := F) B).duties (cell c k) r :=
  mem_duties B c k r (h.symm ▸ Finset.mem_singleton_self _)
theorem expect_one (B : Blocks F) (c : Dev nD) (k : Kd) (r n : ℕ) (h : k.duties r = {false}) (hn : k.amount = n) :
    0 + n = (ringRd (F := F) B).expect (cell c k) r := by
  rw [expect_cell, h, hn, Finset.card_singleton, Nat.one_mul, Nat.zero_add]

/-- Holding a memref is holding its two half shares. -/
theorem owns_halves {sp : Space} {sh : Shape} {e : EltTy} (m : Memref sig .tc sp sh e) (X : sh.Idx → Elt F e) :
    (owns (c : Thread nD τ) m fullShare X : sProp 𝕄)
      ⊢ iprop(owns (c : Thread nD τ) m fullShare.left X ∗ owns (c : Thread nD τ) m fullShare.right X) := by
  unfold owns
  iintro ⟨%f, %hf, H⟩
  ihave H' := (show (m.view.loc (c : Thread nD τ) ↦[m.view.set]{fullShare} f : sProp 𝕄)
      ⊢ iprop((m.view.loc (c : Thread nD τ) ↦[m.view.set]{fullShare.left} f) ∗ m.view.loc (c : Thread nD τ) ↦[m.view.set]{fullShare.right} f)
    from (pointsTo_share (PosShare.mem_left_op_right fullShare)).1) $$ H
  icases H' with ⟨H1, H2⟩
  isplitl [H1]
  · iexists f; isplitr; · ipureintro; exact hf
    iexact H1
  · iexists f; isplitr; · ipureintro; exact hf
    iexact H2
theorem owns_join {sp : Space} {sh : Shape} {e : EltTy} (m : Memref sig .tc sp sh e) (X : sh.Idx → Elt F e) :
    iprop(owns (c : Thread nD τ) m fullShare.left X ∗ owns (c : Thread nD τ) m fullShare.right X)
      ⊢ (owns (c : Thread nD τ) m fullShare X : sProp 𝕄) := by
  unfold owns
  iintro ⟨⟨%f, %hf, H1⟩, ⟨%g, %hg, H2⟩⟩
  have e' : (m.view.loc (c : Thread nD τ) ↦[m.view.set]{fullShare.right} g : sProp 𝕄) = m.view.loc (c : Thread nD τ) ↦[m.view.set]{fullShare.right} f :=
    pointsTo_congr fun i hi => by
      obtain ⟨x, -, rfl⟩ := Finset.mem_map.mp hi
      have h := (congrFun hg x).trans (congrFun hf x).symm
      simp only [View.read] at h
      exact (cast_inj _).mp h
  ihave H2 := (Entails.of_eq e') $$ H2
  iexists f; isplitr; · ipureintro; exact hf
  iapply (pointsTo_share (PosShare.mem_left_op_right fullShare)).2
  isplitl [H1] <;> iassumption

/-! ## Signals -/

/-- What the left neighbour may do once device `c` gives it the slot of hop `h + 1`. -/
theorem perm_left (h : ℕ) :
    iprop((∃ x, slot c false (curOf (h + 1)) fullShare x) ∗ (∃ x, slot c true (curOf (h + 1)) fullShare x)
        ∗ reached ER (cell c (.recv false (curOf (h + 1)))) (h / 2) ∗ reached ER (cell c (.recv true (curOf (h + 1)))) (h / 2))
      ⊢ (perm (leftOf c) h : sProp 𝕄) := by
  unfold perm; rw [right_left]
  iintro ⟨H1, H2, H3, H4⟩
  isplitl [H1 H2]
  · isplitl [H1] <;> iassumption
  isplitl [H3] <;> iassumption

include hI in
/-- The barrier unit to the left neighbour, with the leave to write slot 1 here. -/
theorem wp_barL {Q : PUnit.{1} → sProp 𝕄} (O : CellTallies nD τ sig ℕ) :
    iprop(I ∗ ow c (O + tallyAt (cell (leftOf c) .bar) 1 1) ∗ dutyTok ER (cell (leftOf c) .bar) 0 true ∗ perm (leftOf c) 0
        ∗ reached ER (cell (leftOf c) .bar) 0)
      ⊢ iprop((ow c O -∗ WP c p Q) -∗ WP c (.op (.semSignal (leftOf c : Thread nD τ) barrier0 1) fun _ => p) Q) := by
  have hmem : true ∈ (ringRd (F := F) B).duties (cell (leftOf c) .bar) 0 := mem_duties B _ _ _ (by decide)
  unfold ow
  iintro ⟨#HI, ⟨%W, HO⟩, Ht, Hp, Hr⟩ Hk
  ihave #HIc := (hI (leftOf c) .bar) $$ HI
  iapply (Rounds.wp_signal 𝒱₀ ER (ringRd B) (c : Thread nD τ) none (dst := (leftOf c : Thread nD τ)) (sem := barrier0) (r := 0) (d := true)
    (κ := K (cell (leftOf c) .bar)) hmem (amount_cell B (leftOf c) .bar 0 true) 1 O rfl) $$ [HO Ht Hp Hr]
  · isplitr; · iexact HIc
    isplitl [HO]; · iexact HO
    isplitl [Ht]; · iexact Ht
    isplitl [Hp]; · rw [payload_cell B (leftOf c) .bar, pay_bar]; iexact Hp
    iexact Hr
  iintro HO
  iapply Hk; iexists W; iexact HO

include hI in
/-- The barrier unit to the right neighbour, with nothing. -/
theorem wp_barR {Q : PUnit.{1} → sProp 𝕄} (O : CellTallies nD τ sig ℕ) :
    iprop(I ∗ ow c (O + tallyAt (cell (rightOf c) .bar) 1 1) ∗ dutyTok ER (cell (rightOf c) .bar) 0 false
        ∗ reached ER (cell (rightOf c) .bar) 0)
      ⊢ iprop((ow c O -∗ WP c p Q) -∗ WP c (.op (.semSignal (rightOf c : Thread nD τ) barrier0 1) fun _ => p) Q) := by
  have hmem : false ∈ (ringRd (F := F) B).duties (cell (rightOf c) .bar) 0 := mem_duties B _ _ _ (by decide)
  unfold ow
  iintro ⟨#HI, ⟨%W, HO⟩, Ht, Hr⟩ Hk
  ihave #HIc := (hI (rightOf c) .bar) $$ HI
  iapply (Rounds.wp_signal 𝒱₀ ER (ringRd B) (c : Thread nD τ) none (dst := (rightOf c : Thread nD τ)) (sem := barrier0) (r := 0) (d := false)
    (κ := K (cell (rightOf c) .bar)) hmem (amount_cell B (rightOf c) .bar 0 false) 1 O rfl) $$ [HO Ht Hr]
  · isplitr; · iexact HIc
    isplitl [HO]; · iexact HO
    isplitl [Ht]; · iexact Ht
    isplitr; · rw [payload_cell B (rightOf c) .bar, pay_bar']; iempintro
    iexact Hr
  iintro HO
  iapply Hk; iexists W; iexact HO

include hI in
/-- The credit to the left neighbour at the end of hop `h`: leave to write, in its next hop, the slot just read. -/
theorem wp_credL {Q : PUnit.{1} → sProp 𝕄} (h : ℕ) (hh : h < 30) (O : CellTallies nD τ sig ℕ) :
    iprop(I ∗ ow c (O + tallyAt (cell (leftOf c) .cred) (2 * h + 4) 1) ∗ dutyTok ER (cell (leftOf c) .cred) h false ∗ perm (leftOf c) (h + 1)
        ∗ reached ER (cell (leftOf c) .cred) h)
      ⊢ iprop((ow c O -∗ WP c p Q) -∗ WP c (.op (.semSignal (leftOf c : Thread nD τ) cc0_scratch9.sem 1) fun _ => p) Q) := by
  have hd : Kd.cred.duties h = {false} := if_pos hh
  have hmem : false ∈ (ringRd (F := F) B).duties (cell (leftOf c) .cred) h := mem_duties_one B _ _ _ hd
  unfold ow
  iintro ⟨#HI, ⟨%W, HO⟩, Ht, Hp, Hr⟩ Hk
  ihave #HIc := (hI (leftOf c) .cred) $$ HI
  iapply (Rounds.wp_signal 𝒱₀ ER (ringRd B) (c : Thread nD τ) none (dst := (leftOf c : Thread nD τ)) (sem := cc0_scratch9.sem) (r := h) (d := false)
    (κ := K (cell (leftOf c) .cred)) hmem
    (amount_cell B (leftOf c) .cred h false) (2 * h + 4) O rfl) $$ [HO Ht Hp Hr]
  · isplitr; · iexact HIc
    isplitl [HO]; · iexact HO
    isplitl [Ht]; · iexact Ht
    isplitl [Hp]; · rw [payload_cell B (leftOf c) .cred, pay_cred]; iexact Hp
    iexact Hr
  iintro HO
  iapply Hk; iexists W; iexact HO

/-! ## Waits -/

include hI in
/-- The wait for both barrier units: leave to send in hop 0. -/
theorem wp_barW {Q : PUnit.{1} → sProp 𝕄} (O : CellTallies nD τ sig ℕ) (hO : Above 1 O) :
    iprop(I ∗ levAts L lv ∗ cred (tallyAt (cell c .bar) 1 2) ∗ ow c O ∗ atPos ER (cell c .bar) 0 ∅ 0)
      ⊢ iprop((ow c O ∗ atPos ER (cell c .bar) 1 ∅ 0 ∗ perm c 0 -∗ WP c p Q) -∗ WP c (.op (.semWait barrier0 2) fun _ => p) Q) := by
  have hmw : (levAts L lv : sProp 𝕄) ⊢ MayWait (c : Thread nD τ) (.reg barrier0) 1 O := mayWait c _ (by omega) hO
  have hex : 0 + 2 = (ringRd (F := F) B).expect (cell c Kd.bar) 0 := by rw [expect_cell]; rfl
  unfold ow
  iintro ⟨#HI, #Hlev, Hc, ⟨%W, HO⟩, Hat⟩ Hk
  ihave #HIc := (hI c .bar) $$ HI
  iapply (Rounds.wp_wait_rest_token 𝒱₀ ER (ringRd B) (c : Thread nD τ) none (sm := .reg barrier0) (κ := K (cell c .bar))
    (wpE_semWait_eq 𝒱₀ (c : Thread nD τ) none Set.univ) (Set.mem_univ _) 1 (O := O) (W := W) (R := 0) (m := 0) (T := ∅)
    hex) $$ [Hc HO Hat]
  · isplitr; · iexact HIc
    isplitl [Hc]; · iexact Hc
    isplitl [HO]; · iexact HO
    isplitr; · iapply hmw; iexact Hlev
    iexact Hat
  iintro ⟨HO, Hat, -, Hpay⟩
  iapply Hk
  isplitl [HO]; · iexists _; iexact HO
  isplitl [Hat]; · iexact Hat
  iapply (rest_bar B c); iexact Hpay

include hI in
/-- The wait for the right neighbour's credit, in hop `h + 1`: leave to send in that hop. -/
theorem wp_credW {Q : PUnit.{1} → sProp 𝕄} (h : ℕ) (hh : h < 30) (O : CellTallies nD τ sig ℕ) (hO : Above (2 * h + 4) O) :
    iprop(I ∗ levAts L lv ∗ cred (tallyAt (cell c .cred) (2 * h + 4) 1) ∗ ow c O ∗ atPos ER (cell c .cred) h ∅ 0)
      ⊢ iprop((ow c O ∗ atPos ER (cell c .cred) (h + 1) ∅ 0 ∗ reached ER (cell c .cred) (h + 1) ∗ perm c (h + 1) -∗ WP c p Q)
        -∗ WP c (.op (.semWait cc0_scratch9.sem 1) fun _ => p) Q) := by
  have hd : Kd.cred.duties h = {false} := if_pos hh
  have hmw : (levAts L lv : sProp 𝕄) ⊢ MayWait (c : Thread nD τ) (.reg cc0_scratch9.sem) (2 * h + 4) O := mayWait c _ (by omega) hO
  have hex : 0 + 1 = (ringRd (F := F) B).expect (cell c Kd.cred) h := expect_one B c .cred h 1 hd rfl
  unfold ow
  iintro ⟨#HI, #Hlev, Hc, ⟨%W, HO⟩, Hat⟩ Hk
  ihave #HIc := (hI c .cred) $$ HI
  iapply (Rounds.wp_wait_rest_token 𝒱₀ ER (ringRd B) (c : Thread nD τ) none (sm := .reg cc0_scratch9.sem) (κ := K (cell c .cred))
    (wpE_semWait_eq 𝒱₀ (c : Thread nD τ) none Set.univ) (Set.mem_univ _) (2 * h + 4) (O := O) (W := W) (R := h) (m := 0) (T := ∅)
    hex) $$ [Hc HO Hat]
  · isplitr; · iexact HIc
    isplitl [Hc]; · iexact Hc
    isplitl [HO]; · iexact HO
    isplitr; · iapply hmw; iexact Hlev
    iexact Hat
  iintro ⟨HO, Hat, Hr, Hpay⟩
  iapply Hk
  isplitl [HO]; · iexists _; iexact HO
  isplitl [Hat]; · iexact Hat
  isplitl [Hr]; · iexact Hr
  iapply (Entails.of_eq ((rest_cell B c .cred h hd).trans (pay_cred B c h false))); iexact Hpay

include hI in
/-- The wait, in hop `h`, for the own transfer: the half share lent to it comes back. -/
theorem wp_sent {Q : PUnit.{1} → sProp 𝕄} (b : Bool) (n : Fin 2) (h : ℕ) (hh : h < 31) (O : CellTallies nD τ sig ℕ) (hO : Above 0 O) :
    iprop(I ∗ levAts L lv ∗ cred (tallyAt (cell c (.send b (curOf h))) 0 N) ∗ ow c O ∗ atPos ER (cell c (.send b (curOf h))) (h / 2) ∅ 0)
      ⊢ iprop((ow c O ∗ atPos ER (cell c (.send b (curOf h))) (h / 2 + 1) ∅ 0 ∗ reached ER (cell c (.send b (curOf h))) (h / 2 + 1)
          ∗ slot c b (curOf h) fullShare.left (B b (back h c)) -∗ WP c p Q)
        -∗ WP c (.op (.waitDma2 (semOf (sendA b) (curOf h)) (slotM b n) (slotM b (curOf h)) ((View.wordExact_bits rfl).reshape _ _) ((View.wordExact_bits rfl).reshape _ _)) fun _ => p) Q) := by
  have hd : (Kd.send b (curOf h)).duties (h / 2) = {false} := if_pos (by rw [hopS_cur]; exact hh)
  have hmw : (levAts L lv : sProp 𝕄) ⊢ MayWait (c : Thread nD τ) (Kd.send b (curOf h)).sl 0 O := mayWait c _ (by omega) hO
  have hex : 0 + (slotM b (curOf h)).view.dmaCredit = (ringRd (F := F) B).expect (cell c (Kd.send b (curOf h))) (h / 2) := expect_one B c _ _ _ hd (slot_credit b _).symm
  unfold ow
  iintro ⟨#HI, #Hlev, Hc, ⟨%W, HO⟩, Hat⟩ Hk
  ihave #HIc := (hI c (.send b (curOf h))) $$ HI
  iapply (Rounds.wp_wait_rest_token 𝒱₀ ER (ringRd B) (c : Thread nD τ) none (sm := (Kd.send b (curOf h)).sl) (κ := K (cell c (.send b (curOf h))))
    (wpE_waitDma2_eq 𝒱₀ (c : Thread nD τ) none Set.univ) (Set.mem_univ _) 0 (O := O) (W := W) (R := h / 2) (m := 0) (T := ∅)
    hex) $$ [Hc HO Hat]
  · isplitr; · iexact HIc
    isplitl [Hc]; · rw [slot_credit]; iexact Hc
    isplitl [HO]; · iexact HO
    isplitr; · iapply hmw; iexact Hlev
    iexact Hat
  iintro ⟨HO, Hat, Hr, Hpay⟩
  iapply Hk
  isplitl [HO]; · iexists _; iexact HO
  isplitl [Hat]; · iexact Hat
  isplitl [Hr]; · iexact Hr
  iapply (Entails.of_eq ((rest_cell B c (.send b (curOf h)) (h / 2) hd).trans ((pay_send B c b _ _ false).trans (by rw [hopS_cur])))); iexact Hpay

include hI in
/-- The wait, in hop `h`, for the left neighbour's transfer: the other slot comes back, holding the next block. -/
theorem wp_recv {Q : PUnit.{1} → sProp 𝕄} (b : Bool) (n : Fin 2) (h : ℕ) (hh : h < 31) (O : CellTallies nD τ sig ℕ) (hO : Above (2 * h + 3) O) :
    iprop(I ∗ levAts L lv ∗ cred (tallyAt (cell c (.recv b (curOf (h + 1)))) (2 * h + 3) N) ∗ ow c O
        ∗ atPos ER (cell c (.recv b (curOf (h + 1)))) (h / 2) ∅ 0)
      ⊢ iprop((ow c O ∗ atPos ER (cell c (.recv b (curOf (h + 1)))) (h / 2 + 1) ∅ 0 ∗ reached ER (cell c (.recv b (curOf (h + 1)))) (h / 2 + 1)
          ∗ slot c b (curOf (h + 1)) fullShare (B b (back (h + 1) c)) ∗ reached ER (cell (leftOf c) .cred) h -∗ WP c p Q)
        -∗ WP c (.op (.waitDma2 (semOf (recvA b) (curOf (h + 1))) (slotM b n) (slotM b (curOf (h + 1))) ((View.wordExact_bits rfl).reshape _ _) ((View.wordExact_bits rfl).reshape _ _)) fun _ => p) Q) := by
  have hd : (Kd.recv b (curOf (h + 1))).duties (h / 2) = {false} := if_pos (by rw [hopR_cur]; exact hh)
  have hmw : (levAts L lv : sProp 𝕄) ⊢ MayWait (c : Thread nD τ) (Kd.recv b (curOf (h + 1))).sl (2 * h + 3) O := mayWait c _ (by omega) hO
  have hex : 0 + (slotM b (curOf (h + 1))).view.dmaCredit = (ringRd (F := F) B).expect (cell c (Kd.recv b (curOf (h + 1)))) (h / 2) := expect_one B c _ _ _ hd (slot_credit b _).symm
  unfold ow
  iintro ⟨#HI, #Hlev, Hc, ⟨%W, HO⟩, Hat⟩ Hk
  ihave #HIc := (hI c (.recv b (curOf (h + 1)))) $$ HI
  iapply (Rounds.wp_wait_rest_token 𝒱₀ ER (ringRd B) (c : Thread nD τ) none (sm := (Kd.recv b (curOf (h + 1))).sl)
    (κ := K (cell c (.recv b (curOf (h + 1)))))
    (wpE_waitDma2_eq 𝒱₀ (c : Thread nD τ) none Set.univ) (Set.mem_univ _) (2 * h + 3) (O := O) (W := W) (R := h / 2) (m := 0) (T := ∅)
    hex) $$ [Hc HO Hat]
  · isplitr; · iexact HIc
    isplitl [Hc]; · rw [slot_credit]; iexact Hc
    isplitl [HO]; · iexact HO
    isplitr; · iapply hmw; iexact Hlev
    iexact Hat
  iintro ⟨HO, Hat, Hr, Hpay⟩
  iapply Hk
  isplitl [HO]; · iexists _; iexact HO
  isplitl [Hat]; · iexact Hat
  isplitl [Hr]; · iexact Hr
  iapply (Entails.of_eq ((rest_cell B c (.recv b (curOf (h + 1))) (h / 2) hd).trans ((pay_recv B c b _ _ false).trans (by rw [hopR_cur])))); iexact Hpay

/-! ## Transfers -/

include hI in
/-- The transfer of hop `h`: half of the own slot and the right neighbour's slot go to it. -/
theorem wp_sendH {Q : PUnit.{1} → sProp 𝕄} (b : Bool) (h : ℕ) (hh : h < 31) (O : CellTallies nD τ sig ℕ) :
    iprop(I ∗ slot c b (curOf h) fullShare.left (B b (back h c)) ∗ (∃ x, slot (rightOf c) b (curOf (h + 1)) fullShare x)
        ∗ reached ER (cell c .cred) h
        ∗ ow c (O + tallyAt (cell (rightOf c) (.recv b (curOf (h + 1)))) (2 * h + 3) N)
        ∗ dutyTok ER (cell c (.send b (curOf h))) (h / 2) false ∗ reached ER (cell c (.send b (curOf h))) (h / 2)
        ∗ dutyTok ER (cell (rightOf c) (.recv b (curOf (h + 1)))) (h / 2) false
        ∗ reached ER (cell (rightOf c) (.recv b (curOf (h + 1)))) (h / 2))
      ⊢ iprop((cred (tallyAt (cell c (.send b (curOf h))) 0 N) ∗ ow c O -∗ WP c p Q) -∗ WP c (.op (.enqueueDma (slotM b (curOf h)) (.remote (Dev.tc (rightOf c)) (slotM b (curOf (h + 1))) (.dma (semOf (sendA b) (curOf h)))) (.dma (semOf (recvA b) (curOf (h + 1))))
          ((View.wordExact_bits rfl).reshape _ _) ((View.wordExact_bits rfl).reshape _ _) ⟨⟨rfl, Or.inl rfl⟩, trivial⟩) fun _ => p) Q) := by
  have hd₁ : (Kd.send b (curOf h)).duties (h / 2) = {false} := if_pos (by rw [hopS_cur]; exact hh)
  have hd₂ : (Kd.recv b (curOf (h + 1))).duties (h / 2) = {false} := if_pos (by rw [hopR_cur]; exact hh)
  have hm₁ : false ∈ (ringRd (F := F) B).duties (cell c (.send b (curOf h))) (h / 2) := mem_duties_one B _ _ _ hd₁
  have hm₂ : false ∈ (ringRd (F := F) B).duties (cell (rightOf c) (.recv b (curOf (h + 1)))) (h / 2) := mem_duties_one B _ _ _ hd₂
  unfold ow slot owns
  iintro ⟨#HI, ⟨%fs, %hfs, Hs⟩, ⟨%x, %fd, -, Hd⟩, #Hcr, ⟨%W, HO⟩, Ht1, Hr1, Ht2, Hr2⟩ Hk
  ihave #HI1 := (hI c (.send b (curOf h))) $$ HI
  ihave #HI2 := (hI (rightOf c) (.recv b (curOf (h + 1)))) $$ HI
  iapply (Rounds.wp_send_pointsTo_with 𝒱₀ ER (ringRd B) (c : Thread nD τ) none (c' := (rightOf c : Thread nD τ)) (src := slotM b (curOf h))
      (dst := slotM b (curOf (h + 1))) (sS := (Kd.send b (curOf h)).sl) (sem := (Kd.recv b (curOf (h + 1))).sl) (q := fullShare.left)
      (fs := fs) (fd := fd) (F := reached ER (cell c .cred) h)
      (κ₁ := K (cell c (.send b (curOf h)))) (κ₂ := K (cell (rightOf c) (.recv b (curOf (h + 1))))) (r₁ := h / 2) (r₂ := h / 2) (d₁ := false) (d₂ := false)
      hm₁
      hm₂
      (2 * h + 3) 0 N (slot_credit b _) (amount_cell B c (.send b (curOf h)) (h / 2) false)
      (amount_cell B (rightOf c) (.recv b (curOf (h + 1))) (h / 2) false) O rfl (W := W)
      (by
        rw [payload_cell B c (.send b (curOf h)), pay_send, hopS_cur, ← hfs]
        exact owns_intro (c : Thread nD τ) (slotM b (curOf h)) fullShare.left fs)
      (by
        rw [payload_cell B (rightOf c) (.recv b (curOf (h + 1))), pay_recv, hopR_cur, left_right, back_succ_right, ← hfs]
        refine sep_mono_left ((owns_intro (rightOf c : Thread nD τ) (slotM b (curOf (h + 1))) fullShare _).trans (Entails.of_eq ?_))
        rw [View.read_write_univ])) $$ [Hs Hd HO Ht1 Hr1 Ht2 Hr2]
  · isplitr; · iexact HI1
    isplitr; · iexact HI2
    isplitl [Hs]; · iexact Hs
    isplitl [Hd]
    · isplitl [Hd]; · iexact Hd
      iexact Hcr
    isplitl [HO]; · iexact HO
    isplitl [Ht1]; · iexact Ht1
    isplitl [Hr1]; · iexact Hr1
    isplitl [Ht2]; · iexact Ht2
    iexact Hr2
  iintro ⟨HcS, HO⟩
  iapply Hk
  isplitl [HcS]; · iexact HcS
  iexists W; iexact HO

variable (l : List St)

/-! ## The statements as single steps -/

theorem run_barL : (run c (.barL :: l) : PP F PUnit.{1}) = .op (.semSignal (leftOf c : Thread nD τ) barrier0 1) fun _ => run c l := rfl
theorem run_barR : (run c (.barR :: l) : PP F PUnit.{1}) = .op (.semSignal (rightOf c : Thread nD τ) barrier0 1) fun _ => run c l := rfl
theorem run_credL : (run c (.credL :: l) : PP F PUnit.{1}) = .op (.semSignal (leftOf c : Thread nD τ) cc0_scratch9.sem 1) fun _ => run c l := rfl
theorem run_barW : (run c (.barW :: l) : PP F PUnit.{1}) = .op (.semWait barrier0 2) fun _ => run c l := rfl
theorem run_credW : (run c (.credW :: l) : PP F PUnit.{1}) = .op (.semWait cc0_scratch9.sem 1) fun _ => run c l := rfl
theorem run_sent (b : Bool) (s : Fin 2) : (run c (.sent b s :: l) : PP F PUnit.{1}) = .op (.waitDma2 (semOf (sendA b) s) (slotM b (nx s)) (slotM b s)
    ((View.wordExact_bits rfl).reshape _ _) ((View.wordExact_bits rfl).reshape _ _)) fun _ => run c l := rfl
theorem run_recv (b : Bool) (s : Fin 2) : (run c (.recv b s :: l) : PP F PUnit.{1}) = .op (.waitDma2 (semOf (recvA b) (nx s)) (slotM b s) (slotM b (nx s))
    ((View.wordExact_bits rfl).reshape _ _) ((View.wordExact_bits rfl).reshape _ _)) fun _ => run c l := rfl
theorem run_send (b : Bool) (s : Fin 2) : (run c (.send b s :: l) : PP F PUnit.{1})
    = .op (.enqueueDma (slotM b s) (.remote (Dev.tc (rightOf c)) (slotM b (nx s)) (.dma (semOf (sendA b) s))) (.dma (semOf (recvA b) (nx s)))
        ((View.wordExact_bits rfl).reshape _ _) ((View.wordExact_bits rfl).reshape _ _) ⟨⟨rfl, Or.inl rfl⟩, trivial⟩) fun _ => run c l := rfl

end Cert.KernelIdeal.Ring

end
-- ==== Proof.KernelIdeal.Mem.lean ====
/- Loads and stores by values: what a load of a held memref returns and what a store leaves in it, at the head of a program.
   The head number `i` of a slot of a ring buffer is read through the whole ring buffer. -/
module

public import proofs.«01_k».proof.Proof.KernelIdeal.Talk
public import Idealize.ShloMosaic.Lib.VecWindow
public import Idealize.ShloMosaic.Lib.ValueLayout

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow Idealize.ShloMosaic.ValueIdx

variable {F : FTy → Type} [FloatOps F]

local notation "𝕄" => MT nD τ sig ℕ (Elt F) ℕ UU ℕ

section Access

variable (c : Dev nD) {Q : PUnit.{1} → sProp (MT nD τ sig ℕ (Elt F) ℕ UU ℕ)} {sp : CoreSpace} {s : Shape} {e : EltTy} (m : Memref sig .tc sp s e)

/-- A load of a held memref returns the window of its values. -/
theorem ld (off size : Fin s.rank → ℕ) (inb : ∀ a, off a + size a ≤ s.size a) (q : PosShare TreeShare) (X : s.Idx → Elt F e)
    {hl : m.view.LoadsAt (Rect.unit off size inb).toLoadRect} (k : ((Rect.unit off size inb).toLoadRect.shape.Idx → Elt F e) → PP F PUnit.{1}) :
    (owns (c : Thread nD τ) m q X : sProp 𝕄)
      ⊢ iprop((owns (c : Thread nD τ) m q X -∗ WP c (k (window X off size inb)) Q) -∗ WP c (.op (.load m (Rect.unit off size inb).toLoadRect hl) k) Q) := by
  unfold owns
  iintro ⟨%f, %hf, H⟩ Hk
  subst hf
  iapply (wp_load 𝒱₀ (c : Thread nD τ) none Set.univ (S := m.view.set) (View.setOn_subset_set _ _)) $$ H
  iintro H
  iapply Hk
  iexists f; isplitr; · ipureintro; rfl
  iexact H

/-- A store over a held memref puts the payload over the window. -/
theorem st (off size : Fin s.rank → ℕ) (inb : ∀ a, off a + size a ≤ s.size a) (X : s.Idx → Elt F e) (w : (Rect.unit off size inb).shape.Idx → Elt F e)
    {hx : (m.access (Rect.unit off size inb)).Stores Finset.univ} {hm : Finset.univ = Finset.univ ∨ ∀ a, (Rect.unit off size inb).stride a = 1} (k : PUnit → PP F PUnit.{1}) :
    (owns (c : Thread nD τ) m fullShare X : sProp 𝕄)
      ⊢ iprop((owns (c : Thread nD τ) m fullShare (put X off size w) -∗ WP c (k ⟨⟩) Q) -∗ WP c (.op (.store m (Rect.unit off size inb) w Finset.univ hx hm) k) Q) := by
  unfold owns
  iintro ⟨%f, %hf, H⟩ Hk
  subst hf
  iapply (wp_store_writes₀ 𝒱₀ (c : Thread nD τ) none Set.univ (S := m.view.set) (View.set_slice_subset _ _)) $$ H
  iintro H
  iapply Hk
  iexists _; isplitr; · ipureintro; exact View.read_writes_cons_put m.view f inb w [] rfl
  iexact H

end Access

/-! ## One head of a slot -/

/-- Head `i` of a block, in the shape a load of it from a ring buffer has. -/
def head4 {α : Type} (X : S64x256x64.Idx → α) (i : Fin 64) : S1x1x256x64.Idx → α := fun j => X (ix3 i (j 2) (j 3))

section RingAccess

variable (c : Dev nD) {Q : PUnit.{1} → sProp (MT nD τ sig ℕ (Elt F) ℕ UU ℕ)} (m : Memref sig .tc .vmem S2x64x256x64 .f32)

/-- A slot of a two-slot buffer. -/
abbrev slotOf (s : Fin 2) : Memref sig .tc .vmem S64x256x64 .f32 :=
  (m.slice (Rect.unit (s := S2x64x256x64) (slotOff s) S1x64x256x64.size (slotOff_inb s)) (fun _ => rfl)).squeeze
    S64x256x64 squeezes_S1x64x256x64_S64x256x64

theorem slotOff_val : ∀ s : Fin 2, slotOff s 0 = s.val ∧ slotOff s 1 = 0 ∧ slotOff s 2 = 0 ∧ slotOff s 3 = 0 := by decide

/-- The elements of a slot. -/
theorem slot_set (s : Fin 2) : (slotOf m s).view.set
    = (Rect.unit (s := S2x64x256x64) (slotOff s) S1x64x256x64.size (slotOff_inb s)).set.map m.view.emb :=
  (View.set_reshape (m.view.slice (Rect.unit (s := S2x64x256x64) (slotOff s) S1x64x256x64.size (slotOff_inb s))) _).trans (View.set_slice _ _)

/-- The rows of head `i` of slot `s` lie in the slot. -/
theorem head_subset (s : Fin 2) (i : Fin 64) {o : Fin 4 → ℕ} (ho : o = ![s.val, i.val, 0, 0])
    (h : ∀ a, o a + S1x1x256x64.size a ≤ S2x64x256x64.size a) :
    (Rect.unit (s := S2x64x256x64) o S1x1x256x64.size h).set ⊆ (Rect.unit (s := S2x64x256x64) (slotOff s) S1x64x256x64.size (slotOff_inb s)).set := by
  subst ho
  intro x hx
  rw [Rect.mem_set_unit] at hx ⊢
  have hi := i.isLt
  have h0 := hx 0; have h1 := hx 1; have h2 := hx 2; have h3 := hx 3
  have b1 : (x 1).val < 64 := (x 1).isLt
  have b2 : (x 2).val < 256 := (x 2).isLt
  have b3 : (x 3).val < 64 := (x 3).isLt
  obtain ⟨k0, k1, k2, k3⟩ := slotOff_val s
  rintro (a : Fin 4)
  fin_cases a
  · show slotOff s 0 ≤ _ ∧ _ < slotOff s 0 + 1
    rw [k0]; exact h0
  · show slotOff s 1 ≤ (x 1).val ∧ (x 1).val < slotOff s 1 + 64
    rw [k1]; omega
  · show slotOff s 2 ≤ (x 2).val ∧ (x 2).val < slotOff s 2 + 256
    rw [k2]; omega
  · show slotOff s 3 ≤ (x 3).val ∧ (x 3).val < slotOff s 3 + 64
    rw [k3]; omega

/-- Where head `i` of slot `s` lies in the whole buffer. -/
theorem head_emb (s : Fin 2) (i : Fin 64) {o : Fin 4 → ℕ} (ho : o = ![s.val, i.val, 0, 0])
    (h : ∀ a, o a + S1x1x256x64.size a ≤ S2x64x256x64.size a) (j : S1x1x256x64.Idx)
    (hn : S64x256x64.numel = S1x64x256x64.numel) :
    (Rect.unit (s := S2x64x256x64) o S1x1x256x64.size h).emb j
      = (Rect.unit (s := S2x64x256x64) (slotOff s) S1x64x256x64.size (slotOff_inb s)).emb (Shape.reshapeEquiv hn (ix3 i (j 2) (j 3))) := by
  subst ho
  refine Eq.trans ?_ (congrArg _ (reshapeEquiv_ix3_1abc hn i (j 2) (j 3)).symm)
  obtain ⟨k0, k1, k2, k3⟩ := slotOff_val s
  have j0 : (j 0).val < 1 := (j 0).isLt
  have j1 : (j 1).val < 1 := (j 1).isLt
  funext a
  apply Fin.ext
  revert a
  rintro (a : Fin 4)
  fin_cases a
  · show s.val + 1 * (j 0).val = slotOff s 0 + 1 * 0
    rw [k0]; omega
  · show i.val + 1 * (j 1).val = slotOff s 1 + 1 * i.val
    rw [k1]; omega
  · show 0 + 1 * (j 2).val = slotOff s 2 + 1 * (j 2).val
    rw [k2]
  · show 0 + 1 * (j 3).val = slotOff s 3 + 1 * (j 3).val
    rw [k3]

/-- A load of head `i` of a held slot, through the whole buffer. -/
theorem ldHead (s : Fin 2) (i : Fin 64) {o : Fin 4 → ℕ} (ho : o = ![s.val, i.val, 0, 0])
    (h : ∀ a, o a + S1x1x256x64.size a ≤ S2x64x256x64.size a) (q : PosShare TreeShare) (X : S64x256x64.Idx → Elt F .f32)
    {hl : m.view.LoadsAt (Rect.unit (s := S2x64x256x64) o S1x1x256x64.size h).toLoadRect} (k : (S1x1x256x64.Idx → Elt F .f32) → PP F PUnit.{1}) :
    (owns (c : Thread nD τ) (slotOf m s) q X : sProp 𝕄)
      ⊢ iprop((owns (c : Thread nD τ) (slotOf m s) q X -∗ WP c (k (head4 X i)) Q)
        -∗ WP c (.op (.load m (Rect.unit (s := S2x64x256x64) o S1x1x256x64.size h).toLoadRect hl) k) Q) := by
  unfold owns
  iintro ⟨%f, %hf, H⟩ Hk
  have hS : m.view.setOn (Rect.unit (s := S2x64x256x64) o S1x1x256x64.size h).set ⊆ (slotOf m s).view.set := by
    rw [slot_set]
    exact Finset.map_subset_map.mpr (head_subset s i ho h)
  have hv : m.view.readAt (Elt F) (Rect.unit (s := S2x64x256x64) o S1x1x256x64.size h).toLoadRect f = head4 X i := by
    subst hf
    funext j
    show m.view.read (Elt F) f ((Rect.unit (s := S2x64x256x64) o S1x1x256x64.size h).emb j) = m.view.read (Elt F) f
      ((Rect.unit (s := S2x64x256x64) (slotOff s) S1x64x256x64.size (slotOff_inb s)).emb (Shape.reshapeEquiv _ (ix3 i (j 2) (j 3))))
    exact congrArg (m.view.read (Elt F) f) (head_emb s i ho h j _)
  iapply (wp_load 𝒱₀ (c : Thread nD τ) none Set.univ (m := m) (S := (slotOf m s).view.set) hS) $$ H
  iintro H
  rw [hv]
  iapply Hk
  iexists f; isplitr; · ipureintro; exact hf
  iexact H

/-- A load of the whole of slot 0, whose value is not used. -/
theorem ldSlot (q : PosShare TreeShare) (X : S64x256x64.Idx → Elt F .f32)
    {hl : m.view.LoadsAt (Rect.unit (s := S2x64x256x64) ![0, 0, 0, 0] S1x64x256x64.size inb_S2x64x256x64_S1x64x256x64_0_0_0_0).toLoadRect} (p : PP F PUnit.{1}) :
    (owns (c : Thread nD τ) (slotOf m 0) q X : sProp 𝕄)
      ⊢ iprop((owns (c : Thread nD τ) (slotOf m 0) q X -∗ WP c p Q)
        -∗ WP c (.op (.load m (Rect.unit (s := S2x64x256x64) ![0, 0, 0, 0] S1x64x256x64.size inb_S2x64x256x64_S1x64x256x64_0_0_0_0).toLoadRect hl) fun _ => p) Q) := by
  unfold owns
  iintro ⟨%f, %hf, H⟩ Hk
  have hS : m.view.setOn (Rect.unit (s := S2x64x256x64) ![0, 0, 0, 0] S1x64x256x64.size inb_S2x64x256x64_S1x64x256x64_0_0_0_0).set ⊆ (slotOf m 0).view.set := by
    rw [slot_set]
    exact Finset.Subset.refl _
  iapply (wp_load 𝒱₀ (c : Thread nD τ) none Set.univ (m := m) (S := (slotOf m 0).view.set) hS) $$ H
  iintro H
  iapply Hk
  iexists f; isplitr; · ipureintro; exact hf
  iexact H

/-- A store over the whole of slot 0, through the whole buffer. -/
theorem stSlot (X : S64x256x64.Idx → Elt F .f32) (w : S1x64x256x64.Idx → Elt F .f32) (Y : S64x256x64.Idx → Elt F .f32)
    (hY : ∀ hn : S64x256x64.numel = S1x64x256x64.numel, (fun x => w (Shape.reshapeEquiv hn x)) = Y)
    {hx : (m.access (Rect.unit (s := S2x64x256x64) ![0, 0, 0, 0] S1x64x256x64.size inb_S2x64x256x64_S1x64x256x64_0_0_0_0)).Stores Finset.univ}
    {hm : Finset.univ = Finset.univ ∨ ∀ a, (Rect.unit (s := S2x64x256x64) ![0, 0, 0, 0] S1x64x256x64.size inb_S2x64x256x64_S1x64x256x64_0_0_0_0).stride a = 1}
    (k : PUnit → PP F PUnit.{1}) :
    (owns (c : Thread nD τ) (slotOf m 0) fullShare X : sProp 𝕄)
      ⊢ iprop((owns (c : Thread nD τ) (slotOf m 0) fullShare Y -∗ WP c (k ⟨⟩) Q)
        -∗ WP c (.op (.store m (Rect.unit (s := S2x64x256x64) ![0, 0, 0, 0] S1x64x256x64.size inb_S2x64x256x64_S1x64x256x64_0_0_0_0) w Finset.univ hx hm) k) Q) := by
  unfold owns
  iintro ⟨%f, %hf, H⟩ Hk
  have hS : (m.access (Rect.unit (s := S2x64x256x64) ![0, 0, 0, 0] S1x64x256x64.size inb_S2x64x256x64_S1x64x256x64_0_0_0_0)).setOn Finset.univ ⊆ (slotOf m 0).view.set := by
    rw [slot_set, View.setOn_univ]
    exact (View.set_slice _ _).subset
  have hr : (slotOf m 0).view.read (Elt F) ((m.access (Rect.unit (s := S2x64x256x64) ![0, 0, 0, 0] S1x64x256x64.size inb_S2x64x256x64_S1x64x256x64_0_0_0_0)).write (Elt F) f w Finset.univ) = Y := by
    rw [← hY squeezes_S1x64x256x64_S64x256x64.numel_eq]
    funext x
    exact congrFun (View.read_write_univ (v := m.access (Rect.unit (s := S2x64x256x64) ![0, 0, 0, 0] S1x64x256x64.size inb_S2x64x256x64_S1x64x256x64_0_0_0_0)) f w) (Shape.reshapeEquiv _ x)
  iapply (wp_store 𝒱₀ (c : Thread nD τ) none Set.univ (m := m) (r := Rect.unit (s := S2x64x256x64) ![0, 0, 0, 0] S1x64x256x64.size inb_S2x64x256x64_S1x64x256x64_0_0_0_0) (S := (slotOf m 0).view.set) hS) $$ H
  iintro H
  iapply Hk
  iexists _; isplitr; · ipureintro; exact hr
  iexact H

end RingAccess

end Cert.KernelIdeal.Ring

end
-- ==== Proof.KernelIdeal.Flash.lean ====
/- The two loops of the kernel: the running softmax over one block, head by head, and the final division. What each
   leaves is written by the head, so that a whole block is one step of the state. -/
module

public import proofs.«01_k».proof.Proof.KernelIdeal.Mem
public import Idealize.ShloMosaic.Lib.Scf
public import Idealize.ShloMosaic.Lib.VecWindow
public import Idealize.ShloMosaic.Lib.ValueLayout

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow Idealize.ShloMosaic.ValueIdx

variable {F : FTy → Type} [FloatOps F]

local notation "𝕄" => MT nD τ sig ℕ (Elt F) ℕ UU ℕ

/-! ## Values -/

section Upto
variable {α : Type}

/-- `x` with its first `n` rows replaced. -/
def upto2 (x : S64x256.Idx → α) (w : Fin 64 → S1x256.Idx → α) (n : ℕ) : S64x256.Idx → α :=
  fun j => if (j 0).val < n then w (j 0) (ix2 (0 : Fin 1) (j 1)) else x j
/-- `x` with its first `n` heads replaced. -/
def upto3 (x : S64x256x64.Idx → α) (w : Fin 64 → S1x256x64.Idx → α) (n : ℕ) : S64x256x64.Idx → α :=
  fun j => if (j 0).val < n then w (j 0) (ix3 (0 : Fin 1) (j 1) (j 2)) else x j

theorem upto2_zero (x : S64x256.Idx → α) (w : Fin 64 → S1x256.Idx → α) : upto2 x w 0 = x := rfl
theorem upto3_zero (x : S64x256x64.Idx → α) (w : Fin 64 → S1x256x64.Idx → α) : upto3 x w 0 = x := rfl
theorem upto2_all (x : S64x256.Idx → α) (w : Fin 64 → S1x256.Idx → α) : upto2 x w 64 = fun j => w (j 0) (ix2 (0 : Fin 1) (j 1)) := by
  funext j
  have h : (j 0).val < 64 := (j 0).isLt
  exact if_pos h
theorem upto3_all (x : S64x256x64.Idx → α) (w : Fin 64 → S1x256x64.Idx → α) : upto3 x w 64 = fun j => w (j 0) (ix3 (0 : Fin 1) (j 1) (j 2)) := by
  funext j
  have h : (j 0).val < 64 := (j 0).isLt
  exact if_pos h

/-- Row `i` is as it was while only the rows before it are replaced. -/
theorem window_upto2 (x : S64x256.Idx → α) (w : Fin 64 → S1x256.Idx → α) (i : ℕ) (inb : ∀ a, (![i, 0] : Fin 2 → ℕ) a + S1x256.size a ≤ S64x256.size a) :
    window (s := S64x256) (upto2 x w i) ![i, 0] S1x256.size inb = window (s := S64x256) x ![i, 0] S1x256.size inb := by
  funext y
  have e : ((Rect.unit (s := S64x256) ![i, 0] S1x256.size inb).emb y 0).val = i + 1 * (y 0).val := rfl
  exact if_neg (by show ¬ ((Rect.unit (s := S64x256) ![i, 0] S1x256.size inb).emb y 0).val < i; omega)
theorem window_upto3 (x : S64x256x64.Idx → α) (w : Fin 64 → S1x256x64.Idx → α) (i : ℕ) (inb : ∀ a, (![i, 0, 0] : Fin 3 → ℕ) a + S1x256x64.size a ≤ S64x256x64.size a) :
    window (s := S64x256x64) (upto3 x w i) ![i, 0, 0] S1x256x64.size inb = window (s := S64x256x64) x ![i, 0, 0] S1x256x64.size inb := by
  funext y
  have e : ((Rect.unit (s := S64x256x64) ![i, 0, 0] S1x256x64.size inb).emb y 0).val = i + 1 * (y 0).val := rfl
  exact if_neg (by show ¬ ((Rect.unit (s := S64x256x64) ![i, 0, 0] S1x256x64.size inb).emb y 0).val < i; omega)

/-- The next row put in place. -/
theorem put_upto2 (x : S64x256.Idx → α) (w : Fin 64 → S1x256.Idx → α) (i : Fin 64) :
    put (s := S64x256) (upto2 x w i.val) ![i.val, 0] S1x256.size (w i) = upto2 x w (i.val + 1) := by
  funext j
  have h1 : (j 1).val < 256 := (j 1).isLt
  unfold put
  split
  · next h =>
    have h0 : i.val ≤ (j 0).val ∧ (j 0).val < i.val + 1 := h 0
    have e : j 0 = i := Fin.ext (by omega)
    unfold upto2
    rw [if_pos h0.2]
    rw [e]
    refine congrArg (w i) (funext fun a => Fin.ext ?_)
    revert a
    rintro (a : Fin 2)
    fin_cases a
    · show (j 0).val - i.val = 0
      omega
    · show (j 1).val - 0 = (j 1).val
      omega
  · next h =>
    have hne : (j 0).val ≠ i.val := fun e => h (by
      rintro (a : Fin 2)
      fin_cases a
      · show i.val ≤ (j 0).val ∧ (j 0).val < i.val + 1
        omega
      · show 0 ≤ (j 1).val ∧ (j 1).val < 0 + 256
        omega)
    unfold upto2
    by_cases hlt : (j 0).val < i.val
    · rw [if_pos hlt, if_pos (by omega)]
    · rw [if_neg hlt, if_neg (by omega)]
theorem put_upto3 (x : S64x256x64.Idx → α) (w : Fin 64 → S1x256x64.Idx → α) (i : Fin 64) :
    put (s := S64x256x64) (upto3 x w i.val) ![i.val, 0, 0] S1x256x64.size (w i) = upto3 x w (i.val + 1) := by
  funext j
  have h1 : (j 1).val < 256 := (j 1).isLt
  have h2 : (j 2).val < 64 := (j 2).isLt
  unfold put
  split
  · next h =>
    have h0 : i.val ≤ (j 0).val ∧ (j 0).val < i.val + 1 := h 0
    have e : j 0 = i := Fin.ext (by omega)
    unfold upto3
    rw [if_pos h0.2]
    rw [e]
    refine congrArg (w i) (funext fun a => Fin.ext ?_)
    revert a
    rintro (a : Fin 3)
    fin_cases a
    · show (j 0).val - i.val = 0
      omega
    · show (j 1).val - 0 = (j 1).val
      omega
    · show (j 2).val - 0 = (j 2).val
      omega
  · next h =>
    have hne : (j 0).val ≠ i.val := fun e => h (by
      rintro (a : Fin 3)
      fin_cases a
      · show i.val ≤ (j 0).val ∧ (j 0).val < i.val + 1
        omega
      · show 0 ≤ (j 1).val ∧ (j 1).val < 0 + 256
        omega
      · show 0 ≤ (j 2).val ∧ (j 2).val < 0 + 64
        omega)
    unfold upto3
    by_cases hlt : (j 0).val < i.val
    · rw [if_pos hlt, if_pos (by omega)]
    · rw [if_neg hlt, if_neg (by omega)]

end Upto

theorem rowInb2 : ∀ (i : Fin 64) (a : Fin 2), (![i.val, 0] : Fin 2 → ℕ) a + S1x256.size a ≤ S64x256.size a := by decide +kernel
theorem rowInb3 : ∀ (i : Fin 64) (a : Fin 3), (![i.val, 0, 0] : Fin 3 → ℕ) a + S1x256x64.size a ≤ S64x256x64.size a := by decide +kernel

/-- Row `i` of the maxima or the sums, and head `i` of a block or of the running output. -/
abbrev row2 {α : Type} (x : S64x256.Idx → α) (i : Fin 64) : S1x256.Idx → α := window (s := S64x256) x ![i.val, 0] S1x256.size (rowInb2 i)
abbrev row3 {α : Type} (x : S64x256x64.Idx → α) (i : Fin 64) : S1x256x64.Idx → α := window (s := S64x256x64) x ![i.val, 0, 0] S1x256x64.size (rowInb3 i)

/-- The running maximum, sum and output. -/
structure Acc (F : FTy → Type) where
  mx : S64x256.Idx → Elt F .f32
  l : S64x256.Idx → Elt F .f32
  a : S64x256x64.Idx → Elt F .f32

variable (q k v : S64x256x64.Idx → Elt F .f32) (s : Acc F)

/-- What one head's step stores. -/
def newMx (i : Fin 64) : S1x256.Idx → Elt F .f32 := k0_pay2 (k0_pay6 (row3 q i) (head4 k i) (row2 s.mx i))
def newL (i : Fin 64) : S1x256.Idx → Elt F .f32 := k0_pay9 (row3 q i) (head4 k i) (row2 s.mx i) (row2 s.l i)
def newA (i : Fin 64) : S1x256x64.Idx → Elt F .f32 :=
  k0_pay1 (k0_pay10 (row3 q i) (head4 k i) (head4 v i) (row2 s.mx i)) (k0_pay11 (row3 q i) (head4 k i) (row2 s.mx i) (row3 s.a i))

/-- The state after the first `n` heads. -/
def Acc.upto (n : ℕ) : Acc F := ⟨upto2 s.mx (newMx q k s) n, upto2 s.l (newL q k s) n, upto3 s.a (newA q k v s) n⟩

/-- The state after one block of keys and values. -/
def Acc.step : Acc F where
  mx := fun j => newMx q k s (j 0) (ix2 (0 : Fin 1) (j 1))
  l := fun j => newL q k s (j 0) (ix2 (0 : Fin 1) (j 1))
  a := fun j => newA q k v s (j 0) (ix3 (0 : Fin 1) (j 1) (j 2))

theorem Acc.upto_zero : s.upto q k v 0 = s := rfl
theorem Acc.upto_all : s.upto q k v 64 = s.step q k v := by
  unfold Acc.upto Acc.step; rw [upto2_all, upto2_all, upto3_all]

/-- The state before any block. -/
def Acc.init : Acc F := ⟨k0_pay260 (F := F), k0_pay261 (F := F), k0_pay262 (F := F)⟩

/-- The output of head `i` from the state. -/
def quot (i : Fin 64) : S1x256x64.Idx → Elt F .f32 := k0_pay3 (row3 s.a i) (row2 s.l i)
/-- The whole output. -/
def Acc.out : S64x256x64.Idx → Elt F .f32 := fun j => quot s (j 0) (ix3 (0 : Fin 1) (j 1) (j 2))

/-! ## The loops -/

section Loops

variable (c : Dev nD) {Q : PUnit.{1} → sProp (MT nD τ sig ℕ (Elt F) ℕ UU ℕ)} (p : PP F PUnit.{1})

/-- A program that is finished meets what holds. -/
theorem wp_fin (Q : PUnit.{1} → sProp (MT nD τ sig ℕ (Elt F) ℕ UU ℕ)) : Q ⟨⟩ ⊢ WP c (pure ⟨⟩) Q := le_wp_ret _ _ _ _ _

/-- Device `c` holds the state. -/
def hold (c : Dev nD) (s : Acc F) : sProp 𝕄 :=
  iprop(owns (c : Thread nD τ) mxM fullShare s.mx ∗ owns (c : Thread nD τ) lM fullShare s.l ∗ owns (c : Thread nD τ) accM fullShare s.a)

theorem row_eq (o1 : Fin 3 → ℕ) (o2 : Fin 4 → ℕ) (o3 : Fin 2 → ℕ)
    (h1 : ∀ a, o1 a + S1x256x64.size a ≤ S64x256x64.size a)
    (h2 : ∀ a, o2 a + S1x1x256x64.size a ≤ S2x64x256x64.size a)
    (h3 : ∀ a, o3 a + S1x256.size a ≤ S64x256.size a) : (row o1 o2 o3 h1 h2 h3 : PP F PUnit.{1})
    = .op (.load qM (Rect.unit (s := S64x256x64) o1 S1x256x64.size h1).toLoadRect (View.loadsAt_vmem h_S1x256x64)) fun q =>
      .op (.load (ringM false) (Rect.unit (s := S2x64x256x64) o2 S1x1x256x64.size h2).toLoadRect (View.loadsAt_vmem h_S1x1x256x64)) fun k =>
      .op (.load (ringM true) (Rect.unit (s := S2x64x256x64) o2 S1x1x256x64.size h2).toLoadRect (View.loadsAt_vmem h_S1x1x256x64)) fun v =>
      .op (.load mxM (Rect.unit (s := S64x256) o3 S1x256.size h3).toLoadRect (View.loadsAt_vmem h_S1x256)) fun mx =>
      .op (.load lM (Rect.unit (s := S64x256) o3 S1x256.size h3).toLoadRect (View.loadsAt_vmem h_S1x256)) fun l =>
      .op (.load lM (Rect.unit (s := S64x256) o3 S1x256.size h3).toLoadRect (View.loadsAt_vmem h_S1x256)) fun _ =>
      .op (.store lM (Rect.unit (s := S64x256) o3 S1x256.size h3) (k0_pay9 q k mx l) Finset.univ (View.stores_vmem_bits_univ h_S1x256 rfl) (.inl rfl)) fun _ =>
      .op (.load accM (Rect.unit (s := S64x256x64) o1 S1x256x64.size h1).toLoadRect (View.loadsAt_vmem h_S1x256x64)) fun a =>
      .op (.load accM (Rect.unit (s := S64x256x64) o1 S1x256x64.size h1).toLoadRect (View.loadsAt_vmem h_S1x256x64)) fun _ =>
      .op (.store accM (Rect.unit (s := S64x256x64) o1 S1x256x64.size h1) (k0_pay1 (k0_pay10 q k v mx) (k0_pay11 q k mx a)) Finset.univ (View.stores_vmem_bits_univ h_S1x256x64 rfl) (.inl rfl)) fun _ =>
      .op (.load mxM (Rect.unit (s := S64x256) o3 S1x256.size h3).toLoadRect (View.loadsAt_vmem h_S1x256)) fun _ =>
      .op (.store mxM (Rect.unit (s := S64x256) o3 S1x256.size h3) (k0_pay2 (k0_pay6 q k mx)) Finset.univ (View.stores_vmem_bits_univ h_S1x256 rfl) (.inl rfl)) fun _ =>
      pure ⟨⟩ := rfl

/-- What the flash loop reads and writes. -/
def flashR (c : Dev nD) (n : Fin 2) (πq πk πv : PosShare TreeShare) (q k v : S64x256x64.Idx → Elt F .f32) (s : Acc F) : sProp 𝕄 :=
  iprop(owns (c : Thread nD τ) qM πq q ∗ slot c false n πk k ∗ slot c true n πv v ∗ hold c s)

/-- One head of one block. -/
theorem wp_row (n : Fin 2) (πq πk πv : PosShare TreeShare) (i : Fin 64) {o1 : Fin 3 → ℕ} {o2 : Fin 4 → ℕ} {o3 : Fin 2 → ℕ}
    (h1 : ∀ a, o1 a + S1x256x64.size a ≤ S64x256x64.size a)
    (h2 : ∀ a, o2 a + S1x1x256x64.size a ≤ S2x64x256x64.size a)
    (h3 : ∀ a, o3 a + S1x256.size a ≤ S64x256.size a)
    (e1 : o1 = ![i.val, 0, 0]) (e2 : o2 = ![n.val, i.val, 0, 0]) (e3 : o3 = ![i.val, 0]) :
    (flashR c n πq πk πv q k v (s.upto q k v i.val) : sProp 𝕄)
      ⊢ WP c (row o1 o2 o3 h1 h2 h3) fun _ => flashR c n πq πk πv q k v (s.upto q k v (i.val + 1)) := by
  rw [row_eq]
  subst e1 e3
  unfold flashR hold
  iintro ⟨Hq, Hk, Hv, Hm, Hl, Ha⟩
  iapply (ld c qM _ _ h1 _ _ _) $$ Hq; iintro Hq
  iapply (ldHead c (ringM false) n i e2 h2 _ _ _) $$ Hk; iintro Hk
  iapply (ldHead c (ringM true) n i e2 h2 _ _ _) $$ Hv; iintro Hv
  iapply (ld c mxM _ _ h3 _ _ _) $$ Hm; iintro Hm
  iapply (ld c lM _ _ h3 _ _ _) $$ Hl; iintro Hl
  iapply (ld c lM _ _ h3 _ _ _) $$ Hl; iintro Hl
  iapply (st c lM _ _ h3 _ _ _) $$ Hl; iintro Hl
  iapply (ld c accM _ _ h1 _ _ _) $$ Ha; iintro Ha
  iapply (ld c accM _ _ h1 _ _ _) $$ Ha; iintro Ha
  iapply (st c accM _ _ h1 _ _ _) $$ Ha; iintro Ha
  iapply (ld c mxM _ _ h3 _ _ _) $$ Hm; iintro Hm
  iapply (st c mxM _ _ h3 _ _ _) $$ Hm; iintro Hm
  iapply (wp_fin c _)
  have em : window (s := S64x256) (s.upto q k v i.val).mx ![i.val, 0] S1x256.size h3 = row2 s.mx i := window_upto2 ..
  have el : window (s := S64x256) (s.upto q k v i.val).l ![i.val, 0] S1x256.size h3 = row2 s.l i := window_upto2 ..
  have ea : window (s := S64x256x64) (s.upto q k v i.val).a ![i.val, 0, 0] S1x256x64.size h1 = row3 s.a i := window_upto3 ..
  rw [em, el, ea]
  have fm : put (s := S64x256) (s.upto q k v i.val).mx ![i.val, 0] S1x256.size (newMx q k s i) = (s.upto q k v (i.val + 1)).mx := put_upto2 ..
  have fl : put (s := S64x256) (s.upto q k v i.val).l ![i.val, 0] S1x256.size (newL q k s i) = (s.upto q k v (i.val + 1)).l := put_upto2 ..
  have fa : put (s := S64x256x64) (s.upto q k v i.val).a ![i.val, 0, 0] S1x256x64.size (newA q k v s i) = (s.upto q k v (i.val + 1)).a := put_upto3 ..
  rw [← fm, ← fl, ← fa]
  isplitl [Hq]; · iexact Hq
  isplitl [Hk]; · iexact Hk
  isplitl [Hv]; · iexact Hv
  isplitl [Hm]; · iexact Hm
  isplitl [Hl]; · iexact Hl
  iexact Ha

theorem trips_flash : k0_t1_loop.trips = 64 := by decide +kernel
theorem trips_norm : k0_t33_loop.trips = 64 := by decide +kernel
theorem headOff_eq : ∀ (n : Fin 2) (i : Fin k0_t1_loop.trips), headOff n i = ![n.val, i.val, 0, 0]
  | 0, i => k0_off2_eq i
  | 1, i => k0_off5_eq i

/-- All heads of one block. -/
theorem wp_flash (n : Fin 2) (πq πk πv : PosShare TreeShare) :
    (flashR c n πq πk πv q k v s : sProp 𝕄)
      ⊢ iprop((flashR c n πq πk πv q k v (s.step q k v) -∗ WP c p Q) -∗ WP c (do Ring.flash n; p) Q) := by
  unfold Ring.flash Scf.Loop.for
  iintro H Hk
  iapply (Scf.wp_for_bind frame (wpE (defs₀ (F := F)) 𝒱₀ (c : Thread nD τ) none) Set.univ _ _ _ _ _ _
    (fun m _ => flashR c n πq πk πv q k v (s.upto q k v m))
    (fun i _ => wp_row q k v s c n πq πk πv ⟨i.val, lt_of_lt_of_eq i.isLt trips_flash⟩ _ _ _ (k0_off1_eq i) (headOff_eq n i) (k0_off3_eq i))) $$ [H]
  · iexact H
  · iintro %_ H
    iapply Hk
    rw [← Acc.upto_all]
    have e : Scf.trips k0_t1_loop.lb k0_t1_loop.ub k0_t1_loop.st = 64 := trips_flash
    rw [e]
    iexact H

theorem normRow_eq (o1 : Fin 3 → ℕ) (o3 : Fin 2 → ℕ)
    (h1 : ∀ a, o1 a + S1x256x64.size a ≤ S64x256x64.size a)
    (h3 : ∀ a, o3 a + S1x256.size a ≤ S64x256.size a) : (normRow o1 o3 h1 h3 : PP F PUnit.{1})
    = .op (.load accM (Rect.unit (s := S64x256x64) o1 S1x256x64.size h1).toLoadRect (View.loadsAt_vmem h_S1x256x64)) fun a =>
      .op (.load lM (Rect.unit (s := S64x256) o3 S1x256.size h3).toLoadRect (View.loadsAt_vmem h_S1x256)) fun l =>
      .op (.load outM (Rect.unit (s := S64x256x64) o1 S1x256x64.size h1).toLoadRect (View.loadsAt_vmem h_S1x256x64)) fun _ =>
      .op (.store outM (Rect.unit (s := S64x256x64) o1 S1x256x64.size h1) (k0_pay3 a l) Finset.univ (View.stores_vmem_bits_univ h_S1x256x64 rfl) (.inl rfl)) fun _ =>
      pure ⟨⟩ := rfl

/-- What the final loop reads and writes. -/
def normR (c : Dev nD) (s : Acc F) (x : S64x256x64.Idx → Elt F .f32) : sProp 𝕄 :=
  iprop(hold c s ∗ owns (c : Thread nD τ) outM fullShare x)

/-- One head of the division. -/
theorem wp_normRow (x : S64x256x64.Idx → Elt F .f32) (i : Fin 64) {o1 : Fin 3 → ℕ} {o3 : Fin 2 → ℕ}
    (h1 : ∀ a, o1 a + S1x256x64.size a ≤ S64x256x64.size a)
    (h3 : ∀ a, o3 a + S1x256.size a ≤ S64x256.size a)
    (e1 : o1 = ![i.val, 0, 0]) (e3 : o3 = ![i.val, 0]) :
    (normR c s (upto3 x (quot s) i.val) : sProp 𝕄)
      ⊢ WP c (normRow o1 o3 h1 h3) fun _ => normR c s (upto3 x (quot s) (i.val + 1)) := by
  rw [normRow_eq]
  subst e1 e3
  unfold normR hold
  iintro ⟨⟨Hm, Hl, Ha⟩, Ho⟩
  iapply (ld c accM _ _ h1 _ _ _) $$ Ha; iintro Ha
  iapply (ld c lM _ _ h3 _ _ _) $$ Hl; iintro Hl
  iapply (ld c outM _ _ h1 _ _ _) $$ Ho; iintro Ho
  iapply (st c outM _ _ h1 _ _ _) $$ Ho; iintro Ho
  iapply (wp_fin c _)
  rw [← put_upto3]
  isplitl [Hm Hl Ha]
  · isplitl [Hm]; · iexact Hm
    isplitl [Hl]; · iexact Hl
    iexact Ha
  iexact Ho

/-- The division of all heads. -/
theorem wp_norm (x : S64x256x64.Idx → Elt F .f32) :
    (normR c s x : sProp 𝕄) ⊢ iprop((normR c s s.out -∗ WP c p Q) -∗ WP c (do Ring.norm; p) Q) := by
  unfold Ring.norm Scf.Loop.for
  iintro H Hk
  iapply (Scf.wp_for_bind frame (wpE (defs₀ (F := F)) 𝒱₀ (c : Thread nD τ) none) Set.univ _ _ _ _ _ _
    (fun m _ => normR c s (upto3 x (quot s) m))
    (fun i _ => wp_normRow s c x ⟨i.val, lt_of_lt_of_eq i.isLt trips_norm⟩ _ _ (k0_off97_eq i) (k0_off98_eq i))) $$ [H]
  · iexact H
  · iintro %_ H
    iapply Hk
    have e : Scf.trips k0_t33_loop.lb k0_t33_loop.ub k0_t33_loop.st = 64 := trips_norm
    rw [e, upto3_all]
    iexact H

/-! ## The first values -/

theorem initP_eq : (do initP; p : PP F PUnit.{1})
    = .op (.load mxM (Rect.unit (s := S64x256) ![0, 0] S64x256.size inb_S64x256_S64x256_0_0).toLoadRect (View.loadsAt_vmem h_S64x256)) fun _ =>
      .op (.store mxM (Rect.unit (s := S64x256) ![0, 0] S64x256.size inb_S64x256_S64x256_0_0) (k0_pay260 (F := F)) Finset.univ (View.stores_vmem_bits_univ h_S64x256 rfl) (.inl rfl)) fun _ =>
      .op (.load lM (Rect.unit (s := S64x256) ![0, 0] S64x256.size inb_S64x256_S64x256_0_0).toLoadRect (View.loadsAt_vmem h_S64x256)) fun _ =>
      .op (.store lM (Rect.unit (s := S64x256) ![0, 0] S64x256.size inb_S64x256_S64x256_0_0) (k0_pay261 (F := F)) Finset.univ (View.stores_vmem_bits_univ h_S64x256 rfl) (.inl rfl)) fun _ =>
      .op (.load accM (Rect.unit (s := S64x256x64) ![0, 0, 0] S64x256x64.size inb_S64x256x64_S64x256x64_0_0_0).toLoadRect (View.loadsAt_vmem h_S64x256x64)) fun _ =>
      .op (.store accM (Rect.unit (s := S64x256x64) ![0, 0, 0] S64x256x64.size inb_S64x256x64_S64x256x64_0_0_0) (k0_pay262 (F := F)) Finset.univ (View.stores_vmem_bits_univ h_S64x256x64 rfl) (.inl rfl)) fun _ =>
      p := rfl

theorem put_whole2 {α : Type} (x w : S64x256.Idx → α) : put (s := S64x256) x ![0, 0] S64x256.size w = w := by
  funext j
  have h0 : (j 0).val < 64 := (j 0).isLt
  have h1 : (j 1).val < 256 := (j 1).isLt
  unfold put
  rw [dif_pos (show ∀ a : Fin 2, (![0, 0] : Fin 2 → ℕ) a ≤ (j a).val ∧ (j a).val < (![0, 0] : Fin 2 → ℕ) a + S64x256.size a from by
    intro a
    fin_cases a
    · show 0 ≤ (j 0).val ∧ (j 0).val < 0 + 64
      omega
    · show 0 ≤ (j 1).val ∧ (j 1).val < 0 + 256
      omega)]
  refine congrArg w (funext fun a => Fin.ext ?_)
  revert a
  rintro (a : Fin 2)
  fin_cases a <;> rfl
theorem put_whole3 {α : Type} (x w : S64x256x64.Idx → α) : put (s := S64x256x64) x ![0, 0, 0] S64x256x64.size w = w := by
  funext j
  have h0 : (j 0).val < 64 := (j 0).isLt
  have h1 : (j 1).val < 256 := (j 1).isLt
  have h2 : (j 2).val < 64 := (j 2).isLt
  unfold put
  rw [dif_pos (show ∀ a : Fin 3, (![0, 0, 0] : Fin 3 → ℕ) a ≤ (j a).val ∧ (j a).val < (![0, 0, 0] : Fin 3 → ℕ) a + S64x256x64.size a from by
    intro a
    fin_cases a
    · show 0 ≤ (j 0).val ∧ (j 0).val < 0 + 64
      omega
    · show 0 ≤ (j 1).val ∧ (j 1).val < 0 + 256
      omega
    · show 0 ≤ (j 2).val ∧ (j 2).val < 0 + 64
      omega)]
  refine congrArg w (funext fun a => Fin.ext ?_)
  revert a
  rintro (a : Fin 3)
  fin_cases a <;> rfl
theorem window_whole3 {α : Type} (x : S64x256x64.Idx → α) (inb : ∀ a, (![0, 0, 0] : Fin 3 → ℕ) a + S64x256x64.size a ≤ S64x256x64.size a) :
    window (s := S64x256x64) x ![0, 0, 0] S64x256x64.size inb = x := by
  funext j
  refine congrArg x (funext fun a => Fin.ext ?_)
  revert a
  rintro (a : Fin 3)
  fin_cases a
  · show 0 + 1 * (j 0).val = (j 0).val
    omega
  · show 0 + 1 * (j 1).val = (j 1).val
    omega
  · show 0 + 1 * (j 2).val = (j 2).val
    omega

/-- The state set to its first values, whatever it was. -/
theorem wp_init : (hold c s : sProp 𝕄) ⊢ iprop((hold c Acc.init -∗ WP c p Q) -∗ WP c (do initP; p) Q) := by
  rw [initP_eq]
  unfold hold
  iintro ⟨Hm, Hl, Ha⟩ Hp
  iapply (ld c mxM _ _ inb_S64x256_S64x256_0_0 _ _ _) $$ Hm; iintro Hm
  iapply (st c mxM _ _ inb_S64x256_S64x256_0_0 _ _ _) $$ Hm; iintro Hm
  iapply (ld c lM _ _ inb_S64x256_S64x256_0_0 _ _ _) $$ Hl; iintro Hl
  iapply (st c lM _ _ inb_S64x256_S64x256_0_0 _ _ _) $$ Hl; iintro Hl
  iapply (ld c accM _ _ inb_S64x256x64_S64x256x64_0_0_0 _ _ _) $$ Ha; iintro Ha
  iapply (st c accM _ _ inb_S64x256x64_S64x256x64_0_0_0 _ _ _) $$ Ha; iintro Ha
  rw [put_whole2, put_whole2, put_whole3]
  iapply Hp
  isplitl [Hm]; · iexact Hm
  isplitl [Hl]; · iexact Hl
  iexact Ha

theorem fillP_eq (b : Bool) : (do fillP b; p : PP F PUnit.{1})
    = .op (.load (ownM b) (Rect.unit (s := S64x256x64) ![0, 0, 0] S64x256x64.size inb_S64x256x64_S64x256x64_0_0_0).toLoadRect (View.loadsAt_vmem h_S64x256x64)) fun x =>
      .op (.load (ringM b) (Rect.unit (s := S2x64x256x64) ![0, 0, 0, 0] S1x64x256x64.size inb_S2x64x256x64_S1x64x256x64_0_0_0_0).toLoadRect (View.loadsAt_vmem h_S1x64x256x64)) fun _ =>
      .op (.store (ringM b) (Rect.unit (s := S2x64x256x64) ![0, 0, 0, 0] S1x64x256x64.size inb_S2x64x256x64_S1x64x256x64_0_0_0_0) (k0_pay263 x) Finset.univ (View.stores_vmem_bits_univ h_S1x64x256x64 rfl) (.inl rfl)) fun _ =>
      p := rfl

/-- A block stored into a slot reads back as it was. -/
theorem pay263_read (x : S64x256x64.Idx → Elt F .f32) (hn : S64x256x64.numel = S1x64x256x64.numel) :
    (fun y => k0_pay263 (F := F) x (Shape.reshapeEquiv hn y)) = x := by
  funext y
  show x (Shape.reshapeEquiv _ (Shape.reshapeEquiv _ (Shape.reshapeEquiv hn y))) = x y
  rw [Shape.reshapeEquiv_reshapeEquiv, Shape.reshapeEquiv_reshapeEquiv, Shape.reshapeEquiv_self]

/-- The own block copied into slot 0. -/
theorem wp_fill (b : Bool) (π : PosShare TreeShare) (x y : S64x256x64.Idx → Elt F .f32) :
    iprop(owns (c : Thread nD τ) (ownM b) π x ∗ slot c b 0 fullShare y)
      ⊢ iprop((owns (c : Thread nD τ) (ownM b) π x ∗ slot c b 0 fullShare x -∗ WP c p Q) -∗ WP c (do fillP b; p) Q : sProp 𝕄) := by
  rw [fillP_eq]
  iintro ⟨Hx, Hy⟩ Hp
  iapply (ld c (ownM b) _ _ inb_S64x256x64_S64x256x64_0_0_0 _ _ _) $$ Hx; iintro Hx
  iapply (ldSlot c (ringM b) _ _ _) $$ Hy; iintro Hy
  iapply (stSlot c (ringM b) _ _ x (fun hn => (congrArg (fun z => fun y => k0_pay263 (F := F) z (Shape.reshapeEquiv hn y)) (window_whole3 x _)).trans (pay263_read x hn)) _) $$ Hy; iintro Hy
  iapply Hp
  isplitl [Hx]; · iexact Hx
  iexact Hy

end Loops

end Cert.KernelIdeal.Ring

end
-- ==== Proof.KernelIdeal.Hop.lean ====
/- One hop of the ring, and all of them: from what a device holds before hop 0 to what it holds after hop 30. -/
module

public import proofs.«01_k».proof.Proof.KernelIdeal.Flash

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow Idealize.ShloMosaic.ValueIdx

variable {F : FTy → Type} [FloatOps F]

local notation "𝕄" => MT nD τ sig ℕ (Elt F) ℕ UU ℕ

variable {B : Blocks F} {K : GSem nD τ sig → ℕ} {I : sProp (MT nD τ sig ℕ (Elt F) ℕ UU ℕ)} [BI.Persistent I] (hI : Invs B K I) (c : Dev nD)
variable (l : List St)

/-! ## The statements at the head of a list -/

section Heads
include hI

theorem run_wp_send {Q : PUnit.{1} → sProp 𝕄} (b : Bool) (h : ℕ) (hh : h < 31) (O : CellTallies nD τ sig ℕ) :
    iprop(I ∗ slot c b (curOf h) fullShare.left (B b (back h c)) ∗ (∃ x, slot (rightOf c) b (curOf (h + 1)) fullShare x)
        ∗ reached ER (cell c .cred) h
        ∗ ow c (O + tallyAt (cell (rightOf c) (.recv b (curOf (h + 1)))) (2 * h + 3) N)
        ∗ dutyTok ER (cell c (.send b (curOf h))) (h / 2) false ∗ reached ER (cell c (.send b (curOf h))) (h / 2)
        ∗ dutyTok ER (cell (rightOf c) (.recv b (curOf (h + 1)))) (h / 2) false
        ∗ reached ER (cell (rightOf c) (.recv b (curOf (h + 1)))) (h / 2))
      ⊢ iprop((cred (tallyAt (cell c (.send b (curOf h))) 0 N) ∗ ow c O -∗ WP c (run c l) Q) -∗ WP c (run c (.send b (curOf h) :: l)) Q) := by
  rw [run_send]
  simp only [nx_curOf]
  exact wp_sendH hI c (run c l) b h hh O

theorem run_wp_sent {Q : PUnit.{1} → sProp 𝕄} (b : Bool) (h : ℕ) (hh : h < 31) (O : CellTallies nD τ sig ℕ) (hO : Above 0 O) :
    iprop(I ∗ levAts L lv ∗ cred (tallyAt (cell c (.send b (curOf h))) 0 N) ∗ ow c O ∗ atPos ER (cell c (.send b (curOf h))) (h / 2) ∅ 0)
      ⊢ iprop((ow c O ∗ atPos ER (cell c (.send b (curOf h))) (h / 2 + 1) ∅ 0 ∗ reached ER (cell c (.send b (curOf h))) (h / 2 + 1)
          ∗ slot c b (curOf h) fullShare.left (B b (back h c)) -∗ WP c (run c l) Q) -∗ WP c (run c (.sent b (curOf h) :: l)) Q) :=
  wp_sent hI c (run c l) b (nx (curOf h)) h hh O hO

theorem run_wp_recv {Q : PUnit.{1} → sProp 𝕄} (b : Bool) (h : ℕ) (hh : h < 31) (O : CellTallies nD τ sig ℕ) (hO : Above (2 * h + 3) O) :
    iprop(I ∗ levAts L lv ∗ cred (tallyAt (cell c (.recv b (curOf (h + 1)))) (2 * h + 3) N) ∗ ow c O
        ∗ atPos ER (cell c (.recv b (curOf (h + 1)))) (h / 2) ∅ 0)
      ⊢ iprop((ow c O ∗ atPos ER (cell c (.recv b (curOf (h + 1)))) (h / 2 + 1) ∅ 0 ∗ reached ER (cell c (.recv b (curOf (h + 1)))) (h / 2 + 1)
          ∗ slot c b (curOf (h + 1)) fullShare (B b (back (h + 1) c)) ∗ reached ER (cell (leftOf c) .cred) h -∗ WP c (run c l) Q)
        -∗ WP c (run c (.recv b (curOf h) :: l)) Q) := by
  rw [run_recv]
  simp only [nx_curOf]
  exact wp_recv hI c (run c l) b (curOf h) h hh O hO

end Heads

/-! ## One hop -/

/-- The position of a cell, and that it is known. -/
def At (c : Dev nD) (k : Kd) (r : ℕ) : sProp 𝕄 := iprop(atPos ER (cell c k) r ∅ 0 ∗ reached ER (cell c k) r)

/-- The positions of the transfers of one ring buffer before hop `h`. -/
def Pos (c : Dev nD) (b : Bool) (h : ℕ) : sProp 𝕄 :=
  iprop(At c (.send b (curOf h)) (h / 2) ∗ At c (.send b (curOf (h + 1))) ((h + 1) / 2)
    ∗ At c (.recv b (curOf (h + 1))) (h / 2) ∗ At c (.recv b (curOf h)) ((h + 1) / 2))

/-- What hop `h` uses up for one ring buffer: the right to signal both ends of the transfer, and the credit of the wait for
    the arrival. -/
def Toks (c : Dev nD) (b : Bool) (h : ℕ) : sProp 𝕄 :=
  iprop(dutyTok ER (cell c (.send b (curOf h))) (h / 2) false ∗ dutyTok ER (cell (rightOf c) (.recv b (curOf (h + 1)))) (h / 2) false
    ∗ cred (tallyAt (cell c (.recv b (curOf (h + 1)))) (2 * h + 3) N))

/-- The slot of hop `h`, with the block that is in it. -/
def Own (B : Blocks F) (c : Dev nD) (b : Bool) (h : ℕ) : sProp 𝕄 := slot c b (curOf h) fullShare (B b (back h c))

/-- The credit hop `h` owes the left neighbour. -/
def tc (c : Dev nD) (h : ℕ) : CellTallies nD τ sig ℕ := if h < 30 then tallyAt (cell (leftOf c) .cred) (2 * h + 4) 1 else 0

theorem oweFrom_split {h : ℕ} (hh : h < 31) : oweFrom c h
    = oweFrom c (h + 1) + tc c h + tallyAt (cell (rightOf c) (.recv true (curOf (h + 1)))) (2 * h + 3) N
      + tallyAt (cell (rightOf c) (.recv false (curOf (h + 1)))) (2 * h + 3) N := by
  rw [oweFrom_step c hh]; unfold owe tc
  generalize oweFrom c (h + 1) = a
  generalize (if h < 30 then tallyAt (cell (leftOf c) .cred) (2 * h + 4) 1 else 0 : CellTallies nD τ sig ℕ) = b
  generalize tallyAt (cell (rightOf c) (.recv true (curOf (h + 1)))) (2 * h + 3) N = x
  generalize tallyAt (cell (rightOf c) (.recv false (curOf (h + 1)))) (2 * h + 3) N = y
  rw [add_comm (y + (x + b)) a, add_comm y (x + b), add_comm x b, ← add_assoc, ← add_assoc]
theorem above_rest (h : ℕ) {i : ℕ} (hi : i ≤ 2 * h + 3) : Above i (oweFrom c (h + 1) + tc c h) := by
  refine (Above.oweFrom c (by omega)).add ?_
  unfold tc
  split
  · exact .tally _ _ _ _ (by omega) (by omega)
  · exact .zero

include hI in
/-- The sends, the block and the four waits of hop `h`. -/
theorem run_core {Q : PUnit.{1} → sProp 𝕄} (h : ℕ) (hh : h < 31) (π : PosShare TreeShare) (q : S64x256x64.Idx → Elt F .f32) (s : Acc F) :
    iprop(I ∗ levAts L lv ∗ (owns (c : Thread nD τ) qM π q ∗ hold c s) ∗ perm c h ∗ reached ER (cell c .cred) h ∗ ow c (oweFrom c h)
        ∗ (Own B c false h ∗ Own B c true h) ∗ (Pos c false h ∗ Pos c true h) ∗ (Toks c false h ∗ Toks c true h))
      ⊢ iprop(((owns (c : Thread nD τ) qM π q ∗ hold c (s.step q (B false (back h c)) (B true (back h c))))
          ∗ reached ER (cell (leftOf c) .cred) h ∗ ow c (oweFrom c (h + 1) + tc c h)
          ∗ (Own B c false h ∗ Own B c true h) ∗ (Own B c false (h + 1) ∗ Own B c true (h + 1)) ∗ (Pos c false (h + 1) ∗ Pos c true (h + 1))
            -∗ WP c (run c l) Q) -∗ WP c (run c (hopCore (curOf h) ++ l)) Q) := by
  have e1 : h / 2 + 1 = (h + 1 + 1) / 2 := by omega
  have e2 : curOf (h + 1 + 1) = curOf h := curOf_two h
  have hO3 := above_rest c h (Nat.le_refl (2 * h + 3))
  have hO0 := above_rest c h (Nat.zero_le (2 * h + 3))
  show _ ⊢ iprop(_ -∗ WP c (run c (.send false (curOf h) :: .send true (curOf h) :: .flash (curOf h) :: .sent false (curOf h) :: .recv false (curOf h) :: .sent true (curOf h) :: .recv true (curOf h) :: l)) Q)
  unfold Pos Toks At perm
  rw [oweFrom_split c hh, ← e1, e2]
  generalize oweFrom c (h + 1) + tc c h = O at *
  unfold Own
  iintro ⟨#HI, #HL, ⟨Hq, Hs⟩, ⟨⟨Rf, Rt⟩, #Lf, #Lt⟩, #Rc, Ho, ⟨Sf, St⟩, ⟨⟨⟨A1, #B1⟩, ⟨A2, #B2⟩, ⟨A3, #B3⟩, A4, #B4⟩, ⟨C1, #D1⟩, ⟨C2, #D2⟩, ⟨C3, #D3⟩, C4, #D4⟩, ⟨T1, T2, T3⟩, U1, U2, U3⟩ Hk
  ihave H := owns_halves c _ _ $$ Sf; icases H with ⟨Sfl, Sfr⟩
  ihave H := owns_halves c _ _ $$ St; icases H with ⟨Stl, Str⟩
  iapply (run_wp_send hI c _ false h hh _) $$ [Sfl Rf Ho T1 T2]
  · isplitr; · iexact HI
    isplitl [Sfl]; · iexact Sfl
    isplitl [Rf]; · iexact Rf
    isplitr; · iexact Rc
    isplitl [Ho]; · iexact Ho
    isplitl [T1]; · iexact T1
    isplitr; · iexact B1
    isplitl [T2]; · iexact T2
    iexact Lf
  iintro ⟨Kf, Ho⟩
  iapply (run_wp_send hI c _ true h hh _) $$ [Stl Rt Ho U1 U2]
  · isplitr; · iexact HI
    isplitl [Stl]; · iexact Stl
    isplitl [Rt]; · iexact Rt
    isplitr; · iexact Rc
    isplitl [Ho]; · iexact Ho
    isplitl [U1]; · iexact U1
    isplitr; · iexact D1
    isplitl [U2]; · iexact U2
    iexact Lt
  iintro ⟨Kt, Ho⟩
  iapply (wp_flash q _ _ s c _ (curOf h) π fullShare.right fullShare.right) $$ [Hq Hs Sfr Str]
  · unfold flashR
    isplitl [Hq]; · iexact Hq
    isplitl [Sfr]; · iexact Sfr
    isplitl [Str]; · iexact Str
    iexact Hs
  unfold flashR
  iintro ⟨Hq, Sfr, Str, Hs⟩
  iapply (run_wp_sent hI c _ false h hh O hO0) $$ [Kf Ho A1]
  · isplitr; · iexact HI
    isplitr; · iexact HL
    isplitl [Kf]; · iexact Kf
    isplitl [Ho]; · iexact Ho
    iexact A1
  iintro ⟨Ho, A1, #B1', Sfl⟩
  iapply (run_wp_recv hI c _ false h hh O hO3) $$ [T3 Ho A3]
  · isplitr; · iexact HI
    isplitr; · iexact HL
    isplitl [T3]; · iexact T3
    isplitl [Ho]; · iexact Ho
    iexact A3
  iintro ⟨Ho, A3, #B3', Nf, #Hc⟩
  iapply (run_wp_sent hI c _ true h hh O hO0) $$ [Kt Ho C1]
  · isplitr; · iexact HI
    isplitr; · iexact HL
    isplitl [Kt]; · iexact Kt
    isplitl [Ho]; · iexact Ho
    iexact C1
  iintro ⟨Ho, C1, #D1', Stl⟩
  iapply (run_wp_recv hI c _ true h hh O hO3) $$ [U3 Ho C3]
  · isplitr; · iexact HI
    isplitr; · iexact HL
    isplitl [U3]; · iexact U3
    isplitl [Ho]; · iexact Ho
    iexact C3
  iintro ⟨Ho, C3, #D3', Nt, #Hc'⟩
  ihave Sf := owns_join c _ _ $$ [Sfl Sfr]
  · isplitl [Sfl]; · iexact Sfl
    iexact Sfr
  ihave St := owns_join c _ _ $$ [Stl Str]
  · isplitl [Stl]; · iexact Stl
    iexact Str
  iapply Hk
  isplitl [Hq Hs]
  · isplitl [Hq]; · iexact Hq
    iexact Hs
  isplitr; · iexact Hc
  isplitl [Ho]; · iexact Ho
  isplitl [Sf St]
  · isplitl [Sf]; · iexact Sf
    iexact St
  isplitl [Nf Nt]
  · isplitl [Nf]; · iexact Nf
    iexact Nt
  isplitl [A1 A2 A3 A4]
  · isplitl [A2]
    · isplitl [A2]; · iexact A2
      iexact B2
    isplitl [A1]
    · isplitl [A1]; · iexact A1
      iexact B1'
    isplitl [A4]
    · isplitl [A4]; · iexact A4
      iexact B4
    isplitl [A3]; · iexact A3
    iexact B3'
  isplitl [C2]
  · isplitl [C2]; · iexact C2
    iexact D2
  isplitl [C1]
  · isplitl [C1]; · iexact C1
    iexact D1'
  isplitl [C4]
  · isplitl [C4]; · iexact C4
    iexact D4
  isplitl [C3]; · iexact C3
  iexact D3'

/-! ## All hops -/

/-- The state before hop `h`. -/
def stAt (B : Blocks F) (c : Dev nD) (q : S64x256x64.Idx → Elt F .f32) : ℕ → Acc F
  | 0 => Acc.init
  | h + 1 => (stAt B c q h).step q (B false (back h c)) (B true (back h c))

/-- What stands for the leave to send in hop `h`: for the first hop the leave itself, later the credit of the wait for it. -/
def Stage (c : Dev nD) : ℕ → sProp 𝕄
  | 0 => iprop(perm c 0 ∗ At c .cred 0)
  | h + 1 => iprop(atPos ER (cell c .cred) h ∅ 0 ∗ cred (tallyAt (cell c .cred) (2 * h + 4) 1))

/-- What hop `h` uses up. -/
def hopRes (c : Dev nD) (h : ℕ) : sProp 𝕄 :=
  iprop((Toks c false h ∗ Toks c true h)
    ∗ if h < 30 then iprop(dutyTok ER (cell (leftOf c) .cred) h false ∗ cred (tallyAt (cell c .cred) (2 * h + 4) 1)) else iprop(emp))

/-- What a device holds before hop `h`. -/
def Before (B : Blocks F) (c : Dev nD) (π : PosShare TreeShare) (q : S64x256x64.Idx → Elt F .f32) (h : ℕ) : sProp 𝕄 :=
  iprop((owns (c : Thread nD τ) qM π q ∗ hold c (stAt B c q h)) ∗ ow c (oweFrom c h) ∗ Stage c h
    ∗ (Own B c false h ∗ Own B c true h) ∗ (Pos c false h ∗ Pos c true h))

/-- What a device holds after the last hop. -/
def Done (B : Blocks F) (c : Dev nD) (π : PosShare TreeShare) (q : S64x256x64.Idx → Elt F .f32) : sProp 𝕄 :=
  iprop((owns (c : Thread nD τ) qM π q ∗ hold c (stAt B c q 31)) ∗ ow c 0 ∗ At c .cred 30
    ∗ (Own B c false 30 ∗ Own B c true 30) ∗ (Own B c false 31 ∗ Own B c true 31) ∗ (Pos c false 31 ∗ Pos c true 31))

section Hops
include hI
variable {Q : PUnit.{1} → sProp (MT nD τ sig ℕ (Elt F) ℕ UU ℕ)}

/-- The wait for the leave to send. -/
theorem run_stage (h : ℕ) (hh : h < 31) :
    iprop(I ∗ levAts L lv ∗ ow c (oweFrom c h) ∗ Stage c h)
      ⊢ iprop((ow c (oweFrom c h) ∗ perm c h ∗ At c .cred h -∗ WP c (run c l) Q) -∗ WP c (run c ((if h = 0 then [] else [.credW]) ++ l)) Q) := by
  cases h with
  | zero =>
    show _ ⊢ iprop(_ -∗ WP c (run c l) Q)
    unfold Stage
    iintro ⟨-, -, Ho, Hp, Ha⟩ Hk
    iapply Hk
    isplitl [Ho]; · iexact Ho
    isplitl [Hp]; · iexact Hp
    iexact Ha
  | succ h =>
    have hO : Above (2 * h + 4) (oweFrom c (h + 1)) := Above.oweFrom c (by omega)
    rw [if_neg (Nat.succ_ne_zero h)]
    show _ ⊢ iprop(_ -∗ WP c (run c (.credW :: l)) Q)
    unfold Stage
    iintro ⟨#HI, #HL, Ho, Ha, Hc⟩ Hk
    iapply (wp_credW hI c (run c l) h (by omega) _ hO) $$ [Ho Ha Hc]
    · isplitr; · iexact HI
      isplitr; · iexact HL
      isplitl [Hc]; · iexact Hc
      isplitl [Ho]; · iexact Ho
      iexact Ha
    iintro ⟨Ho, Ha, #Hr, Hp⟩
    iapply Hk
    isplitl [Ho]; · iexact Ho
    isplitl [Hp]; · iexact Hp
    unfold At
    isplitl [Ha]; · iexact Ha
    iexact Hr

/-- A hop before the last. -/
theorem run_hop (h : ℕ) (hh : h < 30) (π : PosShare TreeShare) (q : S64x256x64.Idx → Elt F .f32) :
    iprop(I ∗ levAts L lv ∗ Before B c π q h ∗ hopRes c h)
      ⊢ iprop((Before B c π q (h + 1) -∗ WP c (run c l) Q) -∗ WP c (run c (hop h ++ l)) Q) := by
  have et : tc c h = tallyAt (cell (leftOf c) .cred) (2 * h + 4) 1 := if_pos hh
  have e2 : curOf (h + 1 + 1) = curOf h := curOf_two h
  unfold hop hopRes Before
  rw [if_pos hh, if_pos hh, List.append_assoc, List.append_assoc]
  iintro ⟨#HI, #HL, ⟨Hqs, Ho, Hst, HS, HP⟩, HT, Hd, Hc⟩ Hk
  iapply (run_stage hI c _ h (by omega)) $$ [Ho Hst]
  · isplitr; · iexact HI
    isplitr; · iexact HL
    isplitl [Ho]; · iexact Ho
    iexact Hst
  unfold At
  iintro ⟨Ho, Hp, Ha, #Hr⟩
  iapply (run_core hI c _ h (by omega) π q _) $$ [Hqs Hp Ho HS HP HT]
  · isplitr; · iexact HI
    isplitr; · iexact HL
    isplitl [Hqs]; · iexact Hqs
    isplitl [Hp]; · iexact Hp
    isplitr; · iexact Hr
    isplitl [Ho]; · iexact Ho
    isplitl [HS]; · iexact HS
    isplitl [HP]; · iexact HP
    iexact HT
  iintro ⟨Hqs, #Hl, Ho, ⟨Sf, St⟩, HN, HPf, HPt⟩
  ihave Hpos := (show iprop(Pos c false (h + 1) ∗ Pos c true (h + 1)) ⊢ (iprop((Pos c false (h + 1) ∗ Pos c true (h + 1))
      ∗ reached ER (cell c (.recv false (curOf (h + 1 + 1)))) ((h + 1) / 2) ∗ reached ER (cell c (.recv true (curOf (h + 1 + 1)))) ((h + 1) / 2)) : sProp 𝕄) from by
    unfold Pos At
    iintro ⟨⟨X1, X2, ⟨X3, #Y3⟩, X4⟩, Z1, Z2, ⟨Z3, #W3⟩, Z4⟩
    isplitl [X1 X2 X3 X4 Z1 Z2 Z3 Z4]
    · isplitl [X1 X2 X3 X4]
      · isplitl [X1]; · iexact X1
        isplitl [X2]; · iexact X2
        isplitl [X3]
        · isplitl [X3]; · iexact X3
          iexact Y3
        iexact X4
      · isplitl [Z1]; · iexact Z1
        isplitl [Z2]; · iexact Z2
        isplitl [Z3]
        · isplitl [Z3]; · iexact Z3
          iexact W3
        iexact Z4
    isplitr; · iexact Y3
    iexact W3) $$ [HPf HPt]
  · isplitl [HPf]; · iexact HPf
    iexact HPt
  icases Hpos with ⟨HP, #R1, #R2⟩
  iapply (wp_credL hI c (run c l) h hh (oweFrom c (h + 1))) $$ [Ho Hd Sf St]
  · isplitr; · iexact HI
    isplitl [Ho]
    · ihave Ho := (Entails.of_eq (congrArg (fun t => ow (F := F) c (oweFrom c (h + 1) + t)) et)) $$ Ho
      iexact Ho
    isplitl [Hd]; · iexact Hd
    isplitl [Sf St]
    · iapply (perm_left c (h + 1))
      isplitl [Sf]
      · iexists _
        ihave Sf := (Entails.of_eq (show Own B c false h = slot c false (curOf (h + 1 + 1)) fullShare (B false (back h c)) by unfold Own; rw [e2])) $$ Sf
        iexact Sf
      isplitl [St]
      · iexists _
        ihave St := (Entails.of_eq (show Own B c true h = slot c true (curOf (h + 1 + 1)) fullShare (B true (back h c)) by unfold Own; rw [e2])) $$ St
        iexact St
      isplitr; · iexact R1
      iexact R2
    iexact Hl
  iintro Ho
  iapply Hk
  isplitl [Hqs]; · iexact Hqs
  isplitl [Ho]; · iexact Ho
  isplitl [Ha Hc]
  · unfold Stage
    isplitl [Ha]; · iexact Ha
    iexact Hc
  isplitl [HN]; · iexact HN
  iexact HP

/-- The last hop. -/
theorem run_last (π : PosShare TreeShare) (q : S64x256x64.Idx → Elt F .f32) :
    iprop(I ∗ levAts L lv ∗ Before B c π q 30 ∗ hopRes c 30)
      ⊢ iprop((Done B c π q -∗ WP c (run c l) Q) -∗ WP c (run c (hop 30 ++ l)) Q) := by
  have eo : oweFrom c (30 + 1) + tc c 30 = 0 := by
    unfold tc; rw [if_neg (Nat.lt_irrefl 30), add_zero]; exact oweFrom_end c
  unfold hop hopRes Before
  rw [if_neg (Nat.lt_irrefl 30), if_neg (Nat.lt_irrefl 30), List.append_nil, List.append_assoc]
  iintro ⟨#HI, #HL, ⟨Hqs, Ho, Hst, HS, HP⟩, HT, -⟩ Hk
  iapply (run_stage hI c _ 30 (by omega)) $$ [Ho Hst]
  · isplitr; · iexact HI
    isplitr; · iexact HL
    isplitl [Ho]; · iexact Ho
    iexact Hst
  unfold At
  iintro ⟨Ho, Hp, Ha, #Hr⟩
  iapply (run_core hI c _ 30 (by omega) π q _) $$ [Hqs Hp Ho HS HP HT]
  · isplitr; · iexact HI
    isplitr; · iexact HL
    isplitl [Hqs]; · iexact Hqs
    isplitl [Hp]; · iexact Hp
    isplitr; · iexact Hr
    isplitl [Ho]; · iexact Ho
    isplitl [HS]; · iexact HS
    isplitl [HP]; · iexact HP
    iexact HT
  iintro ⟨Hqs, -, Ho, HS, HN, HP⟩
  ihave Ho := (Entails.of_eq (congrArg (ow (F := F) c) eo)) $$ Ho
  iapply Hk
  unfold Done At
  isplitl [Hqs]; · iexact Hqs
  isplitl [Ho]; · iexact Ho
  isplitl [Ha]
  · isplitl [Ha]; · iexact Ha
    iexact Hr
  isplitl [HS]; · iexact HS
  isplitl [HN]; · iexact HN
  iexact HP

omit hI in
omit [BI.Persistent I] in
theorem hopRes_step (h : ℕ) (hh : h < 31) :
    bigSep (Finset.Ico h 31) (hopRes c) ⊢ (iprop(hopRes c h ∗ bigSep (Finset.Ico (h + 1) 31) (hopRes c)) : sProp 𝕄) :=
  Entails.of_eq (by rw [Ico_step hh, bigSep_insert (not_mem_Ico_succ h)]; rfl)

/-- The hops from `h` on. -/
theorem run_hops (π : PosShare TreeShare) (q : S64x256x64.Idx → Elt F .f32) : ∀ (n h : ℕ), h + n = 30 →
    iprop(I ∗ levAts L lv ∗ Before B c π q h ∗ bigSep (Finset.Ico h 31) (hopRes c))
      ⊢ iprop((Done B c π q -∗ WP c (run c l) Q) -∗ WP c (run c (hops h (n + 1) ++ l)) Q)
  | 0, h, e => by
    obtain rfl : h = 30 := by omega
    show _ ⊢ iprop(_ -∗ WP c (run c ((hop 30 ++ []) ++ l)) Q)
    rw [List.append_nil]
    iintro ⟨HI, HL, HB, HR⟩
    ihave H := hopRes_step c 30 (by omega) $$ HR; icases H with ⟨HR, -⟩
    iapply (run_last hI c l π q)
    isplitl [HI]; · iexact HI
    isplitl [HL]; · iexact HL
    isplitl [HB]; · iexact HB
    iexact HR
  | n + 1, h, e => by
    show _ ⊢ iprop(_ -∗ WP c (run c ((hop h ++ hops (h + 1) (n + 1)) ++ l)) Q)
    rw [List.append_assoc]
    iintro ⟨#HI, #HL, HB, HR⟩ Hk
    ihave H := hopRes_step c h (by omega) $$ HR; icases H with ⟨HR, HRs⟩
    iapply (run_hop hI c _ h (by omega) π q) $$ [HB HR]
    · isplitr; · iexact HI
      isplitr; · iexact HL
      isplitl [HB]; · iexact HB
      iexact HR
    iintro HB
    iapply (run_hops π q n (h + 1) (by omega)) $$ [HB HRs]
    · isplitr; · iexact HI
      isplitr; · iexact HL
      isplitl [HB]; · iexact HB
      iexact HRs
    iexact Hk

end Hops

end Cert.KernelIdeal.Ring

end
-- ==== Proof.KernelIdeal.Whole.lean ====
/- The whole body on one device: the barrier, the first values, the hops, the last block and the division. -/
module

public import proofs.«01_k».proof.Proof.KernelIdeal.Hop

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow Idealize.ShloMosaic.ValueIdx

variable {F : FTy → Type} [FloatOps F]

local notation "𝕄" => MT nD τ sig ℕ (Elt F) ℕ UU ℕ

variable {B : Blocks F} {K : GSem nD τ sig → ℕ} {I : sProp (MT nD τ sig ℕ (Elt F) ℕ UU ℕ)} [BI.Persistent I] (hI : Invs B K I) (c : Dev nD)

/-- What the barrier uses up. -/
def BarR (c : Dev nD) : sProp 𝕄 :=
  iprop((dutyTok ER (cell (leftOf c) .bar) 0 true ∗ reached ER (cell (leftOf c) .bar) 0)
    ∗ (dutyTok ER (cell (rightOf c) .bar) 0 false ∗ reached ER (cell (rightOf c) .bar) 0)
    ∗ cred (tallyAt (cell c .bar) 1 2) ∗ atPos ER (cell c .bar) 0 ∅ 0)

/-- Both slots of a ring buffer, at any contents. -/
def Ring2 (c : Dev nD) (b : Bool) : sProp 𝕄 := iprop((∃ x, slot (F := F) c b 0 fullShare x) ∗ ∃ x, slot (F := F) c b 1 fullShare x)

/-- The operands: the own block of queries, of keys and of values, and the output. -/
def Opnds (B : Blocks F) (c : Dev nD) (πq πk πv : PosShare TreeShare) (q x : S64x256x64.Idx → Elt F .f32) : sProp 𝕄 :=
  iprop(owns (c : Thread nD τ) qM πq q ∗ owns (c : Thread nD τ) kM πk (B false c) ∗ owns (c : Thread nD τ) vM πv (B true c)
    ∗ owns (c : Thread nD τ) outM fullShare x)

/-- The semaphores' positions before the barrier, and the ghost state the whole run uses up. -/
def Ghost0 (c : Dev nD) : sProp 𝕄 :=
  iprop(BarR c ∗ At c .cred 0 ∗ (Pos c false 0 ∗ Pos c true 0) ∗ bigSep (Finset.Ico 0 31) (hopRes c))

/-- The semaphores' positions after the run. -/
def Ghost1 (c : Dev nD) : sProp 𝕄 := iprop(atPos ER (cell c .bar) 1 ∅ 0 ∗ At c .cred 30 ∗ (Pos c false 31 ∗ Pos c true 31))

def Start (B : Blocks F) (c : Dev nD) (πq πk πv : PosShare TreeShare) (q x : S64x256x64.Idx → Elt F .f32) (s : Acc F) : sProp 𝕄 :=
  iprop(Opnds B c πq πk πv q x ∗ hold c s ∗ (Ring2 c false ∗ Ring2 c true) ∗ ow c (O₀ c) ∗ Ghost0 c)

/-- The state after all thirty-two blocks. -/
def last (B : Blocks F) (c : Dev nD) (q : S64x256x64.Idx → Elt F .f32) : Acc F :=
  (stAt B c q 31).step q (B false (back 31 c)) (B true (back 31 c))

def End (B : Blocks F) (c : Dev nD) (πq πk πv : PosShare TreeShare) (q : S64x256x64.Idx → Elt F .f32) : sProp 𝕄 :=
  iprop(Opnds B c πq πk πv q (last B c q).out ∗ hold c (last B c q) ∗ (Ring2 c false ∗ Ring2 c true) ∗ ow c 0 ∗ Ghost1 c)

theorem pos0_reached : iprop(Pos c false 0 ∗ Pos c true 0) ⊢ (iprop((Pos c false 0 ∗ Pos c true 0)
      ∗ reached ER (cell c (.recv false (curOf (0 + 1)))) (0 / 2) ∗ reached ER (cell c (.recv true (curOf (0 + 1)))) (0 / 2)) : sProp 𝕄) := by
  unfold Pos At
  iintro ⟨⟨X1, X2, ⟨X3, #Y3⟩, X4⟩, Z1, Z2, ⟨Z3, #W3⟩, Z4⟩
  isplitl [X1 X2 X3 X4 Z1 Z2 Z3 Z4]
  · isplitl [X1 X2 X3 X4]
    · isplitl [X1]; · iexact X1
      isplitl [X2]; · iexact X2
      isplitl [X3]
      · isplitl [X3]; · iexact X3
        iexact Y3
      iexact X4
    · isplitl [Z1]; · iexact Z1
      isplitl [Z2]; · iexact Z2
      isplitl [Z3]
      · isplitl [Z3]; · iexact Z3
        iexact W3
      iexact Z4
  isplitr; · iexact Y3
  iexact W3

include hI in
/-- The barrier: the leave for hop 0 is given to the left neighbour and had from the right one. -/
theorem run_bar {Q : PUnit.{1} → sProp 𝕄} (l : List St) :
    iprop(I ∗ levAts L lv ∗ ow c (O₀ c) ∗ BarR c ∗ (Pos c false 0 ∗ Pos c true 0) ∗ (∃ x, slot (F := F) c false 1 fullShare x) ∗ (∃ x, slot (F := F) c true 1 fullShare x))
      ⊢ iprop((ow c (oweFrom c 0) ∗ perm c 0 ∗ atPos ER (cell c .bar) 1 ∅ 0 ∗ (Pos c false 0 ∗ Pos c true 0) -∗ WP c (run c l) Q)
        -∗ WP c (run c (.barL :: .barR :: .barW :: l)) Q) := by
  have hO : Above 1 (oweFrom c 0) := Above.oweFrom c (by omega)
  unfold BarR O₀
  iintro ⟨#HI, #HL, Ho, ⟨⟨T1, #R1⟩, ⟨T2, #R2⟩, Hc, Ha⟩, HP, S1, S2⟩ Hk
  ihave H := pos0_reached c $$ HP
  icases H with ⟨HP, #P1, #P2⟩
  iapply (wp_barL hI c (run c (.barR :: .barW :: l)) _) $$ [Ho T1 S1 S2]
  · isplitr; · iexact HI
    isplitl [Ho]; · iexact Ho
    isplitl [T1]; · iexact T1
    isplitl [S1 S2]
    · iapply (perm_left c 0)
      isplitl [S1]; · iexact S1
      isplitl [S2]; · iexact S2
      isplitr; · iexact P1
      iexact P2
    iexact R1
  iintro Ho
  iapply (wp_barR hI c (run c (.barW :: l)) _) $$ [Ho T2]
  · isplitr; · iexact HI
    isplitl [Ho]; · iexact Ho
    isplitl [T2]; · iexact T2
    iexact R2
  iintro Ho
  iapply (wp_barW hI c (run c l) _ hO) $$ [Ho Hc Ha]
  · isplitr; · iexact HI
    isplitr; · iexact HL
    isplitl [Hc]; · iexact Hc
    isplitl [Ho]; · iexact Ho
    iexact Ha
  iintro ⟨Ho, Ha, Hp⟩
  iapply Hk
  isplitl [Ho]; · iexact Ho
  isplitl [Hp]; · iexact Hp
  isplitl [Ha]; · iexact Ha
  iexact HP

section Heads
variable (l : List St) {Q : PUnit.{1} → sProp (MT nD τ sig ℕ (Elt F) ℕ UU ℕ)} (s : Acc F)

theorem run_init : (run c (.init :: l) : PP F PUnit.{1}) = (do initP; run c l) := rfl
theorem run_fill (b : Bool) : (run c (.fill b :: l) : PP F PUnit.{1}) = (do fillP b; run c l) := rfl
theorem run_flash (n : Fin 2) : (run c (.flash n :: l) : PP F PUnit.{1}) = (do Ring.flash n; run c l) := rfl
theorem run_norm : (run c (.norm :: l) : PP F PUnit.{1}) = (do Ring.norm; run c l) := rfl

theorem run_wp_init : (hold c s : sProp 𝕄) ⊢ iprop((hold c Acc.init -∗ WP c (run c l) Q) -∗ WP c (run c (.init :: l)) Q) := by
  rw [run_init]; exact wp_init s c (run c l)
theorem run_wp_fill (b : Bool) (π : PosShare TreeShare) (x y : S64x256x64.Idx → Elt F .f32) :
    iprop(owns (c : Thread nD τ) (ownM b) π x ∗ slot c b 0 fullShare y)
      ⊢ iprop((owns (c : Thread nD τ) (ownM b) π x ∗ slot c b 0 fullShare x -∗ WP c (run c l) Q) -∗ WP c (run c (.fill b :: l)) Q : sProp 𝕄) := by
  rw [run_fill]; exact wp_fill c (run c l) b π x y
theorem run_wp_flash (q k v : S64x256x64.Idx → Elt F .f32) (n : Fin 2) (πq πk πv : PosShare TreeShare) :
    (flashR c n πq πk πv q k v s : sProp 𝕄)
      ⊢ iprop((flashR c n πq πk πv q k v (s.step q k v) -∗ WP c (run c l) Q) -∗ WP c (run c (.flash n :: l)) Q) := by
  rw [run_flash]; exact wp_flash q k v s c (run c l) n πq πk πv
theorem run_wp_norm (x : S64x256x64.Idx → Elt F .f32) :
    (normR c s x : sProp 𝕄) ⊢ iprop((normR c s s.out -∗ WP c (run c l) Q) -∗ WP c (run c (.norm :: l)) Q) := by
  rw [run_norm]; exact wp_norm s c (run c l) x

end Heads

theorem stmts_unroll : stmts = .barL :: .barR :: .barW :: .init :: .fill false :: .fill true :: (hops 0 31 ++ [.flash 1, .norm]) := by
  unfold stmts; generalize hops 0 31 = m; rfl

include hI in
/-- The whole body, from what a device holds at the start to what it holds at the end. -/
theorem run_body (πq πk πv : PosShare TreeShare) (q x : S64x256x64.Idx → Elt F .f32) (s : Acc F) :
    iprop(I ∗ levAts L lv ∗ Start B c πq πk πv q x s) ⊢ WP c (run c stmts) fun _ => End B c πq πk πv q := by
  rw [stmts_unroll]
  generalize hm : hops 0 31 = mid
  unfold Start Opnds Ring2 Ghost0
  iintro ⟨#HI, #HL, ⟨Hq, Hk, Hv, Hx⟩, Hs, ⟨⟨⟨%x0, F0⟩, F1⟩, ⟨%y0, T0⟩, T1⟩, Ho, HB, Hc, HP, HR⟩
  iapply (run_bar hI c _) $$ [Ho HB HP F1 T1]
  · isplitr; · iexact HI
    isplitr; · iexact HL
    isplitl [Ho]; · iexact Ho
    isplitl [HB]; · iexact HB
    isplitl [HP]; · iexact HP
    isplitl [F1]; · iexact F1
    iexact T1
  iintro ⟨Ho, Hp, Hb, HP⟩
  iapply (run_wp_init c _ s) $$ Hs
  iintro Hs
  iapply (run_wp_fill c _ false _ _ _) $$ [Hk F0]
  · isplitl [Hk]; · iexact Hk
    iexact F0
  iintro ⟨Hk, F0⟩
  iapply (run_wp_fill c _ true _ _ _) $$ [Hv T0]
  · isplitl [Hv]; · iexact Hv
    iexact T0
  iintro ⟨Hv, T0⟩
  subst hm
  iapply (run_hops hI c _ πq q 30 0 rfl) $$ [Hq Hs Ho Hp Hc F0 T0 HP HR]
  · isplitr; · iexact HI
    isplitr; · iexact HL
    isplitr [HR]
    · unfold Before
      isplitl [Hq Hs]
      · isplitl [Hq]; · iexact Hq
        iexact Hs
      isplitl [Ho]; · iexact Ho
      isplitl [Hp Hc]
      · unfold Stage
        isplitl [Hp]; · iexact Hp
        iexact Hc
      isplitl [F0 T0]
      · unfold Own
        isplitl [F0]; · iexact F0
        iexact T0
      iexact HP
    iexact HR
  unfold Done Own
  iintro ⟨⟨Hq, Hs⟩, Ho, Hc, ⟨F0, T0⟩, ⟨F1, T1⟩, HP⟩
  iapply (run_wp_flash c [.norm] _ q _ _ 1 πq fullShare fullShare) $$ [Hq Hs F1 T1]
  · unfold flashR
    isplitl [Hq]; · iexact Hq
    isplitl [F1]; · iexact F1
    isplitl [T1]; · iexact T1
    iexact Hs
  unfold flashR
  iintro ⟨Hq, F1, T1, Hs⟩
  ihave Hs := (Entails.of_eq (show hold c ((stAt B c q 31).step q (B false (back 31 c)) (B true (back 31 c))) = hold c (last B c q) from rfl)) $$ Hs
  iapply (run_wp_norm c [] _ x) $$ [Hs Hx]
  · unfold normR
    isplitl [Hs]; · iexact Hs
    iexact Hx
  unfold normR
  iintro ⟨Hs, Hx⟩
  iapply (wp_fin c _)
  unfold End Opnds Ring2 Ghost1
  isplitl [Hq Hk Hv Hx]
  · isplitl [Hq]; · iexact Hq
    isplitl [Hk]; · iexact Hk
    isplitl [Hv]; · iexact Hv
    iexact Hx
  isplitl [Hs]; · iexact Hs
  isplitl [F0 F1 T0 T1]
  · isplitl [F0 F1]
    · isplitl [F0]
      · iexists _; iexact F0
      iexists _; iexact F1
    isplitl [T0]
    · iexists _; iexact T0
    iexists _; iexact T1
  isplitl [Ho]; · iexact Ho
  isplitl [Hb]; · iexact Hb
  isplitl [Hc]; · iexact Hc
  iexact HP

end Cert.KernelIdeal.Ring

end
-- ==== Proof.KernelIdeal.Deal.lean ====
/- What the launch hands out: the right to signal each round of each cell, given to the device that signals it, and the
   credit each device waits with, made of what all devices owe. -/
module

public import proofs.«01_k».proof.Proof.KernelIdeal.Whole
public import Idealize.ShloMosaic.Harness.Basic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- The right neighbour, as a permutation of the devices. -/
def ringE : Dev nD ≃ Dev nD := ⟨rightOf, leftOf, left_right, right_left⟩

theorem sep_insert {M ι : Type} [URA M] [DecidableEq ι] {i : ι} {S : Finset ι} (h : i ∉ S) (Φ : ι → sProp M) :
    bigSep (insert i S) Φ = iprop(Φ i ∗ bigSep S Φ) := by rw [bigSep_insert h]; rfl
theorem sep_comm2 {M ι κ : Type} [URA M] [DecidableEq ι] (S : Finset ι) (T : Finset κ) (Φ : ι → κ → sProp M) :
    (bigSep S fun i => bigSep T (Φ i)) = bigSep T fun j => bigSep S fun i => Φ i j := by
  induction S using Finset.induction_on with
  | empty => simp only [bigSep_empty]; exact (BI.bigSep_emp_const T).symm
  | insert a S ha ih =>
    rw [sep_insert ha, ih, ← bigSep_sep']
    exact bigSep_congr fun j _ => (sep_insert ha (fun i => Φ i j)).symm

theorem sep_union {M ι κ : Type} [URA M] [DecidableEq ι] [DecidableEq κ] (S : Finset κ) (t : κ → Finset ι) (Φ : ι → sProp M)
    (h : (S : Set κ).PairwiseDisjoint t) : bigSep (S.biUnion t) Φ = bigSep S fun j => bigSep (t j) Φ := by
  induction S using Finset.induction_on with
  | empty => rw [Finset.biUnion_empty, bigSep_empty, bigSep_empty]
  | insert j S hj ih =>
    have hd : Disjoint (t j) (S.biUnion t) := (Finset.disjoint_biUnion_right _ _ _).mpr fun i hi =>
      h (Finset.mem_insert_self j S) (Finset.mem_insert_of_mem hi) fun e => hj (e ▸ hi)
    rw [Finset.biUnion_insert, sep_insert hj, bigSep_union hd, ih fun a ha b hb => h (Finset.mem_insert_of_mem ha) (Finset.mem_insert_of_mem hb)]
    rfl
theorem cred_plus (A B : CellTallies nD τ sig ℕ) : (cred (A + B) : sProp 𝕄) = iprop(cred A ∗ cred B) :=
  BI.equiv_iff.mp ⟨(cred_add A B).1, (cred_add A B).2⟩

/-! ## The rights to signal -/

/-- A round's duty at a kind of cell. -/
abbrev Key : Type := Kd × ℕ × Bool

/-- Those of hop `h`. -/
def keyHop (h : ℕ) : Finset Key :=
  insert (.send false (curOf h), h / 2, false) (insert (.recv false (curOf (h + 1)), h / 2, false)
    (insert (.send true (curOf h), h / 2, false) (insert (.recv true (curOf (h + 1)), h / 2, false)
      (if h < 30 then {(.cred, h, false)} else ∅))))
/-- All of them. -/
def keys : Finset Key := {(.bar, 0, true), (.bar, 0, false)} ∪ (Finset.Ico 0 31).biUnion keyHop

/-- The hop a duty belongs to. -/
def hopOf : Key → ℕ
  | (.send _ s, r, _) => hopS s r
  | (.recv _ n, r, _) => hopR n r
  | (.cred, r, _) => r
  | (.bar, _, _) => 1000

theorem hopOf_mem {h : ℕ} {x : Key} (hx : x ∈ keyHop h) : hopOf x = h := by
  unfold keyHop at hx
  simp only [Finset.mem_insert] at hx
  rcases hx with rfl | rfl | rfl | rfl | hx
  · exact hopS_cur h
  · exact hopR_cur h
  · exact hopS_cur h
  · exact hopR_cur h
  · split at hx
    · rw [Finset.mem_singleton.mp hx]; rfl
    · exact absurd hx (Finset.notMem_empty _)

theorem keyHop_disjoint : ((Finset.Ico 0 31 : Finset ℕ) : Set ℕ).PairwiseDisjoint keyHop := fun a _ b _ hab =>
  Finset.disjoint_left.mpr fun x hx hx' => hab ((hopOf_mem hx).symm.trans (hopOf_mem hx'))

theorem keyBar_disjoint : Disjoint ({(.bar, 0, true), (.bar, 0, false)} : Finset Key) ((Finset.Ico 0 31).biUnion keyHop) :=
  Finset.disjoint_left.mpr fun x hx hx' => by
    obtain ⟨h, hh, hx'⟩ := Finset.mem_biUnion.mp hx'
    have := hopOf_mem hx'
    have hb := (Finset.mem_Ico.mp hh).2
    rcases Finset.mem_insert.mp hx with rfl | hx
    · have : 1000 = h := this
      omega
    · rw [Finset.mem_singleton.mp hx] at this
      have : 1000 = h := this
      omega

theorem keyHop_sep {M : Type} [URA M] (Φ : Key → sProp M) (h : ℕ) : bigSep (keyHop h) Φ
    = iprop(Φ (.send false (curOf h), h / 2, false) ∗ Φ (.recv false (curOf (h + 1)), h / 2, false)
      ∗ Φ (.send true (curOf h), h / 2, false) ∗ Φ (.recv true (curOf (h + 1)), h / 2, false)
      ∗ (if h < 30 then Φ (.cred, h, false) else iprop(emp))) := by
  unfold keyHop
  rw [sep_insert (by split <;> simp), sep_insert (by split <;> simp), sep_insert (by split <;> simp), sep_insert (by split <;> simp)]
  split
  · rw [bigSep_singleton]
  · rw [bigSep_empty]; rfl

theorem keys_sep {M : Type} [URA M] (Φ : Key → sProp M) : bigSep keys Φ
    = iprop((Φ (.bar, 0, true) ∗ Φ (.bar, 0, false)) ∗ bigSep (Finset.Ico 0 31) fun h => bigSep (keyHop h) Φ) := by
  unfold keys
  rw [bigSep_union keyBar_disjoint, sep_insert (by decide), bigSep_singleton, sep_union _ _ _ keyHop_disjoint]
  rfl

/-- The duty at device `c`'s cell, as a place in the launch. -/
def tokEmb (x : Key) : Dev nD ↪ GSem nD τ sig × ℕ × Bool :=
  ⟨fun c => (cell c x.1, x.2), fun _ _ h => (cell_inj (congrArg Prod.fst h)).1⟩
/-- Every duty of every device. -/
def tokSet : Finset (GSem nD τ sig × ℕ × Bool) := keys.biUnion fun x => Finset.univ.map (tokEmb x)

theorem tok_disjoint : ((keys : Finset Key) : Set Key).PairwiseDisjoint fun x => (Finset.univ : Finset (Dev nD)).map (tokEmb x) :=
  fun x _ y _ hxy => Finset.disjoint_left.mpr fun g hx hy => by
    obtain ⟨c, -, rfl⟩ := Finset.mem_map.mp hx
    obtain ⟨c', -, e⟩ := Finset.mem_map.mp hy
    exact hxy (Prod.ext (cell_inj (congrArg Prod.fst e)).2.symm (congrArg Prod.snd e).symm)

/-- Which device's cell device `c` signals. -/
def who : Key → Dev nD ≃ Dev nD
  | (.bar, _, true) => ringE.symm
  | (.bar, _, false) => ringE
  | (.cred, _, _) => ringE.symm
  | (.send _ _, _, _) => Equiv.refl _
  | (.recv _ _, _, _) => ringE

theorem toks_dealt : (bigSep tokSet fun x => dutyTok ER x.1 x.2.1 x.2.2 : sProp 𝕄)
    = bigSep Finset.univ fun c : Dev nD => bigSep keys fun x => dutyTok ER (cell (who x c) x.1) x.2.1 x.2.2 := by
  unfold tokSet
  rw [sep_union _ _ _ tok_disjoint, sep_comm2]
  refine bigSep_congr fun x _ => ?_
  rw [bigSep_map, bigSep_univ_equiv (who x)]
  rfl

/-! ## The credit -/

/-- What device `c` waits for in hop `h`. -/
def due (c : Dev nD) (j : ℕ) : CellTallies nD τ sig ℕ :=
  tallyAt (cell c (.recv false (curOf (j + 1)))) (2 * j + 3) N
    + (tallyAt (cell c (.recv true (curOf (j + 1)))) (2 * j + 3) N
      + if j < 30 then tallyAt (cell c .cred) (2 * j + 4) 1 else 0)
/-- All a device waits for. -/
def dueAll (c : Dev nD) : CellTallies nD τ sig ℕ :=
  (∑ j ∈ Finset.Ico 0 31, due c j) + tallyAt (cell c .bar) 1 1 + tallyAt (cell c .bar) 1 1

/-- All that is owed is all that is waited for. -/
theorem sum_owed : ∑ c, O₀ c = ∑ c, dueAll c := by
  unfold O₀ dueAll oweFrom
  rw [Finset.sum_add_distrib, Finset.sum_add_distrib, Finset.sum_add_distrib, Finset.sum_add_distrib]
  refine congrArg₂ (· + ·) (congrArg₂ (· + ·) ?_ (Equiv.sum_comp ringE fun c => tallyAt (cell c .bar) 1 1))
    (Equiv.sum_comp ringE.symm fun c => tallyAt (cell c .bar) 1 1)
  rw [Finset.sum_comm, Finset.sum_comm (s := Finset.univ)]
  refine Finset.sum_congr rfl fun j _ => ?_
  unfold owe due
  rw [Finset.sum_add_distrib, Finset.sum_add_distrib, Finset.sum_add_distrib, Finset.sum_add_distrib]
  refine congrArg₂ (· + ·) (Equiv.sum_comp ringE fun c => tallyAt (cell c (.recv false (curOf (j + 1)))) (2 * j + 3) N)
    (congrArg₂ (· + ·) (Equiv.sum_comp ringE fun c => tallyAt (cell c (.recv true (curOf (j + 1)))) (2 * j + 3) N)
      (Equiv.sum_comp ringE.symm fun c => if j < 30 then tallyAt (cell c .cred) (2 * j + 4) 1 else 0))

theorem tally_off {c : Dev nD} {k : Kd} {u n : ℕ} {g : GSem nD τ sig} (h : g.1 ≠ (c : Thread nD τ)) :
    (tallyAt (cell c k) u n : CellTallies nD τ sig ℕ) g = 0 := tallyAt_ne_cell (fun e => h (congrArg Prod.fst e)) _ _

theorem due_off {c : Dev nD} {j : ℕ} {g : GSem nD τ sig} (h : g.1 ≠ (c : Thread nD τ)) : due c j g = 0 := by
  unfold due
  rw [Pi.add_apply, Pi.add_apply, tally_off h, tally_off h]
  split
  · rw [tally_off h]; simp
  · simp

theorem dueAll_off {c : Dev nD} {g : GSem nD τ sig} (h : g.1 ≠ (c : Thread nD τ)) : dueAll c g = 0 := by
  unfold dueAll
  rw [Pi.add_apply, Pi.add_apply, tally_off h, Finset.sum_apply, Finset.sum_eq_zero fun j _ => due_off h]
  simp only [add_zero]

theorem credit_at (c : Dev nD) (sm : SemLoc sig) :
    launchCredit (Pipeline.owing O₀) 0 ((c : Thread nD τ), sm) = dueAll c ((c : Thread nD τ), sm) := by
  refine Finsupp.ext fun u => ?_
  rw [Pipeline.launchCredit_owing]
  have h : (∑ d, O₀ d) ((c : Thread nD τ), sm) u = (∑ d, dueAll d) ((c : Thread nD τ), sm) u := by rw [sum_owed]
  rw [Finset.sum_apply, Finsupp.finsetSum_apply, Finset.sum_apply, Finsupp.finsetSum_apply] at h
  rw [h, Finset.sum_eq_single c]
  · intro d _ hd
    rw [dueAll_off (c := d) fun e => hd (congrArg Prod.fst e).symm]; rfl
  · intro hc; exact absurd (Finset.mem_univ c) hc

theorem cred_all {ι : Type} [DecidableEq ι] (S : Finset ι) (T : ι → CellTallies nD τ sig ℕ) :
    (bigSep S fun i => cred (T i) : sProp 𝕄) = cred (∑ i ∈ S, T i) := by
  induction S using Finset.induction_on with
  | empty => rw [bigSep_empty, Finset.sum_empty, cred_zero]; rfl
  | insert a S ha ih => rw [sep_insert ha, Finset.sum_insert ha, ih]; exact (cred_plus _ _).symm

theorem total_due (c : Dev nD) :
    ∑ sm : SemLoc sig, tallyOn ((c : Thread nD τ), sm) (dueAll c ((c : Thread nD τ), sm)) = dueAll c := by
  funext g
  rw [Finset.sum_apply]
  by_cases h : g.1 = (c : Thread nD τ)
  · obtain ⟨t, sm⟩ := g
    obtain rfl : t = (c : Thread nD τ) := h
    rw [Finset.sum_eq_single sm]
    · exact tallyOn_self _ _
    · intro sm' _ hne
      exact tallyOn_ne (fun e => hne (congrArg Prod.snd e).symm) _
    · intro hc; exact absurd (Finset.mem_univ sm) hc
  · rw [dueAll_off h]
    exact Finset.sum_eq_zero fun sm _ => tallyOn_ne (fun e => h (congrArg Prod.fst e)) _

/-- The credit of one hop. -/
def hopCred (c : Dev nD) (j : ℕ) : sProp 𝕄 :=
  iprop(cred (tallyAt (cell c (.recv false (curOf (j + 1)))) (2 * j + 3) N)
    ∗ cred (tallyAt (cell c (.recv true (curOf (j + 1)))) (2 * j + 3) N)
    ∗ if j < 30 then cred (tallyAt (cell c .cred) (2 * j + 4) 1) else iprop(emp))

theorem cred_due (c : Dev nD) (j : ℕ) : (cred (due c j) : sProp 𝕄) = hopCred c j := by
  unfold due hopCred
  rw [cred_plus, cred_plus]
  split
  · rfl
  · rw [cred_zero]

/-- A device's launch credit: the barrier's two units and the credit of every hop. -/
theorem creds (c : Dev nD) :
    (Pipeline.launchCred O₀ c : sProp 𝕄) = iprop(bigSep (Finset.Ico 0 31) (hopCred c) ∗ cred (tallyAt (cell c .bar) 1 2)) := by
  unfold Pipeline.launchCred
  rw [bigSep_congr (Ψ := fun sm : SemLoc sig => cred (tallyOn ((c : Thread nD τ), sm) (dueAll c ((c : Thread nD τ), sm)))) fun sm _ => by
    rw [credit_at], cred_all, total_due]
  unfold dueAll
  rw [add_assoc, tallyAt_add, cred_plus, ← cred_all,
    bigSep_congr (Ψ := hopCred c) fun j _ => cred_due c j]

/-- The rights and the credit of a device, sorted by hop. -/
theorem hops_res (c : Dev nD) :
    iprop((bigSep (Finset.Ico 0 31) fun h => bigSep (keyHop h) fun x => dutyTok ER (cell (who x c) x.1) x.2.1 x.2.2)
      ∗ bigSep (Finset.Ico 0 31) (hopCred c)) ⊢ (bigSep (Finset.Ico 0 31) (hopRes c) : sProp 𝕄) := by
  rw [← bigSep_sep']
  refine bigSep_mono fun h _ => ?_
  rw [keyHop_sep]
  unfold hopRes Toks hopCred
  show iprop((dutyTok ER (cell c (.send false (curOf h))) (h / 2) false ∗ dutyTok ER (cell (rightOf c) (.recv false (curOf (h + 1)))) (h / 2) false
      ∗ dutyTok ER (cell c (.send true (curOf h))) (h / 2) false ∗ dutyTok ER (cell (rightOf c) (.recv true (curOf (h + 1)))) (h / 2) false
      ∗ (if h < 30 then dutyTok ER (cell (leftOf c) .cred) h false else iprop(emp))) ∗ _) ⊢ _
  split
  · iintro ⟨⟨A, B, C, D, E⟩, X, Y, Z⟩
    isplitl [A B C D X Y]
    · isplitl [A B X]
      · isplitl [A]; · iexact A
        isplitl [B]; · iexact B
        iexact X
      · isplitl [C]; · iexact C
        isplitl [D]; · iexact D
        iexact Y
    isplitl [E]; · iexact E
    iexact Z
  · iintro ⟨⟨A, B, C, D, E⟩, X, Y, Z⟩
    isplitl [A B C D X Y]
    · isplitl [A B X]
      · isplitl [A]; · iexact A
        isplitl [B]; · iexact B
        iexact X
      · isplitl [C]; · iexact C
        isplitl [D]; · iexact D
        iexact Y
    iempintro

end Cert.KernelIdeal.Ring

end
-- ==== Proof.KernelIdeal.Slots.lean ====
/- A device's memory and semaphores at the two ends of the region: a ring buffer is its two slots, the semaphores go into the
   protocol at the start and come out at zero at the end; the body between the two. -/
module

public import proofs.«01_k».proof.Proof.KernelIdeal.Deal

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.VecWindow Idealize.ShloMosaic.ValueIdx

variable {F : FTy → Type} [FloatOps F]

local notation "𝕄" => MT nD τ sig ℕ (Elt F) ℕ UU ℕ

/-! ## A ring buffer is its two slots -/

theorem rect_compl : (Finset.univ : Finset S2x64x256x64.Idx) \ (Rect.unit (s := S2x64x256x64) (slotOff 0) S1x64x256x64.size (slotOff_inb 0)).set
    = (Rect.unit (s := S2x64x256x64) (slotOff 1) S1x64x256x64.size (slotOff_inb 1)).set := by
  ext x
  have b0 : (x 0).val < 2 := (x 0).isLt
  have b1 : (x 1).val < 64 := (x 1).isLt
  have b2 : (x 2).val < 256 := (x 2).isLt
  have b3 : (x 3).val < 64 := (x 3).isLt
  rw [Finset.mem_sdiff, Rect.mem_set_unit, Rect.mem_set_unit]
  constructor
  · rintro ⟨-, h⟩
    rintro (a : Fin 4)
    have h0 : (x 0).val ≠ 0 := fun h0 => h (by
      rintro (a : Fin 4)
      fin_cases a
      · show 0 ≤ (x 0).val ∧ (x 0).val < 0 + 1; omega
      · show 0 ≤ (x 1).val ∧ (x 1).val < 0 + 64; omega
      · show 0 ≤ (x 2).val ∧ (x 2).val < 0 + 256; omega
      · show 0 ≤ (x 3).val ∧ (x 3).val < 0 + 64; omega)
    fin_cases a
    · show 1 ≤ (x 0).val ∧ (x 0).val < 1 + 1; omega
    · show 0 ≤ (x 1).val ∧ (x 1).val < 0 + 64; omega
    · show 0 ≤ (x 2).val ∧ (x 2).val < 0 + 256; omega
    · show 0 ≤ (x 3).val ∧ (x 3).val < 0 + 64; omega
  · intro h
    refine ⟨Finset.mem_univ _, fun h' => ?_⟩
    have p : 1 ≤ (x 0).val ∧ (x 0).val < 1 + 1 := h 0
    have q : 0 ≤ (x 0).val ∧ (x 0).val < 0 + 1 := h' 0
    omega

section Slots
variable (c : Dev nD) (m : Memref sig .tc .vmem S2x64x256x64 .f32)

theorem slot_compl : m.view.set \ (slotOf m 0).view.set = (slotOf m 1).view.set := by
  rw [slot_set, slot_set, ← rect_compl]
  unfold View.set
  exact (Finset.map_sdiff _ _).symm
theorem slot_sub : (slotOf m 0).view.set ⊆ m.view.set := by
  rw [slot_set]; unfold View.set
  exact Finset.map_subset_map.mpr (Finset.subset_univ _)

theorem slots_split (f : m.view.ty.Contents (Elt F)) : (m.view.loc (c : Thread nD τ) ↦[m.view.set]{fullShare} f : sProp 𝕄)
    ⊢ iprop((∃ x, owns (c : Thread nD τ) (slotOf m 0) fullShare x) ∗ ∃ x, owns (c : Thread nD τ) (slotOf m 1) fullShare x) := by
  refine (pointsTo_split_subset (slot_sub m)).1.trans ?_
  rw [slot_compl]
  iintro ⟨A, B⟩
  isplitl [A]
  · iexists _; iapply (owns_intro (c : Thread nD τ) (slotOf m 0) fullShare f); iexact A
  · iexists _; iapply (owns_intro (c : Thread nD τ) (slotOf m 1) fullShare f); iexact B
theorem slots_join : iprop((∃ x, owns (c : Thread nD τ) (slotOf m 0) fullShare x) ∗ ∃ x, owns (c : Thread nD τ) (slotOf m 1) fullShare x)
    ⊢ (iprop(∃ f, m.view.loc (c : Thread nD τ) ↦[m.view.set]{fullShare} f) : sProp 𝕄) := by
  unfold owns
  iintro ⟨⟨%x, %f, -, A⟩, %y, %g, -, B⟩
  iexists _
  iapply (pointsTo_join_subset (slot_sub m))
  isplitl [A]; · iexact A
  rw [slot_compl]
  iexact B

end Slots

theorem ring_split (c : Dev nD) : ∀ (b : Bool) (f : Buf (Elt F) ((c : Thread nD τ).loc (ringRef b))),
    (((c : Thread nD τ).loc (ringRef b)) ↦{fullShare} f : sProp 𝕄) ⊢ Ring2 c b
  | false, f => by
    have h := slots_split c (ringM false) f
    rw [show (ringM false).view.set = Finset.univ from View.set_whole _] at h
    exact h
  | true, f => by
    have h := slots_split c (ringM true) f
    rw [show (ringM true).view.set = Finset.univ from View.set_whole _] at h
    exact h
theorem ring_join (c : Dev nD) : ∀ (b : Bool),
    (Ring2 c b : sProp 𝕄) ⊢ iprop(∃ f : Buf (Elt F) ((c : Thread nD τ).loc (ringRef b)), ((c : Thread nD τ).loc (ringRef b)) ↦{fullShare} f)
  | false => by
    have h := slots_join (F := F) c (ringM false)
    rw [show (ringM false).view.set = Finset.univ from View.set_whole _] at h
    exact h
  | true => by
    have h := slots_join (F := F) c (ringM true)
    rw [show (ringM true).view.set = Finset.univ from View.set_whole _] at h
    exact h

/-- The region's scratch buffers, each at some contents. -/
abbrev Scr (c : Dev nD) : sProp 𝕄 := Pipeline.scopedRest (Ix := ℕ) (Name := ℕ) (U := UU) (Lvl := ℕ) (Val := Elt F) spec0 c

theorem scr_split (c : Dev nD) : (Scr c : sProp 𝕄) ⊢ iprop((Ring2 c false ∗ Ring2 c true) ∗ ∃ s : Acc F, hold c s) := by
  unfold Scr; rw [scopedRest0_eq]
  unfold hold
  iintro ⟨⟨%f0, A0⟩, ⟨%f1, A1⟩, ⟨%f2, A2⟩, ⟨%f3, A3⟩, %f4, A4⟩
  isplitl [A0 A1]
  · isplitl [A0]; · iapply (ring_split c false f0); iexact A0
    iapply (ring_split c true f1); iexact A1
  iexists (⟨f3, f4, f2⟩ : Acc F)
  rw [owns_whole, owns_whole, owns_whole]
  isplitl [A3]; · iexact A3
  isplitl [A4]; · iexact A4
  iexact A2
theorem scr_join (c : Dev nD) (s : Acc F) : iprop((Ring2 c false ∗ Ring2 c true) ∗ hold c s) ⊢ (Scr c : sProp 𝕄) := by
  unfold Scr; rw [scopedRest0_eq]
  unfold hold
  rw [owns_whole, owns_whole, owns_whole]
  iintro ⟨⟨A0, A1⟩, A3, A4, A2⟩
  isplitl [A0]; · iapply (ring_join c false); iexact A0
  isplitl [A1]; · iapply (ring_join c true); iexact A1
  isplitl [A2]; · iexists _; iexact A2
  isplitl [A3]; · iexists _; iexact A3
  iexists _; iexact A4

/-! ## The semaphores -/

/-- The semaphores of the region's own. -/
abbrev ok : Fin 9 → Kd
  | 0 => .cred | 1 => .send false 0 | 2 => .send false 1 | 3 => .send true 0 | 4 => .send true 1
  | 5 => .recv false 0 | 6 => .recv false 1 | 7 => .recv true 0 | 8 => .recv true 1
abbrev osem (k : Fin 9) : SemLoc sig := (ok k).sl

theorem sep9 {M : Type} [URA M] (Φ : Fin 9 → sProp M) : bigSep Finset.univ Φ
    = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- Rounds each semaphore has been through at the end. -/
def fin : Kd → ℕ
  | .bar => 1
  | .cred => 30
  | .send _ s => 16 - s.val
  | .recv _ n => 15 + n.val

theorem duties_fin (k : Kd) (r : ℕ) (h : fin k ≤ r) : k.duties r = ∅ := by
  cases k with
  | bar => exact if_neg (by have : 1 ≤ r := h; omega)
  | cred => exact if_neg (by have : 30 ≤ r := h; omega)
  | send b s => exact if_neg (by have : 16 - s.val ≤ r := h; have := s.isLt; unfold hopS; omega)
  | recv b n => exact if_neg (by have : 15 + n.val ≤ r := h; have := n.isLt; unfold hopR; omega)

section Cells
variable {B : Blocks F} {K : GSem nD τ sig → ℕ} {I : sProp (MT nD τ sig ℕ (Elt F) ℕ UU ℕ)} [BI.Persistent I] (hI : Invs B K I) (c : Dev nD)

include hI in
theorem open_cell (k : Kd) : iprop(I ∗ openTok ER (cell c k) ∗ semVal (cell c k) 0) ⊢ (|={Set.univ}=> At c k 0 : sProp 𝕄) := by
  unfold At
  iintro ⟨#H, A, B⟩
  iapply (Rounds.cell_open ER (ringRd B) (g := cell c k) (Set.mem_univ (K (cell c k))))
  isplitr; · iapply (hI c k); iexact H
  isplitl [A] <;> iassumption
include hI in
theorem close_cell (k : Kd) : iprop(I ∗ atPos ER (cell c k) (fin k) ∅ 0) ⊢ (|={Set.univ}=> semVal (cell c k) 0 : sProp 𝕄) := by
  iintro ⟨#H, A⟩
  iapply (Rounds.cell_close ER (ringRd B) (g := cell c k) (Set.mem_univ (K (cell c k))) (fun h => h) (R := fin k)
    (fun r hr => by rw [duties_cell]; exact duties_fin k r hr))
  isplitr; · iapply (hI c k); iexact H
  iexact A

include hI in
/-- At the region's start its own semaphores go into the protocol. -/
theorem open_all : iprop(I ∗ (bigSep Finset.univ fun k : Fin 9 => openTok ER (cell c (ok k))) ∗ Pipeline.ownSems0 osem c)
    ⊢ (|={Set.univ}=> (At c .cred 0 ∗ (Pos c false 0 ∗ Pos c true 0)) : sProp 𝕄) := by
  unfold Pipeline.ownSems0
  rw [sep9, sep9]
  iintro ⟨#H, ⟨A0, A1, A2, A3, A4, A5, A6, A7, A8⟩, B0, B1, B2, B3, B4, B5, B6, B7, B8⟩
  imod (open_cell hI c (ok 0)) $$ [A0 B0] with C0
  · isplitr; · iexact H
    isplitl [A0] <;> iassumption
  imod (open_cell hI c (ok 1)) $$ [A1 B1] with C1
  · isplitr; · iexact H
    isplitl [A1] <;> iassumption
  imod (open_cell hI c (ok 2)) $$ [A2 B2] with C2
  · isplitr; · iexact H
    isplitl [A2] <;> iassumption
  imod (open_cell hI c (ok 3)) $$ [A3 B3] with C3
  · isplitr; · iexact H
    isplitl [A3] <;> iassumption
  imod (open_cell hI c (ok 4)) $$ [A4 B4] with C4
  · isplitr; · iexact H
    isplitl [A4] <;> iassumption
  imod (open_cell hI c (ok 5)) $$ [A5 B5] with C5
  · isplitr; · iexact H
    isplitl [A5] <;> iassumption
  imod (open_cell hI c (ok 6)) $$ [A6 B6] with C6
  · isplitr; · iexact H
    isplitl [A6] <;> iassumption
  imod (open_cell hI c (ok 7)) $$ [A7 B7] with C7
  · isplitr; · iexact H
    isplitl [A7] <;> iassumption
  imod (open_cell hI c (ok 8)) $$ [A8 B8] with C8
  · isplitr; · iexact H
    isplitl [A8] <;> iassumption
  imodintro
  isplitl [C0]; · iexact C0
  unfold Pos
  isplitl [C1 C2 C5 C6]
  · isplitl [C1]; · iexact C1
    isplitl [C2]; · iexact C2
    isplitl [C6]; · iexact C6
    iexact C5
  · isplitl [C3]; · iexact C3
    isplitl [C4]; · iexact C4
    isplitl [C8]; · iexact C8
    iexact C7

include hI in
/-- At the region's end every semaphore is back at zero. -/
theorem close_all : iprop(I ∗ Ghost1 c) ⊢ (|={Set.univ}=> (semVal (cell c .bar) 0 ∗ Pipeline.ownSems0 osem c) : sProp 𝕄) := by
  unfold Pipeline.ownSems0 Ghost1 Pos At
  rw [sep9]
  iintro ⟨#H, Ab, ⟨A0, -⟩, ⟨⟨A2, -⟩, ⟨A1, -⟩, ⟨A5, -⟩, ⟨A6, -⟩⟩, ⟨A4, -⟩, ⟨A3, -⟩, ⟨A7, -⟩, ⟨A8, -⟩⟩
  imod (close_cell hI c .bar) $$ [Ab] with Cb
  · isplitr; · iexact H
    iexact Ab
  imod (close_cell hI c (ok 0)) $$ [A0] with C0
  · isplitr; · iexact H
    iexact A0
  imod (close_cell hI c (ok 1)) $$ [A1] with C1
  · isplitr; · iexact H
    iexact A1
  imod (close_cell hI c (ok 2)) $$ [A2] with C2
  · isplitr; · iexact H
    iexact A2
  imod (close_cell hI c (ok 3)) $$ [A3] with C3
  · isplitr; · iexact H
    iexact A3
  imod (close_cell hI c (ok 4)) $$ [A4] with C4
  · isplitr; · iexact H
    iexact A4
  imod (close_cell hI c (ok 5)) $$ [A5] with C5
  · isplitr; · iexact H
    iexact A5
  imod (close_cell hI c (ok 6)) $$ [A6] with C6
  · isplitr; · iexact H
    iexact A6
  imod (close_cell hI c (ok 7)) $$ [A7] with C7
  · isplitr; · iexact H
    iexact A7
  imod (close_cell hI c (ok 8)) $$ [A8] with C8
  · isplitr; · iexact H
    iexact A8
  imodintro
  isplitl [Cb]; · iexact Cb
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  iexact C8

/-- What the body starts from, in the region's terms. -/
def Pre (B : Blocks F) (c : Dev nD) (q x : S64x256x64.Idx → Elt F .f32) : sProp 𝕄 :=
  iprop(Opnds B c fullShare fullShare fullShare q x ∗ Scr c ∗ ow c (O₀ c) ∗ Ghost0 c)
def Post (B : Blocks F) (c : Dev nD) (q : S64x256x64.Idx → Elt F .f32) : sProp 𝕄 :=
  iprop(Opnds B c fullShare fullShare fullShare q (last B c q).out ∗ Scr c ∗ ow c 0 ∗ semVal (cell c .bar) 0 ∗ Pipeline.ownSems0 osem c)

include hI in
/-- The body, from the scratch buffers and the protocol's state to the scratch buffers and every semaphore at zero. -/
theorem run_closed (q x : S64x256x64.Idx → Elt F .f32) :
    iprop(I ∗ levAts L lv ∗ Pre B c q x) ⊢ WP c (run c stmts) fun _ => Post B c q := by
  have h1 (s : Acc F) : iprop(I ∗ levAts L lv ∗ Start B c fullShare fullShare fullShare q x s)
      ⊢ iprop(I ∗ WP c (run c stmts) fun _ => End B c fullShare fullShare fullShare q) := by
    iintro ⟨#H, #HL, X⟩
    isplitr; · iexact H
    iapply (run_body hI c fullShare fullShare fullShare q x s)
    isplitr; · iexact H
    isplitr; · iexact HL
    iexact X
  have h2 : iprop(I ∗ End B c fullShare fullShare fullShare q) ⊢ (|={Set.univ}=> Post B c q : sProp 𝕄) := by
    unfold End Post
    iintro ⟨#H, A, C, R, O, G⟩
    imod (close_all hI c) $$ [G] with ⟨S, T⟩
    · isplitr; · iexact H
      iexact G
    imodintro
    isplitl [A]; · iexact A
    isplitl [C R]
    · iapply (scr_join c _)
      isplitl [R] <;> iassumption
    isplitl [O]; · iexact O
    isplitl [S] <;> iassumption
  have h3 : iprop(I ∗ WP c (run c stmts) fun _ => End B c fullShare fullShare fullShare q) ⊢ WP c (run c stmts) fun _ => Post B c q :=
    (wp_frame_l _ _ _).trans ((wp_mono _ _ _ fun _ => h2).trans (wp_fupd _ _ _ _ _))
  refine BIBase.Entails.trans (Q := iprop(I ∗ WP c (run c stmts) fun _ => End B c fullShare fullShare fullShare q)) ?_ h3
  unfold Pre
  iintro ⟨#H, #HL, A, S, O, G⟩
  ihave S := (scr_split c) $$ S
  icases S with ⟨R, %s, C⟩
  iapply (h1 s)
  isplitr; · iexact H
  isplitr; · iexact HL
  unfold Start
  isplitl [A]; · iexact A
  isplitl [C]; · iexact C
  isplitl [R]; · iexact R
  isplitl [O] <;> iassumption

end Cells

end Cert.KernelIdeal.Ring

end
-- ==== Proof.KernelIdeal.Region.lean ====
/- The region: what its windows hold, its invariant, the body in the pipeline's terms, and the region as a segment of the program. -/
module

public import proofs.«01_k».proof.Proof.KernelIdeal.Slots
public import proofs.«01_k».proof.Proof.Gen.KernelIdeal.Frame
public import Idealize.ShloMosaic.Lib.Pipeline.ValueKit.Geometry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen
open Idealize.ShloMosaic.VecWindow Idealize.ShloMosaic.ValueIdx

variable {F : FTy → Type} [FloatOps F]

local notation "𝕄" => MT nD τ sig ℕ (Elt F) ℕ UU ℕ

variable (m : (ℓ : Loc nD τ sig) → Buf (Elt F) ℓ)

/-- The device's queries, and every device's keys and values, as the region finds them. -/
def qOf (c : Dev nD) : S64x256x64.Idx → Elt F .f32 := V m c main_v2
def blocks : Blocks F
  | false, c => V m c main_v4
  | true, c => V m c main_v6
/-- What the device writes. -/
def outOf (c : Dev nD) : S64x256x64.Idx → Elt F .f32 := (last (blocks m) c (qOf m c)).out

/-- The records every device may consult: the invariant of every cell, under a map of names. -/
def Inv (B : Blocks F) (κ : GSem nD τ sig → ℕ) (S : Finset (GSem nD τ sig)) : sProp 𝕄 := bigSep S fun g => cellInv ER (ringRd B) (κ g) g
instance (B : Blocks F) (κ : GSem nD τ sig → ℕ) (S : Finset (GSem nD τ sig)) : BI.Persistent (Inv B κ S) := by unfold Inv; infer_instance

/-- The barrier cells, and the others. -/
def barEmb : Dev nD ↪ GSem nD τ sig := ⟨fun c => cell c .bar, fun _ _ h => (cell_inj h).1⟩
theorem ok_inj : Function.Injective ok := by decide
theorem ok_ne : ∀ k, ok k ≠ .bar := by decide
def ownEmb : Dev nD × Fin 9 ↪ GSem nD τ sig :=
  ⟨fun x => cell x.1 (ok x.2), fun _ _ h => Prod.ext (cell_inj h).1 (ok_inj (cell_inj h).2)⟩
def barCells : Finset (GSem nD τ sig) := Finset.univ.map barEmb
def ownCells : Finset (GSem nD τ sig) := Finset.univ.map ownEmb
theorem disjoint_cells : Disjoint barCells ownCells := by
  rw [Finset.disjoint_left]
  rintro g h₁ h₂
  obtain ⟨c, -, rfl⟩ := Finset.mem_map.mp h₁
  obtain ⟨x, -, h⟩ := Finset.mem_map.mp h₂
  exact ok_ne x.2 (cell_inj h).2
theorem ok_surj (k : Kd) (h : k ≠ .bar) : ∃ i, ok i = k := by
  cases k with
  | bar => exact absurd rfl h
  | cred => exact ⟨0, rfl⟩
  | send b s => revert b s; decide
  | recv b s => revert b s; decide
theorem mem_cells (c : Dev nD) (k : Kd) : cell c k ∈ barCells ∪ ownCells := by
  by_cases h : k = .bar
  · subst h; exact Finset.mem_union_left _ (Finset.mem_map.mpr ⟨c, Finset.mem_univ _, rfl⟩)
  · obtain ⟨i, rfl⟩ := ok_surj k h
    exact Finset.mem_union_right _ (Finset.mem_map.mpr ⟨(c, i), Finset.mem_univ _, rfl⟩)
theorem invs (B : Blocks F) (κ : GSem nD τ sig → ℕ) : Invs B κ (Inv B κ (barCells ∪ ownCells)) := fun c k => by
  unfold Inv; exact bigSep_elim (mem_cells c k)

/-! ## The region's data -/

/-- The protocol's state when the body starts. -/
def Xk (c : Dev nD) : sProp 𝕄 := iprop((∃ κ, Inv (blocks m) κ (barCells ∪ ownCells) ∗ Ghost0 c) ∗ levAts L lv)
/-- Before the body, and after it. -/
def Φ₀ (c : Dev nD) : sProp 𝕄 := iprop(Scr c ∗ (∃ r, prngReg c r) ∗ Xk m c)
def Φ₁ (c : Dev nD) : sProp 𝕄 := iprop(Scr c ∗ (∃ r, prngReg c r) ∗ Pipeline.ownSems0 osem c ∗ semVal (cell c .bar) 0)

/-- What each window holds after the body. -/
def afterOf (c : Dev nD) : (w : Fin cfg0.W) → Fin cfg0.N → (cfg0.win w).block.Idx → Elt F (cfg0.win w).elt
  | 0, t => iblk m c 0 t
  | 1, t => iblk m c 1 t
  | 2, t => iblk m c 2 t
  | 3, _ => outOf m c
  | ⟨_ + 4, h⟩, _ => absurd h (Nat.not_lt.2 (Nat.le_add_left _ _))

/-- The region's windows, invariant and debts. -/
def dat (c : Dev nD) : Dat τ (Elt F) ℕ ℕ UU ℕ cfg0 c where
  A w := V m c (Pipeline.arrRef spec0 w)
  after := afterOf m c
  Φ t := if t.val = 0 then Φ₀ m c else Φ₁ c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m
  | ⟨_ + 1, h⟩ => absurd h (Nat.not_lt.2 (Nat.le_add_left _ _))

theorem idx_zero : ∀ w : Fin cfg0.W, ∀ a, (cfg0.win w).index t0_0 a = 0 := by decide +kernel

theorem iblk_0 (c : Dev nD) : (iblk m c 0 t0_0 : S64x256x64.Idx → Elt F .f32) = qOf m c := by
  funext y
  show V m c main_v2 (((cfg0.win 0).rect t0_0).emb y) = V m c main_v2 y
  refine congrArg _ ?_
  funext a; apply Fin.ext
  exact Pipeline.Window.rect_emb_val_of_index_zero _ _ _ (idx_zero 0 a) y
theorem iblk_1 (c : Dev nD) : (iblk m c 1 t0_0 : S64x256x64.Idx → Elt F .f32) = blocks m false c := by
  funext y
  show V m c main_v4 (((cfg0.win 1).rect t0_0).emb y) = V m c main_v4 y
  refine congrArg _ ?_
  funext a; apply Fin.ext
  exact Pipeline.Window.rect_emb_val_of_index_zero _ _ _ (idx_zero 1 a) y
theorem iblk_2 (c : Dev nD) : (iblk m c 2 t0_0 : S64x256x64.Idx → Elt F .f32) = blocks m true c := by
  funext y
  show V m c main_v6 (((cfg0.win 2).rect t0_0).emb y) = V m c main_v6 y
  refine congrArg _ ?_
  funext a; apply Fin.ext
  exact Pipeline.Window.rect_emb_val_of_index_zero _ _ _ (idx_zero 2 a) y

theorem before_0 (c : Dev nD) (d) : ((dat m c).before 0 t0_0 d : S64x256x64.Idx → Elt F .f32) = qOf m c :=
  (((dat m c).before_in_eq_fetched 0 rfl (fun _ => rfl) (fun _ _ _ => rfl) (fun t => by rfl) t0_0 d).trans (by rfl)).trans (iblk_0 m c)
theorem before_1 (c : Dev nD) (d) : ((dat m c).before 1 t0_0 d : S64x256x64.Idx → Elt F .f32) = blocks m false c :=
  (((dat m c).before_in_eq_fetched 1 rfl (fun _ => rfl) (fun _ _ _ => rfl) (fun t => by rfl) t0_0 d).trans (by rfl)).trans (iblk_1 m c)
theorem before_2 (c : Dev nD) (d) : ((dat m c).before 2 t0_0 d : S64x256x64.Idx → Elt F .f32) = blocks m true c :=
  (((dat m c).before_in_eq_fetched 2 rfl (fun _ => rfl) (fun _ _ _ => rfl) (fun t => by rfl) t0_0 d).trans (by rfl)).trans (iblk_2 m c)

theorem owed_zero (c : Dev nD) : (pdats (F := F) m 0 c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owes_in (c : Dev nD) : ((dat m c).owesAt 0 t0_0.castSucc : sProp 𝕄) ⊢ ow c (O₀ c) := by
  unfold Dat.owesAt Pipeline.owesWithin ow; rw [owed_first]
  iintro ⟨%W, -, HO⟩; iexists W; iexact HO
theorem owes_out (c : Dev nD) : (ow c 0 : sProp 𝕄) ⊢ (dat m c).owesAt 0 t0_0.succ := by
  unfold Dat.owesAt Pipeline.owesWithin Dat.bound ow; rw [show (dat m c).owed t0_0.succ = 0 from owed_last m c]
  iintro ⟨%W, HO⟩; iexists W
  isplitr; · ipureintro; exact fun _ _ => Or.inl trivial
  iexact HO

/-- The body at its one point. -/
theorem body (c : Dev nD) : BodyObligation (dat m c) defs₀ 𝒱₀ 0 Set.univ := fun t => by
  obtain rfl := fin_N0 t
  rw [bigSep_W0, bigSep_W0]
  show iprop(Φ₀ m c ∗ (dat m c).owesAt 0 t0_0.castSucc
      ∗ (∃ d, owns (c : Thread nD τ) qM fullShare ((dat m c).before 0 t0_0 d)) ∗ (∃ d, owns (c : Thread nD τ) kM fullShare ((dat m c).before 1 t0_0 d))
      ∗ (∃ d, owns (c : Thread nD τ) vM fullShare ((dat m c).before 2 t0_0 d)) ∗ (∃ d, owns (c : Thread nD τ) outM fullShare ((dat m c).before 3 t0_0 d)))
    ⊢ wp frame (wpE (defs₀ (F := F)) 𝒱₀ (c : Thread nD τ) none) Set.univ (bodyAt0 t0_0) fun _ => iprop(Φ₁ c ∗ (dat m c).owesAt 0 t0_0.succ
      ∗ owns (c : Thread nD τ) qM fullShare (iblk m c 0 t0_0) ∗ owns (c : Thread nD τ) kM fullShare (iblk m c 1 t0_0)
      ∗ owns (c : Thread nD τ) vM fullShare (iblk m c 2 t0_0) ∗ owns (c : Thread nD τ) outM fullShare (outOf m c))
  have hb (Q : PUnit.{1} → sProp 𝕄) : wp frame (wpE (defs₀ (F := F)) 𝒱₀ (c : Thread nD τ) none) Set.univ (bodyAt0 t0_0 : PP F _) Q = WP c (run c stmts) Q := by
    rw [body_eq]
    show wp frame (wpE (defs₀ (F := F)) 𝒱₀ (c : Thread nD τ) none) Set.univ (.op .deviceId fun d => run d stmts : PP F _) Q = _
    rw [wp_deviceId]
  rw [hb, iblk_0, iblk_1, iblk_2]
  have h : iprop((∃ r, prngReg c r) ∗ WP c (run c stmts) fun _ => Post (blocks m) c (qOf m c))
      ⊢ (WP c (run c stmts) fun _ => iprop(Φ₁ c ∗ (dat m c).owesAt 0 t0_0.succ ∗ owns (c : Thread nD τ) qM fullShare (qOf m c)
        ∗ owns (c : Thread nD τ) kM fullShare (blocks m false c) ∗ owns (c : Thread nD τ) vM fullShare (blocks m true c)
        ∗ owns (c : Thread nD τ) outM fullShare (outOf m c)) : sProp 𝕄) := by
    refine (wp_frame_l _ _ _).trans (wp_mono _ _ _ fun _ => ?_)
    unfold Post Opnds Φ₁ outOf
    iintro ⟨Hp, ⟨A, B, C, D⟩, S, HO, Hb, Hs⟩
    isplitl [S Hp Hs Hb]
    · isplitl [S]; · iexact S
      isplitl [Hp]; · iexact Hp
      isplitl [Hs] <;> iassumption
    isplitl [HO]; · iapply (owes_out m c); iexact HO
    isplitl [A]; · iexact A
    isplitl [B]; · iexact B
    isplitl [C] <;> iassumption
  refine BIBase.Entails.trans ?_ h
  unfold Φ₀ Xk
  iintro ⟨⟨S, Hp, ⟨%κ, #HI, G⟩, #HL⟩, HO, ⟨%d0, W0⟩, ⟨%d1, W1⟩, ⟨%d2, W2⟩, ⟨%d3, W3⟩⟩
  isplitl [Hp]; · iexact Hp
  iapply (run_closed (invs (blocks m) κ) c (qOf m c) ((dat m c).before 3 t0_0 d3))
  isplitr; · iexact HI
  isplitr; · iexact HL
  unfold Pre Opnds
  isplitl [W0 W1 W2 W3]
  · isplitl [W0]
    · rw [← before_0 m c d0]; iexact W0
    isplitl [W1]
    · rw [← before_1 m c d1]; iexact W1
    isplitl [W2]
    · rw [← before_2 m c d2]; iexact W2
    iexact W3
  isplitl [S]; · iexact S
  isplitl [HO]; · iapply (owes_in m c); iexact HO
  iexact G

/-! ## The region as a segment -/

/-- The buffers of the program, those of the region's windows apart. -/
def bufs : Finset (DevRef τ sig) := (StableHlo.tcRefs τ sig).filter fun b => ¬ b.isScoped
abbrev arrs : Finset (DevRef τ sig) := Pipeline.arrRefs (τ := τ) spec0

/-- The buffers after the region: the output array holds what the device writes. -/
def V₂ (c : Dev nD) : Valuation τ sig (Elt F) := Pipeline.withArrays spec0 c (V0 m c) fun w => (dat m c).arrAt w cfg0.N

theorem W_in (c : Dev nD) (w : Fin 4) : (pdats m 0 c).arrAt w 0 = V0 m c (Proc.devRef .tc (Pipeline.arrRef spec0 w)) := rfl
theorem W_out (c : Dev nD) (w : Fin 4) : (pdats m 0 c).arrAt w cfg0.N = V₂ m c (Proc.devRef .tc (Pipeline.arrRef spec0 w)) :=
  (Pipeline.withArrays_arr spec0 launch0.win.arr_inj c (V0 m c) (fun w => (dat m c).arrAt w cfg0.N) w).symm
theorem V₂_off (c : Dev nD) (b : DevRef τ sig) (hb : b ∈ (bufs \ arrs) \ ∅) : V₂ m c b = V0 m c b := by
  unfold V₂ Pipeline.withArrays
  rw [dif_neg]
  rintro ⟨w, e⟩
  rw [Finset.sdiff_empty] at hb
  exact (Finset.mem_sdiff.mp hb).2 (Finset.mem_map.mpr ⟨_, Finset.mem_image_of_mem _ (Finset.mem_univ w), e⟩)

/-- What the launch keeps for the region. -/
def Tk (c : Dev nD) : sProp 𝕄 :=
  iprop(∃ κ, Inv (blocks m) κ (barCells ∪ ownCells) ∗ BarR c ∗ (bigSep Finset.univ fun k : Fin 9 => openTok ER (cell c (ok k)))
    ∗ bigSep (Finset.Ico 0 31) (hopRes c))
def Yk (c : Dev nD) : sProp 𝕄 := semVal (cell c .bar) 0

theorem hopen (c : Dev nD) : iprop(Tk m c ∗ Pipeline.ownSems0 osem c ∗ levAts L lv) ⊢ (|={Set.univ}=> Xk m c : sProp 𝕄) := by
  unfold Tk Xk Ghost0
  iintro ⟨⟨%κ, #HI, HB, HT, HR⟩, HS, #HL⟩
  imod (open_all (invs (blocks m) κ) c) $$ [HT HS] with ⟨Hc, HP⟩
  · isplitr; · iexact HI
    isplitl [HT] <;> iassumption
  imodintro
  isplitl [HB HR Hc HP]
  · iexists κ
    isplitr; · iexact HI
    isplitl [HB]; · iexact HB
    isplitl [Hc]; · iexact Hc
    isplitl [HP] <;> iassumption
  iexact HL

theorem hin (c : Dev nD) : iprop(Scr c ∗ (∃ r, prngReg c r) ∗ StableHlo.held (c.tc : Thread nD τ) ∅ (V0 m c) ∗ Xk m c) ⊢ (Φ₀ m c : sProp 𝕄) := by
  unfold Φ₀
  iintro ⟨S, Hp, -, X⟩
  isplitl [S]; · iexact S
  isplitl [Hp] <;> iassumption
theorem hout (c : Dev nD) : (Φ₁ c : sProp 𝕄)
    ⊢ iprop(Scr c ∗ (∃ r, prngReg c r) ∗ StableHlo.held (c.tc : Thread nD τ) ∅ (V₂ m c) ∗ Pipeline.ownSems0 osem c ∗ Yk c) := by
  unfold Φ₁ Yk StableHlo.held
  rw [bigSep_empty]
  iintro ⟨S, Hp, O, B⟩
  isplitl [S]; · iexact S
  isplitl [Hp]; · iexact Hp
  isplitr; · iempintro
  isplitl [O] <;> iassumption

theorem O₀_above (c : Dev nD) : Above 0 (O₀ c) :=
  ((Above.oweFrom c (by omega)).add (Above.tally _ _ _ _ (by omega) (by omega))).add (Above.tally _ _ _ _ (by omega) (by omega))

theorem cut (c : Dev nD) (t : Fin (cfg0.N + 1)) (g : GSem nD τ sig) (i : ℕ) (h : 0 < (pdats (F := F) m 0 c).owed t g i) :
    i ∈ L g ∧ 0 < lv g i := by
  have e : (pdats (F := F) m 0 c).owed t = if t.val = 0 then O₀ c else 0 := rfl
  rw [e] at h
  have hA : Above 0 (if t.val = 0 then O₀ c else 0) := by
    split
    · exact O₀_above c
    · exact .zero
  obtain ⟨h1, h2, h3⟩ := hA g i h
  exact ⟨by unfold L; rw [if_pos h1]; exact Finset.mem_range.mpr h2, h3⟩

set_option backward.isDefEq.respectTransparency.types false in
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ (bufs \ arrs) (Finset.empty_subset _) launch0.toP rfl (fun c => (body m c).loose)
    (fun _ => 0) O₀ (fun c => (owed_zero m c).trans (zero_add _).symm) (owed_last m) (fun _ => rfl) (fun c w => by revert w; rintro (w : Fin 4); fin_cases w <;> rfl)
    (V0 m) (V₂ m) (V₂_off m)
    (Tk m) Yk (Xk m) Yk (hopen m) (hin m) (hout m)
    (fun c => by iintro H; imodintro; iexact H)
    (fun _ => 0)
    ⟨fun c w s => by rw [L_tc]; exact Finset.mem_range.mpr (by omega), fun _ _ _ => le_refl _, fun c t g i h => cut m c t g i h⟩
    (fun _ => iprop(emp))
    (W_in m) (W_out m)

end Cert.KernelIdeal.Ring

end
-- ==== Proof.KernelIdeal.Run.lean ====
/- The run of the whole program: the launch, the segments in a row, and what memory holds at the end. -/
module

public import proofs.«01_k».proof.Proof.KernelIdeal.Region

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen
open Idealize.ShloMosaic.VecWindow Idealize.ShloMosaic.ValueIdx

variable {F : FTy → Type} [FloatOps F]

local notation "𝕄" => MT nD τ sig ℕ (Elt F) ℕ UU ℕ

variable (m : (ℓ : Loc nD τ sig) → Buf (Elt F) ℓ)

variable (m : (ℓ : Loc nD τ sig) → Buf (Elt F) ℓ) (ρ : Dev nD → PrngReg)

/-! ## The host segments -/

theorem ops0_sub : ∀ op ∈ (hostOps0 : List (HloOp τ sig (Elt F))), op.bufs ⊆ bufs := fun op h =>
  Pipeline.sub_ucRefs op ((List.forall_iff_forall_mem.mp hostOps0_sub) op h)
theorem ops1_sub : ∀ op ∈ (hostOps1 : List (HloOp τ sig (Elt F))), op.bufs ⊆ bufs := fun op h =>
  Pipeline.sub_ucRefs op ((List.forall_iff_forall_mem.mp hostOps1_sub) op h)
theorem ops0_fresh : ∀ op ∈ (hostOps0 : List (HloOp τ sig (Elt F))), op.fresh = ∅ := fun op h =>
  (List.forall_iff_forall_mem.mp hostOps0_fresh) op h
theorem ops1_fresh : ∀ op ∈ (hostOps1 : List (HloOp τ sig (Elt F))), op.fresh = ∅ := fun op h =>
  (List.forall_iff_forall_mem.mp hostOps1_fresh) op h

/-- The buffers at launch, and at the end. -/
def Vm (c : Dev nD) : Valuation τ sig (Elt F) := fun b => m (c, b)
def V₃ (c : Dev nD) : Valuation τ sig (Elt F) := StableHlo.after hostOps1 (V₂ m c)

/-- What a device holds besides buffers, before the region and after it. -/
def Rst (c : Dev nD) : sProp 𝕄 := iprop((∃ r, prngReg c r) ∗ Tk m c ∗ ow c (O₀ c))
def Ren (c : Dev nD) : sProp 𝕄 := iprop((∃ r, prngReg c r) ∗ Yk c ∗ ow c 0)

def seg0 : Pipeline.HostSeg (Name := ℕ) (U := UU) (pcfgs (F := F)) defs₀ 𝒱₀ L lv :=
  Pipeline.HostSeg.ofOps _ _ _ _ _ bufs hostOps0 ops0_sub ops0_fresh (Vm m) (Rst m)
def seg1 : Pipeline.HostSeg (Name := ℕ) (U := UU) (pcfgs (F := F)) defs₀ 𝒱₀ L lv :=
  Pipeline.HostSeg.ofOps _ _ _ _ _ bufs hostOps1 ops1_sub ops1_fresh (V₂ m) Ren

theorem arrs_sub : (arrs : Finset (DevRef τ sig)) ⊆ bufs := by decide +kernel

theorem reg_pre (c : Dev nD) : iprop(StableHlo.held (c.tc : Thread nD τ) bufs (V0 m c) ∗ Rst m c) ⊢ (reg m).pre c := by
  show iprop(StableHlo.held (c.tc : Thread nD τ) bufs (V0 m c) ∗ Rst m c)
    ⊢ iprop(StableHlo.held (c.tc : Thread nD τ) arrs (V0 m c) ∗ (∃ r, prngReg c r)
      ∗ (StableHlo.held (c.tc : Thread nD τ) (bufs \ arrs) (V0 m c) ∗ emp) ∗ Tk m c
      ∗ ∃ W, owes (c.tc : Thread nD τ) (0 + O₀ c) W)
  rw [zero_add, StableHlo.held_sub_split (c.tc : Thread nD τ) arrs_sub (V0 m c)]
  unfold Rst ow
  iintro ⟨⟨A, B⟩, Hp, T, O⟩
  isplitl [A]; · iexact A
  isplitl [Hp]; · iexact Hp
  isplitl [B]
  · isplitl [B]; · iexact B
    iempintro
  isplitl [T] <;> iassumption

theorem reg_post (c : Dev nD) : (reg m).post c ⊢ iprop(StableHlo.held (c.tc : Thread nD τ) bufs (V₂ m c) ∗ Ren (F := F) c) := by
  show iprop(StableHlo.held (c.tc : Thread nD τ) arrs (V₂ m c) ∗ (∃ r, prngReg c r)
      ∗ (StableHlo.held (c.tc : Thread nD τ) (bufs \ arrs) (V₂ m c) ∗ emp) ∗ Yk c
      ∗ ∃ W, owes (c.tc : Thread nD τ) 0 W) ⊢ _
  rw [StableHlo.held_sub_split (c.tc : Thread nD τ) arrs_sub (V₂ m c)]
  unfold Ren ow
  iintro ⟨A, Hp, ⟨B, -⟩, Y, O⟩
  isplitl [A B]; · isplitl [A] <;> iassumption
  isplitl [Hp]; · iexact Hp
  isplitl [Y] <;> iassumption

def segs : List (Pipeline.Seg (pcfgs (F := F)) adm (pdats m) 0 defs₀ 𝒱₀ L lv) :=
  [.host (seg0 m), .region (reg m), .host (seg1 m)]
theorem main_eq (c : Dev nD) : main (F := F) c = Pipeline.Seg.run (segs m) :=
  Gen.main_segs adm (pdats m) 0 𝒱₀ L lv (seg0 m) (seg1 m) (reg m) rfl rfl c

/-! ## The launch -/

/-- What the launch puts in the ghost state: nothing moved yet at any staging cell, and the rounds of the protocol. -/
def u₀ : UU :=
  (initOf (Pipeline.cells (Pipeline.pin (pcfgs (F := F)) adm) cellOf_inj) (Pipeline.launchToks (Pipeline.pin (pcfgs (F := F)) adm) cellOf_inj),
    launchOf barCells ownCells tokSet)

/-- The protocol's share of it, before it is dealt, lies with the first device. -/
def Gl (c : Dev nD) : sProp 𝕄 := if c = 0 then BI.own (ER (launchOf barCells ownCells tokSet)) else iprop(emp)
theorem Gl_sep : bigSep Finset.univ Gl = (BI.own (ER (launchOf barCells ownCells tokSet)) : sProp 𝕄) := by
  rw [← Finset.insert_erase (Finset.mem_univ (0 : Dev nD)), sep_insert (Finset.notMem_erase _ _),
    bigSep_congr (s := Finset.univ.erase (0 : Dev nD)) (Ψ := fun _ => (BI.emp : sProp 𝕄)) fun c hc => by
      unfold Gl; rw [if_neg (Finset.ne_of_mem_erase hc)]; rfl, BI.bigSep_emp_const]
  unfold Gl; rw [if_pos rfl]
  exact BI.equiv_iff.mp sep_emp

/-- What all devices may consult: every invariant, and that every barrier's first round is reached. -/
def Rec (κ : GSem nD τ sig → ℕ) : sProp 𝕄 :=
  iprop(Inv (blocks m) κ (barCells ∪ ownCells) ∗ bigSep Finset.univ fun c : Dev nD => reached ER (cell c .bar) 0)
instance (κ : GSem nD τ sig → ℕ) : BI.Persistent (Rec m κ) := by unfold Rec; infer_instance

/-- A device's part of the ghost state. -/
def Lin (c : Dev nD) : sProp 𝕄 :=
  iprop(atPos ER (cell c .bar) 0 ∅ 0 ∗ (bigSep Finset.univ fun k : Fin 9 => openTok ER (cell c (ok k)))
    ∗ bigSep keys fun x => dutyTok ER (cell (who x c) x.1) x.2.1 x.2.2)
/-- A device's part of everything else. -/
def Bun (c : Dev nD) : sProp 𝕄 :=
  iprop(StableHlo.held (c.tc : Thread nD τ) bufs (Vm m c) ∗ Pipeline.launchCred O₀ c ∗ ow c (O₀ c) ∗ ∃ r, prngReg c r)

def T₀ (c : Dev nD) : sProp 𝕄 := iprop(StableHlo.held (c.tc : Thread nD τ) bufs (Vm m c) ∗ Rst m c)
def Tₙ (c : Dev nD) : sProp 𝕄 := iprop(StableHlo.held (c.tc : Thread nD τ) bufs (V₃ m c) ∗ Yk c)

theorem reached_at (c : Dev nD) : (bigSep Finset.univ fun c : Dev nD => reached ER (cell c .bar) 0) ⊢ (reached ER (cell c .bar) 0 : sProp 𝕄) :=
  bigSep_elim (Finset.mem_univ c)

theorem Tk_intro (κ : GSem nD τ sig → ℕ) (c : Dev nD) : iprop(Rec m κ ∗ Lin c ∗ Pipeline.launchCred O₀ c) ⊢ (Tk m c : sProp 𝕄) := by
  unfold Rec Lin Tk BarR
  rw [keys_sep, creds]
  iintro ⟨⟨#HI, #HR⟩, ⟨Ha, Ho, ⟨Hl, Hr⟩, Hd⟩, Hc, Hb⟩
  iexists κ
  isplitr; · iexact HI
  isplitl [Hl Hr Hb Ha]
  · isplitl [Hl]
    · isplitl [Hl]; · iexact Hl
      iapply (reached_at (leftOf c)); iexact HR
    isplitl [Hr]
    · isplitl [Hr]; · iexact Hr
      iapply (reached_at (rightOf c)); iexact HR
    isplitl [Hb] <;> iassumption
  isplitl [Ho]; · iexact Ho
  iapply (hops_res c)
  isplitl [Hd] <;> iassumption

theorem T₀_intro (κ : GSem nD τ sig → ℕ) (c : Dev nD) : iprop(Rec m κ ∗ (Lin c ∗ Bun m c)) ⊢ (T₀ m c : sProp 𝕄) := by
  unfold T₀ Rst Bun
  iintro ⟨#HR, Hl, Hh, Hc, Ho, Hp⟩
  isplitl [Hh]; · iexact Hh
  isplitl [Hp]; · iexact Hp
  isplitr [Ho]
  · iapply (Tk_intro m κ c)
    isplitr; · iexact HR
    isplitl [Hl] <;> iassumption
  iexact Ho

theorem sems_eq (c : Dev nD) : (unscopedSems0 c : sProp 𝕄) = semVal (cell c .bar) 0 := by
  unfold unscopedSems0
  rw [show (Finset.univ.filter fun sm : SemLoc sig => ¬ sm.isScoped .tc = true) = {SemLoc.reg barrier0} from by decide, bigSep_singleton]

theorem init_dev (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ Gl c)
    ⊢ (iprop(Bun m c ∗ (semVal (cell c .bar) 0 ∗ Gl c)) : sProp 𝕄) := by
  rw [show unscopedBufs c (fun b => m ((c.tc : Thread nD τ).loc b)) = (StableHlo.held (c.tc : Thread nD τ) bufs (Vm m c) : sProp 𝕄) from
    Pipeline.unscopedBufs_held c (Vm m c), sems_eq]
  unfold Bun ow
  iintro ⟨Hh, Hb, Ho, Hc, Hp, HG⟩
  isplitr [Hb HG]
  · isplitl [Hh]; · iexact Hh
    isplitl [Hc]; · iexact Hc
    isplitl [Ho]; · iexists ∅; iexact Ho
    iexists (ρ c); iexact Hp
  isplitl [Hb] <;> iassumption

theorem bar_sep (Φ : GSem nD τ sig → sProp 𝕄) : bigSep barCells Φ = bigSep Finset.univ fun c : Dev nD => Φ (cell c .bar) := by
  unfold barCells; rw [bigSep_map]; rfl
theorem own_sep (Φ : GSem nD τ sig → sProp 𝕄) : bigSep ownCells Φ
    = bigSep Finset.univ fun c : Dev nD => bigSep Finset.univ fun k : Fin 9 => Φ (cell c (ok k)) := by
  unfold ownCells; rw [bigSep_map, bigSep_univ_prod]; rfl

theorem split_sep (Φ Ψ : Dev nD → sProp 𝕄) :
    (bigSep Finset.univ fun c => iprop(Φ c ∗ Ψ c)) = iprop(bigSep Finset.univ Φ ∗ bigSep Finset.univ Ψ) := bigSep_sep' _ _ _

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ Gl c)) ∗ levAts L lv)
      ⊢ (|={Set.univ}=> bigSep Finset.univ (T₀ m) : sProp 𝕄) := by
  iintro ⟨H, -⟩
  ihave H1 := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ Gl c))
      ⊢ (bigSep Finset.univ fun c : Dev nD => iprop(Bun m c ∗ (semVal (cell c .bar) 0 ∗ Gl c)) : sProp 𝕄) from
      bigSep_mono fun c _ => init_dev m ρ c) $$ H
  ihave H2 := (Entails.of_eq (split_sep (F := F) _ _)) $$ H1; icases H2 with ⟨HB, H3⟩
  ihave H4 := (Entails.of_eq (split_sep (F := F) _ _)) $$ H3; icases H4 with ⟨Hv, HG⟩
  ihave Hu := (Entails.of_eq (Gl_sep (F := F))) $$ HG
  imod (Rounds.fund_launch ER (ringRd (blocks m)) disjoint_cells (fun g _ h => h) tokSet) $$ [Hv Hu] with ⟨%κ, -, #HI, HR, Ha, Ho, Hd⟩
  · isplitl [Hv]
    · iapply (Entails.of_eq (bar_sep (F := F) (fun g => semVal g 0)).symm); iexact Hv
    · iexact Hu
  ihave HR' := (Entails.of_eq (bar_sep (F := F) fun g => reached ER g 0)) $$ HR
  icases HR' with #HR'
  ihave Ha' := (Entails.of_eq (bar_sep (F := F) fun g => atPos ER g 0 ∅ 0)) $$ Ha
  ihave Ho' := (Entails.of_eq (own_sep (F := F) fun g => openTok ER g)) $$ Ho
  ihave Hd' := (Entails.of_eq (toks_dealt (F := F))) $$ Hd
  imodintro
  iapply (bigSep_with_persistent (R := Rec m κ) (Φ := fun c => iprop(Lin c ∗ Bun m c)) fun c _ => T₀_intro m κ c)
  isplitr
  · unfold Rec Inv
    isplitr; · iexact HI
    iexact HR'
  iapply (Entails.of_eq (split_sep (F := F) _ _).symm)
  isplitr [HB]
  · unfold Lin
    iapply (Entails.of_eq (split_sep (F := F) _ _).symm); isplitl [Ha']; · iexact Ha'
    iapply (Entails.of_eq (split_sep (F := F) _ _).symm); isplitl [Ho']; · iexact Ho'
    iexact Hd'
  · iexact HB

/-! ## The end -/

theorem unscoped_eq : ∀ sm : SemLoc sig, sm.isScoped .tc = false → sm = .reg barrier0 := by decide

theorem V₃_arg0 (c : Dev nD) : V₃ m c main_arg0 = m ((c : Thread nD τ).loc main_arg0) := by
  unfold V₃ V₂
  rw [StableHlo.after_of_forall_not_mem (b := Proc.devRef .tc main_arg0) _ _ (List.forall_iff_forall_mem.mp (by
      simp only [hostOps1, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem V₃_arg1 (c : Dev nD) : V₃ m c main_arg1 = m ((c : Thread nD τ).loc main_arg1) := by
  unfold V₃ V₂
  rw [StableHlo.after_of_forall_not_mem (b := Proc.devRef .tc main_arg1) _ _ (List.forall_iff_forall_mem.mp (by
      simp only [hostOps1, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem V₃_arg2 (c : Dev nD) : V₃ m c main_arg2 = m ((c : Thread nD τ).loc main_arg2) := by
  unfold V₃ V₂
  rw [StableHlo.after_of_forall_not_mem (b := Proc.devRef .tc main_arg2) _ _ (List.forall_iff_forall_mem.mp (by
      simp only [hostOps1, List.Forall, StableHlo.unary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- One of the buffers a device holds, read in the machine's memory. -/
theorem held_read (c : Dev nD) (W : Valuation τ sig (Elt F)) (b : DevRef τ sig) (hb : b ∈ (bufs : Finset (DevRef τ sig))) (s : Phys nD τ sig (Elt F)) :
    iprop(StableHlo.held (c.tc : Thread nD τ) bufs W ∗ SI s) ⊢ (iprop(⌜s.mem.mem (c, b) = W b⌝ ∗ StableHlo.held (c.tc : Thread nD τ) bufs W ∗ SI s) : sProp 𝕄) := by
  rw [StableHlo.held_sub_split (c.tc : Thread nD τ) (Finset.singleton_subset_iff.mpr hb) W]
  unfold StableHlo.held
  rw [bigSep_singleton]
  iintro ⟨⟨Hx, HT⟩, HS⟩
  icombine HS Hx gives %hx
  isplitr
  · ipureintro; exact Buf.eq_of_forall_mem_univ hx
  isplitl [Hx HT]
  · isplitl [Hx] <;> iassumption
  iexact HS

/-- What is read of a device's memory at the end. -/
def Fin₃ (c : Dev nD) (s : MemSt nD τ sig (Elt F)) : Prop :=
  (s.mem ((c.tc : Thread nD τ).loc main_v9) = V₃ m c main_v9 ∧ s.mem ((c.tc : Thread nD τ).loc main_arg0) = V₃ m c main_arg0
    ∧ s.mem ((c.tc : Thread nD τ).loc main_arg1) = V₃ m c main_arg1 ∧ s.mem ((c.tc : Thread nD τ).loc main_arg2) = V₃ m c main_arg2)
  ∧ s.sem (cell c .bar) = 0

theorem fin_read (c : Dev nD) (s : Phys nD τ sig (Elt F)) :
    iprop(Tₙ m c ∗ SI s) ⊢ (|={Set.univ}=> iprop(⌜Fin₃ m c s.mem⌝ ∗ SI s) : sProp 𝕄) := by
  unfold Tₙ Yk
  iintro ⟨⟨Hh, Hb⟩, HS⟩
  icombine HS Hb gives %hb
  ihave H := (held_read c (V₃ m c) (Proc.devRef .tc main_v9) (by decide +kernel) s) $$ [Hh HS]
  · isplitl [Hh] <;> iassumption
  icases H with ⟨%h9, H⟩
  ihave H := (held_read c (V₃ m c) (Proc.devRef .tc main_arg0) (by decide +kernel) s) $$ H
  icases H with ⟨%h0, H⟩
  ihave H := (held_read c (V₃ m c) (Proc.devRef .tc main_arg1) (by decide +kernel) s) $$ H
  icases H with ⟨%h1, H⟩
  ihave H := (held_read c (V₃ m c) (Proc.devRef .tc main_arg2) (by decide +kernel) s) $$ H
  icases H with ⟨%h2, -, HS⟩
  imodintro
  isplitr
  · ipureintro; exact ⟨⟨h9, h0, h1, h2⟩, by simpa using hb⟩
  iexact HS

theorem chain_end (c : Dev nD) : (seg1 m).post c ⊢ (iprop(Tₙ m c ∗ ∃ W, owes (c.tc : Thread nD τ) (0 : CellTallies nD τ sig ℕ) W) : sProp 𝕄) := by
  show iprop(StableHlo.held (c.tc : Thread nD τ) bufs (V₃ m c) ∗ Ren c) ⊢ _
  unfold Ren Tₙ ow
  iintro ⟨Hh, -, Y, O⟩
  isplitl [Hh Y]
  · isplitl [Hh] <;> iassumption
  iexact O

set_option backward.isDefEq.respectTransparency.types false in
/-- From any memory with every counter at zero, every run of the program on all devices ends, each device's result holding what
    `V₃` says of it, the arguments as they were, and every counter of the machine at zero. -/
theorem run_main : θ_run defs (onTc (τ := τ) (main (F := F))) ⟨m, fun _ => 0, ρ⟩
    (fun r => (∀ c : Dev nD, r.2.mem ((c.tc : Thread nD τ).loc main_v9) = V₃ m c main_v9
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := Gl) (u₀ := u₀)
    (hu₀ := by
      unfold u₀
      iintro Hu
      ihave H := (ownU_pair _ _) $$ Hu
      icases H with ⟨HP, HX⟩
      imodintro
      isplitl [HP]; · iexact HP
      rw [Gl_sep]; iexact HX)
    (T₀ := T₀ m) (Tₙ := Tₙ m)
    (hch := ⟨fun c => .rfl, fun c => reg_pre m c, fun c => reg_post m c, fun c => chain_end m c⟩)
    (hinit := init m ρ) (QY := Fin₃ m) (hfin := fin_read m)
    (hQ := fun s h hs => ⟨fun c => by
        obtain ⟨⟨h9, h0, h1, h2⟩, -⟩ := h c
        exact ⟨h9, h0.trans (V₃_arg0 m c), h1.trans (V₃_arg1 m c), h2.trans (V₃_arg2 m c)⟩,
      sem_eq_zero hs fun c sm hsm => by
        obtain rfl := unscoped_eq sm hsm
        exact (h c).2⟩)

end Cert.KernelIdeal.Ring

end
-- ==== Proof.KernelIdeal.Value.lean ====
/- What one head of the kernel computes, read at a row over the exact numbers. -/
module

public import proofs.«01_k».proof.Proof.KernelIdeal.Flash
public import Idealize.ShloMosaic.Lib.Pointwise

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow

abbrev Blk : Type := S64x256x64.Idx → EReal

/-- The scaled product of query row `r` with key row `j`, in head `i`. -/
def score (q k : Blk) (i : Fin 64) (r j : Fin 256) : EReal :=
  (∑ e : Fin 64, q (ix3 i r e) * k (ix3 i j e)) * Ideal.ofBits .f32 0x3E000000#32

/-- A score, from the head of the queries and the head of the keys. -/
theorem pay4_apply (x : FVec Ideal S1x256x64 .f32) (y : FVec Ideal S1x1x256x64 .f32) (r j : Fin 256) :
    k0_pay4 (F := Ideal) x y (ix2 r j) = (∑ e : Fin 64, x (ix3 0 r e) * y (ix4 0 0 j e)) * Ideal.ofBits .f32 0x3E000000#32 := by
  pointwise [k0_pay4]

/-- An element of a head of the queries or the output. -/
theorem row3_apply (q : Blk) (i : Fin 64) (r : Fin 256) (e : Fin 64) : row3 q i (ix3 0 r e) = q (ix3 i r e) := by
  refine congrArg q (funext fun a => Fin.ext ?_)
  revert a
  rintro (a : Fin 3)
  fin_cases a
  · show i.val + 1 * 0 = i.val
    omega
  · show 0 + 1 * r.val = r.val
    omega
  · show 0 + 1 * e.val = e.val
    omega

/-- An element of a row of the maxima or the sums. -/
theorem row2_apply (x : S64x256.Idx → EReal) (i : Fin 64) (r : Fin 256) : row2 x i (ix2 0 r) = x (ix2 i r) := by
  refine congrArg x (funext fun a => Fin.ext ?_)
  revert a
  rintro (a : Fin 2)
  fin_cases a
  · show i.val + 1 * 0 = i.val
    omega
  · show 0 + 1 * r.val = r.val
    omega

/-- An element of a head of a block of the ring. -/
theorem head4_apply (q : Blk) (i : Fin 64) (r : Fin 256) (e : Fin 64) : head4 q i (ix4 0 0 r e) = q (ix3 i r e) := rfl

/-- The constant the maximum starts from is below every number. -/
theorem bot_bits : Ideal.ofBits .f32 0xFF800000#32 = ⊥ := by simp [Ideal.ofBits, Ideal.ieee]

section Reads
variable (x : FVec Ideal S1x256x64 .f32) (y z : FVec Ideal S1x1x256x64 .f32) (m l : FVec Ideal S1x256 .f32) (a : FVec Ideal S1x256x64 .f32)
variable (r j : Fin 256) (e : Fin 64)

/-- The new maximum: the old one against the block's scores. -/
theorem pay6_apply : k0_pay6 (F := Ideal) x y m (ix1 r) = max (m (ix2 0 r)) (Finset.univ.fold max ⊥ fun j : Fin 256 => k0_pay4 (F := Ideal) x y (ix2 r j)) := by
  rw [← bot_bits]
  pointwise [k0_pay6, k0_pay5]

/-- The weight of a key under the new maximum. -/
theorem pay7_apply : k0_pay7 (F := Ideal) x y m (ix2 r j) = Ideal.exp (k0_pay4 (F := Ideal) x y (ix2 r j) - k0_pay6 (F := Ideal) x y m (ix1 r)) := by
  pointwise [k0_pay7]

/-- The factor by which what is held is rescaled. -/
theorem pay8_apply : k0_pay8 (F := Ideal) x y m (ix1 r) = Ideal.exp (m (ix2 0 r) - k0_pay6 (F := Ideal) x y m (ix1 r)) := by
  pointwise [k0_pay8, k0_pay5]

/-- The new sum. -/
theorem pay9_apply : k0_pay9 (F := Ideal) x y m l (ix2 0 r)
    = l (ix2 0 r) * k0_pay8 (F := Ideal) x y m (ix1 r) + ∑ j : Fin 256, k0_pay7 (F := Ideal) x y m (ix2 r j) := by
  pointwise [k0_pay9]

/-- The block's share of the output: its values under their weights. -/
theorem pay10_apply : k0_pay10 (F := Ideal) x y z m (ix2 r e) = ∑ j : Fin 256, k0_pay7 (F := Ideal) x y m (ix2 r j) * z (ix4 0 0 j e) := by
  pointwise [k0_pay10]

/-- The output held, rescaled. -/
theorem pay11_apply : k0_pay11 (F := Ideal) x y m a (ix2 r e) = a (ix3 0 r e) * k0_pay8 (F := Ideal) x y m (ix1 r) := by
  pointwise [k0_pay11]

/-- The two added. -/
theorem pay1_apply (u w : FVec Ideal S256x64 .f32) : k0_pay1 (F := Ideal) u w (ix3 0 r e) = w (ix2 r e) + u (ix2 r e) := by
  pointwise [k0_pay1]

/-- The maximum as it is stored. -/
theorem pay2_apply (u : FVec Ideal S256 .f32) : k0_pay2 (F := Ideal) u (ix2 0 r) = u (ix1 r) := by
  pointwise [k0_pay2]

/-- The final quotient. -/
theorem pay3_apply : k0_pay3 (F := Ideal) a l (ix3 0 r e) = Ideal.div (a (ix3 0 r e)) (l (ix2 0 r)) := by
  pointwise [k0_pay3]

end Reads

section State
variable (q k v : Blk) (s : Acc Ideal) (i : Fin 64) (r : Fin 256) (e : Fin 64)

/-- The state before any block: the least maximum, and nothing summed. -/
theorem init_mx : (Acc.init (F := Ideal)).mx (ix2 i r) = Ideal.ofBits .f32 0xF149F2CA#32 := by
  show k0_pay260 (F := Ideal) (ix2 i r) = _
  pointwise [k0_pay260]
theorem init_l : (Acc.init (F := Ideal)).l (ix2 i r) = 0 := by
  show k0_pay261 (F := Ideal) (ix2 i r) = _
  pointwise [k0_pay261]
theorem init_a : (Acc.init (F := Ideal)).a (ix3 i r e) = 0 := by
  show k0_pay262 (F := Ideal) (ix3 i r e) = _
  pointwise [k0_pay262]

/-- The score in terms of the whole blocks. -/
theorem pay4_score (j : Fin 256) : k0_pay4 (F := Ideal) (row3 q i) (head4 k i) (ix2 r j) = score q k i r j := by
  rw [pay4_apply]
  simp only [row3_apply, head4_apply]
  rfl

/-- The maximum after one more block. -/
def topOf : EReal := max (s.mx (ix2 i r)) (Finset.univ.fold max ⊥ fun j : Fin 256 => score q k i r j)

/-- The new maximum in terms of the whole blocks. -/
theorem pay6_top : k0_pay6 (F := Ideal) (row3 q i) (head4 k i) (row2 s.mx i) (ix1 r) = topOf q k s i r := by
  rw [pay6_apply, row2_apply]
  exact congrArg (fun f => max (s.mx (ix2 i r)) (Finset.univ.fold max ⊥ f)) (funext fun j => pay4_score q k i r j)

/-- One block more, read at a row: the maximum, -/
theorem step_mx : (s.step q k v).mx (ix2 i r) = topOf q k s i r := by
  show newMx q k s i (ix2 0 r) = _
  unfold newMx
  rw [pay2_apply, pay6_top]

/-- the sum, -/
theorem step_l : (s.step q k v).l (ix2 i r)
    = s.l (ix2 i r) * Ideal.exp (s.mx (ix2 i r) - topOf q k s i r) + ∑ j : Fin 256, Ideal.exp (score q k i r j - topOf q k s i r) := by
  show newL q k s i (ix2 0 r) = _
  unfold newL
  rw [pay9_apply, row2_apply, pay8_apply, row2_apply, pay6_top]
  exact congrArg _ (Finset.sum_congr rfl fun j _ => by rw [pay7_apply, pay4_score, pay6_top])

/-- and the output. -/
theorem step_a : (s.step q k v).a (ix3 i r e)
    = s.a (ix3 i r e) * Ideal.exp (s.mx (ix2 i r) - topOf q k s i r)
      + ∑ j : Fin 256, Ideal.exp (score q k i r j - topOf q k s i r) * v (ix3 i j e) := by
  show newA q k v s i (ix3 0 r e) = _
  unfold newA
  rw [pay1_apply, pay11_apply, pay10_apply, row3_apply, pay8_apply, row2_apply, pay6_top]
  exact congrArg _ (Finset.sum_congr rfl fun j _ => by rw [pay7_apply, pay4_score, pay6_top, head4_apply])

/-- What is written out. -/
theorem out_apply : s.out (ix3 i r e) = Ideal.div (s.a (ix3 i r e)) (s.l (ix2 i r)) := by
  show quot s i (ix3 0 r e) = _
  unfold quot
  rw [pay3_apply, row3_apply, row2_apply]

end State

end Cert.KernelIdeal.Ring

end
-- ==== Proof.KernelIdeal.Weights.lean ====
/- Softmax weights over the exact numbers: real scores, values that may be infinite. The running form, which rescales what
   it has whenever its maximum moves, and the plain form give the same weighted sum, whatever shift either uses. -/
module

public import Idealize.ShloMosaic.Lib.Pointwise

@[expose] public section

noncomputable section

namespace Cert.KernelIdeal.Ring

open Idealize.ShloMosaic
open Finset

section Plain
variable {ι κ : Type}

/-- The largest of finitely many reals, from below: the least value where there is none, a real otherwise. -/
theorem fold_max_real (S : Finset ι) (σ : ι → ℝ) :
    S.fold max (⊥ : EReal) (fun x => (σ x : EReal)) = ⊥ ∨ ∃ r : ℝ, S.fold max (⊥ : EReal) (fun x => (σ x : EReal)) = r := by
  classical
  induction S using Finset.induction_on with
  | empty => exact .inl rfl
  | insert x S hx ih =>
    right
    rw [fold_insert hx]
    rcases ih with e | ⟨r, e⟩
    · exact ⟨σ x, by rw [e]; exact max_bot_right _⟩
    · exact ⟨max (σ x) r, by rw [e]; exact (EReal.coe_strictMono.monotone.map_max (a := _) (b := _)).symm⟩

/-- With a real in front it is a real. -/
theorem max_fold_real (S : Finset ι) (σ : ι → ℝ) (μ : ℝ) :
    ∃ r : ℝ, max (μ : EReal) (S.fold max (⊥ : EReal) fun x => (σ x : EReal)) = r := by
  rcases fold_max_real S σ with e | ⟨r, e⟩
  · exact ⟨μ, by rw [e]; exact max_bot_right _⟩
  · exact ⟨max μ r, by rw [e]; exact (EReal.coe_strictMono.monotone.map_max (a := _) (b := _)).symm⟩

/-- Of a nonempty family it is a real. -/
theorem fold_real [Fintype ι] [Nonempty ι] (σ : ι → ℝ) :
    ∃ r : ℝ, univ.fold max (⊥ : EReal) (fun x => (σ x : EReal)) = r := by
  rcases fold_max_real univ σ with e | h
  · obtain ⟨x⟩ := ‹Nonempty ι›
    have : (σ x : EReal) ≤ univ.fold max (⊥ : EReal) (fun x => (σ x : EReal)) :=
      (le_fold_max _).2 (.inr ⟨x, mem_univ x, le_rfl⟩)
    rw [e] at this
    exact absurd (le_bot_iff.1 this) (EReal.coe_ne_bot _)
  · exact h

/-- A sum of reals, taken among the exact numbers. -/
theorem coe_sum (S : Finset ι) (f : ι → ℝ) : ∑ x ∈ S, (f x : EReal) = ((∑ x ∈ S, f x : ℝ) : EReal) := by
  classical
  induction S using Finset.induction_on with
  | empty => simp
  | insert x S hx ih => rw [sum_insert hx, sum_insert hx, ih, EReal.coe_add]

/-- A sum of real products is a real. -/
theorem sum_mul_real (S : Finset ι) (f g : ι → EReal) (hf : ∀ x, ∃ r : ℝ, f x = r) (hg : ∀ x, ∃ r : ℝ, g x = r) :
    ∃ r : ℝ, ∑ x ∈ S, f x * g x = r := by
  choose f' hf using hf
  choose g' hg using hg
  refine ⟨∑ x ∈ S, f' x * g' x, ?_⟩
  rw [← coe_sum]
  exact sum_congr rfl fun x _ => by rw [hf, hg, EReal.coe_mul]

/-- A weighted sum times a nonnegative real: the weights take the factor. -/
theorem weighted_mul (S : Finset ι) (p : ι → ℝ) (w : ι → EReal) (c : ℝ) (hc : 0 ≤ c) :
    (∑ x ∈ S, (p x : EReal) * w x) * (c : EReal) = ∑ x ∈ S, ((p x * c : ℝ) : EReal) * w x := by
  classical
  induction S using Finset.induction_on with
  | empty => simp
  | insert x S hx ih =>
    rw [sum_insert hx, sum_insert hx, EReal.right_distrib_of_nonneg_of_ne_top (EReal.coe_nonneg.2 hc) (EReal.coe_ne_top c), ih,
      EReal.coe_mul, mul_right_comm]

/-- The sum of the values weighted by their shares of the exponentials. -/
def soft [Fintype ι] (σ : ι → ℝ) (w : ι → EReal) : EReal :=
  ∑ x, ((Real.exp (σ x) / ∑ y, Real.exp (σ y) : ℝ) : EReal) * w x

/-- A share is the same under any shift of the scores. -/
theorem share_shift [Fintype ι] (σ : ι → ℝ) (μ : ℝ) (x : ι) :
    Real.exp (σ x - μ) / ∑ y, Real.exp (σ y - μ) = Real.exp (σ x) / ∑ y, Real.exp (σ y) := by
  have e : ∀ y, Real.exp (σ y - μ) = Real.exp (σ y) * Real.exp (-μ) := fun y => by rw [← Real.exp_add, sub_eq_add_neg]
  simp only [e]
  rw [← sum_mul, mul_div_mul_right _ _ (Real.exp_ne_zero _)]

/-- A sum of exponentials is positive. -/
theorem sum_exp_pos [Fintype ι] [Nonempty ι] (σ : ι → ℝ) : 0 < ∑ y, Real.exp (σ y) :=
  sum_pos (fun _ _ => Real.exp_pos _) univ_nonempty

/-- The weighted sum divided once at the end. -/
theorem soft_late [Fintype ι] [Nonempty ι] (σ : ι → ℝ) (w : ι → EReal) (μ : ℝ) :
    Ideal.div (∑ x, ((Real.exp (σ x - μ) : ℝ) : EReal) * w x) ((∑ x, Real.exp (σ x - μ) : ℝ) : EReal) = soft σ w := by
  have hp := sum_exp_pos fun x => σ x - μ
  rw [Ideal.div_coe hp.ne', weighted_mul _ _ _ _ (by positivity)]
  exact sum_congr rfl fun x _ => by rw [mul_one_div, share_shift]

/-- Each weight divided first. -/
theorem soft_early [Fintype ι] [Nonempty ι] (σ : ι → ℝ) (w : ι → EReal) (μ : ℝ) :
    ∑ x, w x * Ideal.div ((Real.exp (σ x - μ) : ℝ) : EReal) ((∑ x, Real.exp (σ x - μ) : ℝ) : EReal) = soft σ w := by
  have hp := sum_exp_pos fun x => σ x - μ
  refine sum_congr rfl fun x _ => ?_
  rw [Ideal.div_coe hp.ne', ← EReal.coe_mul, mul_one_div, share_shift, mul_comm]

/-- The order of the keys does not matter. -/
theorem soft_bij [Fintype ι] [Fintype κ] (f : ι → κ) (hf : Function.Bijective f) (σ : κ → ℝ) (w : κ → EReal) :
    soft (fun x => σ (f x)) (fun x => w (f x)) = soft σ w := by
  unfold soft
  rw [Fintype.sum_bijective f hf (fun y => Real.exp (σ (f y))) (fun y => Real.exp (σ y)) fun _ => rfl]
  exact Fintype.sum_bijective f hf _ _ fun _ => rfl

end Plain

section Running
variable {ι : Type} [Fintype ι]

/-- What a row's running maximum, sum and output are after `h` blocks of scores `σ` and values `w`: some real shift, the
    sum of the exponentials, and the values weighted by them. -/
def Held (σ : ℕ → ι → ℝ) (w : ℕ → ι → EReal) (h : ℕ) (mx l a : EReal) : Prop :=
  ∃ μ : ℝ, mx = μ ∧ l = ((∑ n ∈ range h, ∑ j, Real.exp (σ n j - μ) : ℝ) : EReal)
    ∧ a = ∑ n ∈ range h, ∑ j, ((Real.exp (σ n j - μ) : ℝ) : EReal) * w n j

variable (σ : ℕ → ι → ℝ) (w : ℕ → ι → EReal)

/-- Before any block. -/
theorem Held.zero (μ : ℝ) : Held σ w 0 μ 0 0 := ⟨μ, rfl, by simp, by simp⟩

/-- Moving an exponential from one shift to another. -/
theorem exp_shift (x μ μ' : ℝ) : Real.exp (x - μ) * Real.exp (μ - μ') = Real.exp (x - μ') := by
  rw [← Real.exp_add]; congr 1; ring

/-- One more block: what is held is rescaled to the new maximum, and the block added. -/
theorem Held.succ {h : ℕ} {mx l a : EReal} (H : Held σ w h mx l a) (t : EReal) (g : ι → EReal) (hg : ∀ j, g j = (σ h j : EReal))
    (ht : t = max mx (univ.fold max ⊥ g)) :
    Held σ w (h + 1) t (l * Ideal.exp (mx - t) + ∑ j, Ideal.exp (g j - t)) (a * Ideal.exp (mx - t) + ∑ j, Ideal.exp (g j - t) * w h j) := by
  obtain ⟨μ, rfl, rfl, rfl⟩ := H
  obtain ⟨μ', e⟩ := max_fold_real univ (σ h) μ
  have eg : g = fun j => (σ h j : EReal) := funext hg
  rw [eg, e] at ht
  subst ht
  have e1 : Ideal.exp ((μ : EReal) - (μ' : EReal)) = ((Real.exp (μ - μ') : ℝ) : EReal) := by
    rw [← EReal.coe_sub, Ideal.exp_coe]
  have e2 : ∀ j, Ideal.exp (g j - (μ' : EReal)) = ((Real.exp (σ h j - μ') : ℝ) : EReal) := fun j => by
    rw [hg, ← EReal.coe_sub, Ideal.exp_coe]
  simp only [e1, e2]
  refine ⟨μ', rfl, ?_, ?_⟩
  · rw [coe_sum, ← EReal.coe_mul, ← EReal.coe_add, sum_range_succ, sum_mul]
    refine congrArg (fun x : ℝ => ((x + _ : ℝ) : EReal)) (sum_congr rfl fun n _ => ?_)
    rw [sum_mul]
    exact sum_congr rfl fun j _ => exp_shift _ _ _
  · rw [sum_range_succ]
    refine congrArg (· + _) ?_
    rw [← sum_product' (range h) univ fun n j => ((Real.exp (σ n j - μ) : ℝ) : EReal) * w n j,
      ← sum_product' (range h) univ fun n j => ((Real.exp (σ n j - μ') : ℝ) : EReal) * w n j,
      weighted_mul _ (fun x : ℕ × ι => Real.exp (σ x.1 x.2 - μ)) (fun x => w x.1 x.2) _ (Real.exp_nonneg _)]
    exact sum_congr rfl fun x _ => by rw [exp_shift]

/-- The quotient at the end is the softmax over all blocks. -/
theorem Held.quot [Nonempty ι] {N : ℕ} [NeZero N] {mx l a : EReal} (H : Held σ w N mx l a) :
    Ideal.div a l = soft (fun x : Fin N × ι => σ x.1.val x.2) (fun x => w x.1.val x.2) := by
  obtain ⟨μ, -, rfl, rfl⟩ := H
  rw [sum_range, sum_range, ← soft_late _ _ μ, Fintype.sum_prod_type, Fintype.sum_prod_type]

end Running

end Cert.KernelIdeal.Ring

end
-- ==== Proof.KernelIdeal.Ref.lean ====
/- The reference read at an element: the softmax of the scaled products, weighting the values. -/
module

public import proofs.«01_k».proof.Proof.Gen.ReferenceIdeal.Run
public import proofs.«01_k».proof.Proof.KernelIdeal.Weights

@[expose] public section

noncomputable section

namespace Cert.ReferenceIdeal.Ring

open Cert.ReferenceIdeal Cert.ReferenceIdeal.Gen Idealize.ShloMosaic Idealize.ShloMosaic.TcCoe

abbrev Arr : Type := FVec Ideal S4x8192x16x64 .f32

variable (q k v : Arr)

/-- The scaled product of query `t` with key `u`, in batch `b` and head `h`. -/
def scoreR (b : Fin 4) (h : Fin 16) (t u : Fin 8192) : EReal :=
  (∑ e : Fin 64, q (ix4 b t h e) * k (ix4 b u h e)) * Ideal.ofBits .f32 0x3E000000#32

/-- The scores, their exponentials under the row's largest, and the result, as the program composes them. -/
def scores : FVec Ideal S4x16x8192x8192 .f32 :=
  mulf (Host.dotGeneral dot_S4x8192x16x64_S4x8192x16x64_S4x16x8192x8192_3_3_1_1_02_02 (φ₁ := .f32) (φ₂ := .f32) none q k) (broadcastInDim S4x16x8192x8192 ![] bcast_S_S4x16x8192x8192 (constant S_ .f32 0x3E000000#32))
def exps : FVec Ideal S4x16x8192x8192 .f32 :=
  Host.exp (subf (scores q k) (broadcastInDim S4x16x8192x8192 ![0, 1, 2, 3] bcast_S4x16x8192x1_S4x16x8192x8192_0_1_2_3 (broadcastInDim S4x16x8192x1 ![0, 1, 2] bcast_S4x16x8192_S4x16x8192x1_0_1_2 (Host.reduce FloatOps.maximumf (scores q k) (constant S_ .f32 0xFF800000#32) reducesTo_S4x16x8192x8192_S4x16x8192_d3 h_S_))))
def outR : FVec Ideal S4x8192x16x64 .f32 :=
  transpose S4x8192x16x64 [0, 3, 1, 2] (Host.dotGeneral dot_S4x8192x16x64_S4x16x8192x8192_S4x16x64x8192_1_3_3_2_02_01 (φ₁ := .f32) (φ₂ := .f32) none v (Host.divf (exps q k) (broadcastInDim S4x16x8192x8192 ![0, 1, 2, 3] bcast_S4x16x8192x1_S4x16x8192x8192_0_1_2_3 (broadcastInDim S4x16x8192x1 ![0, 1, 2] bcast_S4x16x8192_S4x16x8192x1_0_1_2 (Host.reduceAdd (exps q k) (constant S_ .f32 0x00000000#32) reducesTo_S4x16x8192x8192_S4x16x8192_d3 h_S_))))) transposes_S4x16x64x8192_S4x8192x16x64_0_3_1_2

/-- The program's scores. -/
theorem scores_apply (b : Fin 4) (h : Fin 16) (t u : Fin 8192) : scores q k (ix4 b h t u) = scoreR q k b h t u := by
  unfold scoreR
  pointwise [scores]

/-- The program's exponentials. -/
theorem exps_apply (b : Fin 4) (h : Fin 16) (t u : Fin 8192) :
    exps q k (ix4 b h t u) = Ideal.exp (scores q k (ix4 b h t u)
      - Finset.univ.fold max (Ideal.ofBits .f32 0xFF800000#32) fun u : Fin 8192 => scores q k (ix4 b h t u)) := by
  pointwise [exps]

/-- The program's result. -/
theorem outR_apply (b : Fin 4) (h : Fin 16) (t : Fin 8192) (e : Fin 64) :
    outR q k v (ix4 b t h e) = ∑ u : Fin 8192, v (ix4 b u h e) * Ideal.div (exps q k (ix4 b h t u)) (∑ w : Fin 8192, exps q k (ix4 b h t w)) := by
  pointwise [outR]

/-- Where the scores of a row are real, the result is the softmax over all keys. -/
theorem outR_soft (b : Fin 4) (h : Fin 16) (t : Fin 8192) (e : Fin 64) (σ : Fin 8192 → ℝ) (hσ : ∀ u, scoreR q k b h t u = σ u) :
    outR q k v (ix4 b t h e) = Cert.KernelIdeal.Ring.soft σ fun u => v (ix4 b u h e) := by
  obtain ⟨μ, hμ⟩ := Cert.KernelIdeal.Ring.fold_real σ
  have e0 : Ideal.ofBits .f32 0xFF800000#32 = ⊥ := by simp [Ideal.ofBits, Ideal.ieee]
  have e1 : ∀ u, exps q k (ix4 b h t u) = ((Real.exp (σ u - μ) : ℝ) : EReal) := fun u => by
    rw [exps_apply, e0]
    simp only [scores_apply, hσ]
    rw [hμ, ← EReal.coe_sub, Ideal.exp_coe]
  rw [outR_apply]
  simp only [e1]
  rw [Cert.KernelIdeal.Ring.coe_sum]
  exact Cert.KernelIdeal.Ring.soft_early σ _ μ

variable (m : (ℓ : Loc nD τ sig) → Buf (Elt Ideal) ℓ) (ρ : Dev nD → PrngReg)

/-- The reference runs to this result, its arguments unchanged. -/
theorem run_ref : θ_run defs (onTc (τ := τ) (main (F := Ideal))) ⟨m, fun _ => 0, ρ⟩ fun r => ∀ c : Dev nD,
      r.2.mem ((c.tc : Thread nD τ).loc main_v13)
        = outR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.ReferenceIdeal.Ring

end
-- ==== Proof.KernelIdeal.Answer.lean ====
/- The whole result of a device: the softmax of its queries with the keys of every device, in the order they come round
   the ring, and that this is the device's part of what the reference computes. -/
module

public import proofs.«01_k».proof.Proof.KernelIdeal.Run
public import proofs.«01_k».proof.Proof.KernelIdeal.Value
public import proofs.«01_k».proof.Proof.KernelIdeal.Ref

@[expose] public section

noncomputable section

namespace Cert.KernelIdeal.Ring

open Idealize.ShloMosaic Idealize.ShloMosaic.TcCoe
open Cert.KernelIdeal Cert.KernelIdeal.Gen

/-- The array with its batch and head axes put first and merged. -/
def merged (x : S4x256x16x64.Idx → EReal) : S64x256x64.Idx → EReal :=
  shapeCast S64x256x64 (transpose S4x16x256x64 [0, 2, 1, 3] x transposes_S4x256x16x64_S4x16x256x64_0_2_1_3) shapeCasts_S4x16x256x64_S64x256x64

/-- Where an element of it comes from. -/
theorem merged_apply (x : S4x256x16x64.Idx → EReal) (b : Fin 4) (h : Fin 16) (r : Fin 256) (e : Fin 64) (i : Fin 64) (hi : i.val = b.val * 16 + h.val) :
  merged x (ix3 i r e) = x (ix4 b r h e) := by
  pointwise [merged]
  congr 1
  congr 1 <;> exact Fin.ext (by simp; omega)

/-- The way back. -/
theorem split_apply (x : S64x256x64.Idx → EReal) (b : Fin 4) (h : Fin 16) (r : Fin 256) (e : Fin 64) (i : Fin 64) (hi : i.val = b.val * 16 + h.val) :
  transpose S4x256x16x64 [0, 2, 1, 3] (shapeCast S4x16x256x64 x shapeCasts_S64x256x64_S4x16x256x64) transposes_S4x16x256x64_S4x256x16x64_0_2_1_3 (ix4 b r h e) = x (ix3 i r e) := by
  pointwise
  exact congrArg (fun a => x (ix3 a r e)) (Fin.ext hi.symm)

variable (m : (ℓ : Loc nD τ sig) → Buf (Elt Ideal) ℓ) (c : Dev nD)

/-- What the region finds, and what the device ends with. -/
theorem v2 : V m c main_v2 = merged (m ((c.tc : Thread nD τ).loc main_arg0)) := by
  unfold V V0
  simp only [List.flatten_cons, List.flatten_nil, List.append_nil]
  after_results
  rfl

theorem v4 : V m c main_v4 = merged (m ((c.tc : Thread nD τ).loc main_arg1)) := by
  unfold V V0
  simp only [List.flatten_cons, List.flatten_nil, List.append_nil]
  after_results
  rfl

theorem v6 : V m c main_v6 = merged (m ((c.tc : Thread nD τ).loc main_arg2)) := by
  unfold V V0
  simp only [List.flatten_cons, List.flatten_nil, List.append_nil]
  after_results
  rfl

/-- The result is what the region wrote, its head axis split again. -/
theorem v9 : V₃ m c main_v9 = transpose S4x256x16x64 [0, 2, 1, 3] (shapeCast S4x16x256x64 (V₂ m c main_v7) shapeCasts_S64x256x64_S4x16x256x64) transposes_S4x16x256x64_S4x256x16x64_0_2_1_3 := by
  unfold V₃
  after_results
  rfl

/-- What the region wrote, written back whole. -/
theorem arr3 : (dat m c).arrAt 3 cfg0.N = outOf m c :=
  (dat m c).arrAt_eq_of_after_last (3 : Fin cfg0.W) t0_0 (by decide +kernel : (cfg0.win 3).WholeAt t0_0) _ (fun j => by
    show (_root_.cast _ ((dat m c).after (3 : Fin cfg0.W) t0_0 _)) = _
    rfl)

/-- So the array the region writes to holds it. -/
theorem v7 : V₂ m c main_v7 = outOf m c := by
  rw [← arr3]
  exact Pipeline.withArrays_arr spec0 launch0.win.arr_inj c _ _ 3

/-! ## A row over all the blocks -/

section Row
variable (B : Blocks Ideal) (q : Blk) (i : Fin 64) (r : Fin 256) (e : Fin 64)
variable (σ : ℕ → Fin 256 → ℝ)

/-- The starting maximum is a real. -/
theorem init_real : ∃ μ : ℝ, Ideal.ofBits .f32 0xF149F2CA#32 = (μ : EReal) := by
  simp [Ideal.ofBits, Ideal.ieee]
  exact ⟨_, rfl⟩

/-- One block more. -/
theorem stAt_succ (h : ℕ) : stAt B c q (h + 1) = (stAt B c q h).step q (B false (back h c)) (B true (back h c)) := rfl

/-- What the row holds after `h` blocks, the scores being real. -/
theorem held (hσ : ∀ n j, score q (B false (back n c)) i r j = (σ n j : EReal)) (h : ℕ) :
    Held σ (fun n j => B true (back n c) (ix3 i j e)) h ((stAt B c q h).mx (ix2 i r)) ((stAt B c q h).l (ix2 i r)) ((stAt B c q h).a (ix3 i r e)) := by
  induction h with
  | zero =>
    obtain ⟨μ, hμ⟩ := init_real
    show Held σ _ 0 ((Acc.init (F := Ideal)).mx (ix2 i r)) ((Acc.init (F := Ideal)).l (ix2 i r)) ((Acc.init (F := Ideal)).a (ix3 i r e))
    rw [init_mx, init_l, init_a, hμ]
    exact Held.zero σ _ μ
  | succ h ih =>
    rw [stAt_succ]
    generalize stAt B c q h = s at ih ⊢
    rw [step_mx, step_l, step_a]
    exact Held.succ σ _ ih (topOf q (B false (back h c)) s i r) (fun j => score q (B false (back h c)) i r j) (hσ h) rfl

/-- The last state is the one after all 32 blocks. -/
theorem last_eq : last B c q = stAt B c q 32 := (stAt_succ c B q 31).symm

/-- The row's output. -/
theorem out_soft (hσ : ∀ n j, score q (B false (back n c)) i r j = (σ n j : EReal)) :
    (last B c q).out (ix3 i r e) = soft (fun x : Fin 32 × Fin 256 => σ x.1.val x.2) (fun x => B true (back x.1.val c) (ix3 i x.2 e)) := by
  rw [out_apply, last_eq]
  exact (held c B q i r e σ hσ 32).quot

end Row

/-! ## The devices' parts -/

abbrev Whole : Type := Cert.ReferenceIdeal.S4x8192x16x64.Idx → EReal
/-- Device `d`'s part of an array. -/
abbrev part (d : Dev nD) (x : Whole) : S4x256x16x64.Idx → EReal := Layout.block ⟨4, ![4, 256, 16, 64]⟩ ⟨4, ![4, 8192, 16, 64]⟩ 1 32 d x

/-- Row `r` of device `d`'s part, in the whole array. -/
def rowOf (d : Dev nD) (r : Fin 256) : Fin 8192 := ⟨d.val * 256 + r.val, by have : d.val < 32 := d.isLt; omega⟩

/-- An element of a device's part. -/
theorem part_apply (d : Dev nD) (x : Whole) (b : Fin 4) (r : Fin 256) (h : Fin 16) (e : Fin 64) :
    part d x (ix4 b r h e) = x (ix4 b (rowOf d r) h e) := by
  refine congrArg x (funext fun a => Fin.ext ?_)
  revert a
  rintro (a : Fin 4)
  fin_cases a <;> rfl

/-- The keys in the order the device meets them are all the keys, each once. -/
theorem met_bij : Function.Bijective fun x : Fin 32 × Fin 256 => rowOf (back x.1.val c) x.2 := by
  rw [Fintype.bijective_iff_injective_and_card]
  refine ⟨?_, by simp⟩
  rintro ⟨n, j⟩ ⟨n', j'⟩ h
  have h' : (back n.val c).val * 256 + j.val = (back n'.val c).val * 256 + j'.val := congrArg Fin.val h
  rw [back_val, back_val] at h'
  have h1 := n.isLt
  have h2 := n'.isLt
  have h3 := j.isLt
  have h4 := j'.isLt
  exact Prod.ext (Fin.ext (by show n.val = n'.val; omega)) (Fin.ext (by show j.val = j'.val; omega))

/-- The scale is a real. -/
theorem eighth_real : ∃ μ : ℝ, Ideal.ofBits .f32 0x3E000000#32 = (μ : EReal) := by
  simp [Ideal.ofBits, Ideal.ieee]
  exact ⟨_, rfl⟩

variable (Q K W : Whole)

/-- Of real queries and keys every score is real. -/
theorem scoreR_real (hQ : ∀ j, ∃ r : ℝ, Q j = r) (hK : ∀ j, ∃ r : ℝ, K j = r) (b : Fin 4) (h : Fin 16) (t u : Fin 8192) :
    ∃ r : ℝ, Cert.ReferenceIdeal.Ring.scoreR Q K b h t u = r := by
  obtain ⟨x, hx⟩ := sum_mul_real Finset.univ (fun e : Fin 64 => Q (ix4 b t h e)) (fun e => K (ix4 b u h e)) (fun _ => hQ _) fun _ => hK _
  obtain ⟨y, hy⟩ := eighth_real
  exact ⟨x * y, by unfold Cert.ReferenceIdeal.Ring.scoreR; rw [hx, hy, EReal.coe_mul]⟩

/-- The result of the device, at an element, is the reference's. -/
theorem out_ref (hQ : ∀ j, ∃ r : ℝ, Q j = r) (hK : ∀ j, ∃ r : ℝ, K j = r)
    (h0 : ∀ d : Dev nD, m ((d.tc : Thread nD τ).loc main_arg0) = part d Q) (h1 : ∀ d : Dev nD, m ((d.tc : Thread nD τ).loc main_arg1) = part d K)
    (h2 : ∀ d : Dev nD, m ((d.tc : Thread nD τ).loc main_arg2) = part d W) (b : Fin 4) (r : Fin 256) (h : Fin 16) (e : Fin 64) :
    V₃ m c main_v9 (ix4 b r h e) = Cert.ReferenceIdeal.Ring.outR Q K W (ix4 b (rowOf c r) h e) := by
  have hi : b.val * 16 + h.val < 64 := by have := b.isLt; have := h.isLt; omega
  choose s hs using fun u => scoreR_real Q K hQ hK b h (rowOf c r) u
  have hq : ∀ r e, qOf m c (ix3 ⟨b.val * 16 + h.val, hi⟩ r e) = Q (ix4 b (rowOf c r) h e) := fun r e => by
    unfold qOf
    rw [v2, merged_apply _ b h r e _ rfl, h0, part_apply]
  have hk : ∀ d r e, blocks m false d (ix3 ⟨b.val * 16 + h.val, hi⟩ r e) = K (ix4 b (rowOf d r) h e) := fun d r e => by
    show V m d main_v4 (ix3 ⟨b.val * 16 + h.val, hi⟩ r e) = _
    rw [v4, merged_apply _ b h r e _ rfl, h1, part_apply]
  have hv : ∀ d r e, blocks m true d (ix3 ⟨b.val * 16 + h.val, hi⟩ r e) = W (ix4 b (rowOf d r) h e) := fun d r e => by
    show V m d main_v6 (ix3 ⟨b.val * 16 + h.val, hi⟩ r e) = _
    rw [v6, merged_apply _ b h r e _ rfl, h2, part_apply]
  rw [v9, split_apply _ b h r e ⟨b.val * 16 + h.val, hi⟩ rfl, v7]
  unfold outOf
  rw [out_soft c (blocks m) (qOf m c) ⟨b.val * 16 + h.val, hi⟩ r e (fun n j => s (rowOf (back n c) j)) fun n j => by
    rw [← hs]
    unfold score Cert.ReferenceIdeal.Ring.scoreR
    simp only [hq, hk]]
  simp only [hv]
  rw [Cert.ReferenceIdeal.Ring.outR_soft Q K W b h (rowOf c r) e s hs]
  exact soft_bij _ (met_bij c) s fun u => W (ix4 b u h e)

/-- The result of the device is its part of the reference's. -/
theorem out_part (hQ : ∀ j, ∃ r : ℝ, Q j = r) (hK : ∀ j, ∃ r : ℝ, K j = r)
    (h0 : ∀ d : Dev nD, m ((d.tc : Thread nD τ).loc main_arg0) = part d Q) (h1 : ∀ d : Dev nD, m ((d.tc : Thread nD τ).loc main_arg1) = part d K)
    (h2 : ∀ d : Dev nD, m ((d.tc : Thread nD τ).loc main_arg2) = part d W) :
    V₃ m c main_v9 = part c (Cert.ReferenceIdeal.Ring.outR Q K W) := by
  funext j
  have e : j = ix4 (j 0) (j 1) (j 2) (j 3) := by
    funext a
    revert a
    rintro (a : Fin 4)
    fin_cases a <;> rfl
  rw [e]
  exact (out_ref m c Q K W hQ hK h0 h1 h2 _ _ _ _).trans (part_apply c _ _ _ _ _).symm

/-- An array whose parts are real is real. -/
theorem real_of_parts (x : Whole) (hx : ∀ (d : Dev nD) j, ∃ r : ℝ, part d x j = r) (j : Cert.ReferenceIdeal.S4x8192x16x64.Idx) : ∃ r : ℝ, x j = r := by
  have h1 : (j 1).val < 8192 := (j 1).isLt
  obtain ⟨r, hr⟩ := hx ⟨(j 1).val / 256, by show (j 1).val / 256 < 32; omega⟩ (ix4 (j 0) ⟨(j 1).val % 256, by omega⟩ (j 2) (j 3))
  refine ⟨r, Eq.trans ?_ ((part_apply _ x (j 0) _ (j 2) (j 3)).symm.trans hr)⟩
  refine congrArg x (funext fun a => Fin.ext ?_)
  revert a
  rintro (a : Fin 4)
  fin_cases a
  · rfl
  · show (j 1).val = (j 1).val / 256 * 256 + (j 1).val % 256
    omega
  · rfl
  · rfl

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Run
public import proofs.«01_k».proof.Proof.KernelIdeal.Answer
public import proofs.«01_k».proof.Proof.Kernel.Run
public import Idealize.ShloMosaic.Adequacy
public import Idealize.ShloMosaic.Init

@[expose] public section

noncomputable section

namespace Cert.Proof

open Idealize.ShloMosaic Idealize.SL.Sem

/-- The kernel on floating-point values: it runs, its arguments end unchanged, every counter ends at zero. -/
theorem frame_kernel : Cert.quiescent_Kernel := fun m g _ =>
  (θ_run Cert.Kernel.defs _ _).mono (fun _ h => ⟨fun c => (h.1 c).2, h.2⟩) (Cert.Kernel.Ring.run_main (F := Bits) m g)

/-- The kernel on extended reals. -/
theorem frame_kernelIdeal : Cert.quiescent_KernelIdeal := fun m g _ =>
  (θ_run Cert.KernelIdeal.defs _ _).mono (fun _ h => ⟨fun c => (h.1 c).2, h.2⟩) (Cert.KernelIdeal.Ring.run_main (F := Ideal) m g)

/-- The reference on extended reals; it has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The side conditions of the precondition's own operations. -/
theorem preFacts : Cert.Pre_finite_scores_KernelIdeal.Facts := ⟨by decide⟩
theorem preFactsRef : Cert.Pre_finite_scores_ReferenceIdeal.Facts := ⟨by decide⟩

/-- A number whose absolute value is below infinity is a real. -/
theorem real_of_lt (x : EReal) (h : max x (-x) < ⊤) : ∃ r : ℝ, x = r := by
  induction x using EReal.rec with
  | bot => exact absurd h (by simp)
  | coe r => exact ⟨r, rfl⟩
  | top => exact absurd h (by simp)

/-- What the precondition says of one array. -/
theorem real_of_test [Cert.Pre_finite_scores_KernelIdeal.Facts] (x : FVec Ideal Cert.Pre_finite_scores_KernelIdeal.S4x256x16x64 .f32)
    (h : cmpf .olt (Host.absf x) (broadcastInDim Cert.Pre_finite_scores_KernelIdeal.S4x256x16x64 ![]
      Cert.Pre_finite_scores_KernelIdeal.Facts.bcast_S_S4x256x16x64 (constant Cert.Pre_finite_scores_KernelIdeal.S_ .f32 0x7F800000#32)) = fun _ => 1#1)
    (j : Cert.Pre_finite_scores_KernelIdeal.S4x256x16x64.Idx) : ∃ r : ℝ, x j = r := by
  have e := congrFun h j
  have i : Ideal.ofBits .f32 0x7F800000#32 = ⊤ := by simp [Ideal.ofBits, Ideal.ieee]
  pointwise at e
  rw [i] at e
  exact real_of_lt _ (by
    by_contra hn
    rw [decide_eq_false (show ¬ FloatOps.absf (F := Ideal) (φ := .f32) (x j) < ⊤ from hn)] at e
    exact absurd e (by decide))

/-- Of finite queries and keys, each device's result is its part of the reference's. -/
theorem algebraic [hPre : Cert.Pre_finite_scores_KernelIdeal.Facts] : Cert.algebraic_KernelIdeal_ReferenceIdeal_pre_finite_scores_KernelIdeal := by
  intro m g m' g' hp hm
  have hQ := Cert.KernelIdeal.Ring.real_of_parts (m' (((0 : Dev Cert.ReferenceIdeal.nD).tc : Thread Cert.ReferenceIdeal.nD Cert.ReferenceIdeal.τ).loc Cert.ReferenceIdeal.main_arg0))
    fun d j => by
      obtain ⟨r, hr⟩ := real_of_test _ (hp d).1 j
      exact ⟨r, (congrFun (hm d).1 j).symm.trans hr⟩
  have hK := Cert.KernelIdeal.Ring.real_of_parts (m' (((0 : Dev Cert.ReferenceIdeal.nD).tc : Thread Cert.ReferenceIdeal.nD Cert.ReferenceIdeal.τ).loc Cert.ReferenceIdeal.main_arg1))
    fun d j => by
      obtain ⟨r, hr⟩ := real_of_test _ (hp d).2 j
      exact ⟨r, (congrFun (hm d).2.1 j).symm.trans hr⟩
  refine ⟨_, ?_, (θ_run Cert.ReferenceIdeal.defs _ _).mono (fun r h => h 0) (Cert.ReferenceIdeal.Ring.run_ref m' g')⟩
  refine (θ_run Cert.KernelIdeal.defs _ _).mono (fun r h c => ⟨?_, (h.1 c).2⟩) (Cert.KernelIdeal.Ring.run_main (F := Ideal) m g)
  exact (h.1 c).1.trans (Cert.KernelIdeal.Ring.out_part m c _ _ _ hQ hK (fun d => (hm d).1) (fun d => (hm d).2.1) fun d => (hm d).2.2)

theorem claim : Cert.Claim :=
  ⟨Cert.Kernel.Gen.facts, Cert.KernelIdeal.Gen.facts, Cert.ReferenceIdeal.Gen.facts, preFacts, preFactsRef, frame_kernel, frame_kernelIdeal,
    fun m g _ => frame_kernelIdeal m g trivial, frame_reference, fun m g _ => frame_reference m g trivial, trivial,
    algebraic (hPre := preFacts)⟩

end Cert.Proof

end
